-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_variance [hPre_positive_variance : Cert.Pre_positive_variance.Facts] (m : (ℓ : Loc Cert.KernelIdeal.nD Cert.KernelIdeal.τ Cert.KernelIdeal.sig) → Buf (Elt Ideal) ℓ) : Prop :=
  ∀ c : Dev Cert.KernelIdeal.nD,
    (Cert.Pre_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_variance [hPre_positive_variance : Cert.Pre_positive_variance.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_variance [hKernelIdeal : Cert.KernelIdeal.Facts] [hPre_positive_variance : Cert.Pre_positive_variance.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_variance m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_variance [hReferenceIdeal : Cert.ReferenceIdeal.Facts] [hPre_positive_variance : Cert.Pre_positive_variance.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_variance m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_positive_variance [hKernelIdeal : Cert.KernelIdeal.Facts] [hReferenceIdeal : Cert.ReferenceIdeal.Facts] [hPre_positive_variance : Cert.Pre_positive_variance.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_variance m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive_variance : Cert.Pre_positive_variance.Facts),
    quiescent_Kernel (hKernel := hKernel)
    ∧ quiescent_KernelIdeal (hKernelIdeal := hKernelIdeal)
    ∧ quiescent_KernelIdeal_pre_positive_variance (hKernelIdeal := hKernelIdeal) (hPre_positive_variance := hPre_positive_variance)
    ∧ quiescent_ReferenceIdeal (hReferenceIdeal := hReferenceIdeal)
    ∧ quiescent_ReferenceIdeal_pre_positive_variance (hReferenceIdeal := hReferenceIdeal) (hPre_positive_variance := hPre_positive_variance)
    ∧ preserves_Kernel_KernelIdeal
    ∧ algebraic_KernelIdeal_ReferenceIdeal_pre_positive_variance (hKernelIdeal := hKernelIdeal) (hReferenceIdeal := hReferenceIdeal) (hPre_positive_variance := hPre_positive_variance)
-- ==== Pre_positive_variance.lean ====
abbrev S8x64x256x256 : Shape := ⟨4, ![8, 64, 256, 256]⟩
abbrev S8x256 : Shape := ⟨2, ![8, 256]⟩
abbrev S1x64x1x1 : Shape := ⟨4, ![1, 64, 1, 1]⟩
abbrev S1x64x1 : Shape := ⟨3, ![1, 64, 1]⟩
abbrev S_ : Shape := ⟨0, ![]⟩
abbrev S8 : Shape := ⟨1, ![8]⟩
abbrev S8x1 : Shape := ⟨2, ![8, 1]⟩
abbrev S256x256 : Shape := ⟨2, ![256, 256]⟩
abbrev S8x64x256 : Shape := ⟨3, ![8, 64, 256]⟩
abbrev S8x1x256 : Shape := ⟨3, ![8, 1, 256]⟩
abbrev S8x64 : Shape := ⟨2, ![8, 64]⟩

class Facts : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S256x256_S8x64x256x256_2_3 : S256x256.BroadcastsInDim S8x64x256x256 (![2, 3] : Fin 2 → Fin S8x64x256x256.rank)
  bcast_S_S8x64x256x256 : S_.BroadcastsInDim S8x64x256x256 (![] : Fin 0 → Fin S8x64x256x256.rank)
  reducesTo_S8x64x256x256_S8x64x256_d2 : S8x64x256x256.ReducesTo [2] S8x64x256
  bcast_S8x256_S8x1x256_0_2 : S8x256.BroadcastsInDim S8x1x256 (![0, 2] : Fin 2 → Fin S8x1x256.rank)
  bcast_S8x1x256_S8x64x256_0_1_2 : S8x1x256.BroadcastsInDim S8x64x256 (![0, 1, 2] : Fin 3 → Fin S8x64x256.rank)
  reducesTo_S8x64x256_S8x64_d2 : S8x64x256.ReducesTo [2] S8x64
  transposes_S8x64x256x256_S8x64x256x256_0_1_3_2 : S8x64x256x256.Transposes [0, 1, 3, 2] S8x64x256x256
  reducesTo_S8x64x256x256_S8x64x256_d3 : S8x64x256x256.ReducesTo [3] S8x64x256
  bcast_S8x1_S8x64_0_1 : S8x1.BroadcastsInDim S8x64 (![0, 1] : Fin 2 → Fin S8x64.rank)
  reducesTo_S8x64_S8_d1 : S8x64.ReducesTo [1] S8
  bcast_S_S8 : S_.BroadcastsInDim S8 (![] : Fin 0 → Fin S8.rank)

variable [Facts]

def fn_clip {F : FTy → Type} [FloatOps F] (arg0 : FVec F S8x1 .f32) (arg1 : FVec F S_ .f32) : FVec F S8x1 .f32 :=
  let v0 : FVec F S_ .f32 := id arg1
  let v1 : FVec F S8x1 .f32 := broadcastInDim S8x1 ![] bcast_S_S8x1 v0
  let v2 : FVec F S8x1 .f32 := maximumf v1 arg0
  v2

def fn_part2 {F : FTy → Type} [FloatOps F] (main_v35 : FVec F S8 .f32) (main_cst_10 : FVec F S_ .f32) : IVec S8 1 :=
  let main_v36 : FVec F S8 .f32 := broadcastInDim S8 ![] bcast_S_S8 main_cst_10
  let main_v37 : IVec S8 1 := cmpf .ogt main_v35 main_v36
  main_v37

def fn_part1 {F : FTy → Type} [FloatOps F] (main_arg0 : FVec F S8x64x256x256 .f32) (main_v0 : FVec F S8x256 .f32) (main_v2 : FVec F S8x1 .f32) (main_v5 : FVec F S8x1 .f32) (main_v16 : FVec F S8x64 .f32) (main_v17 : FVec F S8x64x256x256 .f32) : IVec S8 1 :=
  let main_v18 : FVec F S8x64x256x256 .f32 := mulf main_arg0 main_v17
  let main_cst_5 : FVec F S_ .f32 := constant S_ .f32 0x00000000#32
  let main_v19 : FVec F S8x64x256 .f32 := (fun x v => Host.reduceAdd x v reducesTo_S8x64x256x256_S8x64x256_d3 h_S_) main_v18 main_cst_5
  let main_v20 : FVec F S8x1x256 .f32 := broadcastInDim S8x1x256 ![0, 2] bcast_S8x256_S8x1x256_0_2 main_v0
  let main_v21 : FVec F S8x64x256 .f32 := broadcastInDim S8x64x256 ![0, 1, 2] bcast_S8x1x256_S8x64x256_0_1_2 main_v20
  let main_v22 : FVec F S8x64x256 .f32 := mulf main_v19 main_v21
  let main_cst_6 : FVec F S_ .f32 := constant S_ .f32 0x00000000#32
  let main_v23 : FVec F S8x64 .f32 := (fun x v => Host.reduceAdd x v reducesTo_S8x64x256_S8x64_d2 h_S_) main_v22 main_cst_6
  let main_v24 : FVec F S8x64 .f32 := broadcastInDim S8x64 ![0, 1] bcast_S8x1_S8x64_0_1 main_v5
  let main_v25 : FVec F S8x64 .f32 := Host.divf main_v23 main_v24
  let main_v26 : FVec F S8x64 .f32 := mulf main_v16 main_v16
  let main_v27 : FVec F S8x1 .f32 := mulf main_v2 main_v5
  let main_v28 : FVec F S8x64 .f32 := broadcastInDim S8x64 ![0, 1] bcast_S8x1_S8x64_0_1 main_v27
  let main_v29 : FVec F S8x64 .f32 := Host.divf main_v26 main_v28
  let main_v30 : FVec F S8x64 .f32 := subf main_v25 main_v29
  let main_cst_7 : FVec F S_ .f32 := constant S_ .f32 0x00000000#32
  let main_v31 : FVec F S8 .f32 := (fun x v => Host.reduceAdd x v reducesTo_S8x64_S8_d1 h_S_) main_v30 main_cst_7
  let main_cst_8 : FVec F S_ .f32 := constant S_ .f32 0x42800000#32
  let main_v32 : FVec F S8 .f32 := broadcastInDim S8 ![] bcast_S_S8 main_cst_8
  let main_v33 : FVec F S8 .f32 := Host.divf main_v31 main_v32
  let main_cst_9 : FVec F S_ .f32 := constant S_ .f32 0x3089705F#32
  let main_v34 : FVec F S8 .f32 := broadcastInDim S8 ![] bcast_S_S8 main_cst_9
  let main_v35 : FVec F S8 .f32 := addf main_v33 main_v34
  let main_cst_10 : FVec F S_ .f32 := constant S_ .f32 0x00000000#32
  fn_part2 (F := F) main_v35 main_cst_10

def fn {F : FTy → Type} [FloatOps F] (main_arg0 : FVec F S8x64x256x256 .f32) (main_arg1 : FVec F S8x256 .f32) (main_arg2 : FVec F S1x64x1x1 .f32) (main_arg3 : FVec F S1x64x1x1 .f32) (main_arg4 : FVec F S1x64x1x1 .f32) (main_arg5 : FVec F S1x64x1 .f32) : IVec S8 1 :=
  let main_v0 : FVec F S8x256 .f32 := mulf main_arg1 main_arg1
  let main_cst : FVec F S_ .f32 := constant S_ .f32 0x00000000#32
  let main_v1 : FVec F S8 .f32 := (fun x v => Host.reduceAdd x v reducesTo_S8x256_S8_d1 h_S_) main_v0 main_cst
  let main_v2 : FVec F S8x1 .f32 := broadcastInDim S8x1 ![0] bcast_S8_S8x1_0 main_v1
  let main_cst_0 : FVec F S_ .f32 := constant S_ .f32 0x3F800000#32
  let main_v3 : FVec F S8x1 .f32 := broadcastInDim S8x1 ![] bcast_S_S8x1 main_cst_0
  let main_v4 : FVec F S8x1 .f32 := subf main_v2 main_v3
  let main_cst_1 : FVec F S_ .f32 := constant S_ .f32 0x3F800000#32
  let main_v5 : FVec F S8x1 .f32 := fn_clip (F := F) main_v4 main_cst_1
  let main_v6 : IVec S256x256 32 := iotaInDim S256x256 32 0
  let main_v7 : IVec S256x256 32 := iotaInDim S256x256 32 1
  let main_v8 : IVec S256x256 1 := cmpi .eq main_v6 main_v7
  let main_v9 : IVec S8x64x256x256 1 := broadcastInDim S8x64x256x256 ![2, 3] bcast_S256x256_S8x64x256x256_2_3 main_v8
  let main_cst_2 : FVec F S_ .f32 := constant S_ .f32 0x00000000#32
  let main_v10 : FVec F S8x64x256x256 .f32 := broadcastInDim S8x64x256x256 ![] bcast_S_S8x64x256x256 main_cst_2
  let main_v11 : FVec F S8x64x256x256 .f32 := select main_v9 main_arg0 main_v10
  let main_cst_3 : FVec F S_ .f32 := constant S_ .f32 0x00000000#32
  let main_v12 : FVec F S8x64x256 .f32 := (fun x v => Host.reduceAdd x v reducesTo_S8x64x256x256_S8x64x256_d2 h_S_) main_v11 main_cst_3
  let main_v13 : FVec F S8x1x256 .f32 := broadcastInDim S8x1x256 ![0, 2] bcast_S8x256_S8x1x256_0_2 main_v0
  let main_v14 : FVec F S8x64x256 .f32 := broadcastInDim S8x64x256 ![0, 1, 2] bcast_S8x1x256_S8x64x256_0_1_2 main_v13
  let main_v15 : FVec F S8x64x256 .f32 := mulf main_v12 main_v14
  let main_cst_4 : FVec F S_ .f32 := constant S_ .f32 0x00000000#32
  let main_v16 : FVec F S8x64 .f32 := (fun x v => Host.reduceAdd x v reducesTo_S8x64x256_S8x64_d2 h_S_) main_v15 main_cst_4
  let main_v17 : FVec F S8x64x256x256 .f32 := (transpose S8x64x256x256 [0, 1, 3, 2] · transposes_S8x64x256x256_S8x64x256x256_0_1_3_2) main_arg0
  fn_part1 (F := F) main_arg0 main_v0 main_v2 main_v5 main_v16 main_v17
-- ==== Kernel.lean ====
abbrev S8x64x256x256 : Shape := ⟨4, ![8, 64, 256, 256]⟩
abbrev S8x256 : Shape := ⟨2, ![8, 256]⟩
abbrev S1x64x1x1 : Shape := ⟨4, ![1, 64, 1, 1]⟩
abbrev S1x64x1 : Shape := ⟨3, ![1, 64, 1]⟩
abbrev S8x1x256 : Shape := ⟨3, ![8, 1, 256]⟩
abbrev S1x64 : Shape := ⟨2, ![1, 64]⟩
abbrev S1x1x256 : Shape := ⟨3, ![1, 1, 256]⟩
abbrev S2x64x256x256 : Shape := ⟨4, ![2, 64, 256, 256]⟩
abbrev S2x32x256x256 : Shape := ⟨4, ![2, 32, 256, 256]⟩
abbrev S2x2 : Shape := ⟨2, ![2, 2]⟩
abbrev S2 : Shape := ⟨1, ![2]⟩
abbrev S1x1 : Shape := ⟨2, ![1, 1]⟩
abbrev S_ : Shape := ⟨0, ![]⟩
abbrev S1x32x256x256 : Shape := ⟨4, ![1, 32, 256, 256]⟩
abbrev S32x256x256 : Shape := ⟨3, ![32, 256, 256]⟩
abbrev S1x256 : Shape := ⟨2, ![1, 256]⟩
abbrev S256x256 : Shape := ⟨2, ![256, 256]⟩
abbrev S128x128 : Shape := ⟨2, ![128, 128]⟩
abbrev S1x1x256x256 : Shape := ⟨4, ![1, 1, 256, 256]⟩
abbrev S1x128x128 : Shape := ⟨3, ![1, 128, 128]⟩
abbrev S1 : Shape := ⟨1, ![1]⟩
abbrev S1x1x1 : Shape := ⟨3, ![1, 1, 1]⟩
abbrev S1x256x256 : Shape := ⟨3, ![1, 256, 256]⟩
abbrev S256x1 : Shape := ⟨2, ![256, 1]⟩
abbrev S1x1x64 : Shape := ⟨3, ![1, 1, 64]⟩
abbrev S1x1x128x128 : Shape := ⟨4, ![1, 1, 128, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x64x256x256, .f32⟩
  | .hbm, ⟨1, _⟩ => ⟨S8x256, .f32⟩
  | .hbm, ⟨2, _⟩ => ⟨S1x64x1x1, .f32⟩
  | .hbm, ⟨3, _⟩ => ⟨S1x64x1x1, .f32⟩
  | .hbm, ⟨4, _⟩ => ⟨S1x64x1x1, .f32⟩
  | .hbm, ⟨5, _⟩ => ⟨S1x64x1, .f32⟩
  | .hbm, ⟨6, _⟩ => ⟨S8x1x256, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S8x64x256x256, .f32⟩
  | .local _ .vmem, ⟨0, _⟩ => ⟨S1x1x256, .f32⟩
  | .local _ .vmem, ⟨1, _⟩ => ⟨S1x1x256, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S2x64x256x256, .f32⟩
  | .local _ .vmem, ⟨7, _⟩ => ⟨S2x32x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg1 : BitVec 32 := BitVec.ofNat 32 (i 1).val
  let c2_i32 : BitVec 32 := 2#32
  let v2 : BitVec 32 := Scalar.remsi arg1 c2_i32
  let c0_i32_2691 : BitVec 32 := 0#32
  ![v2.toNat, 0]
def k0_off2 (i : grid0.Coords) : Fin 4 → Nat :=
  let arg1 : BitVec 32 := BitVec.ofNat 32 (i 1).val
  let c2_i32 : BitVec 32 := 2#32
  let v2 : BitVec 32 := Scalar.remsi arg1 c2_i32
  let c0_i32_2692 : BitVec 32 := 0#32
  let c0_i32_2693 : BitVec 32 := 0#32
  let c0_i32_2694 : BitVec 32 := 0#32
  ![v2.toNat, 0, 0, 0]
def k0_off3 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_2695 : BitVec 32 := 0#32
  let c0_i32_2696 : BitVec 32 := 0#32
  let c0_i32_2697 : BitVec 32 := 0#32
  ![v1.toNat, 0, 0, 0]
def k0_off4 (i : grid0.Coords) : Fin 2 → Nat :=
  let arg1 : BitVec 32 := BitVec.ofNat 32 (i 1).val
  let c2_i32 : BitVec 32 := 2#32
  let v2 : BitVec 32 := Scalar.remsi arg1 c2_i32
  let c1_i32_2698 : BitVec 32 := 1#32
  ![v2.toNat, 1]
def k0_off5 (i : grid0.Coords) : Fin 4 → Nat :=
  let arg1 : BitVec 32 := BitVec.ofNat 32 (i 1).val
  let c2_i32 : BitVec 32 := 2#32
  let v2 : BitVec 32 := Scalar.remsi arg1 c2_i32
  let c32_i32_2699 : BitVec 32 := 32#32
  let c0_i32_2700 : BitVec 32 := 0#32
  let c0_i32_2701 : BitVec 32 := 0#32
  ![v2.toNat, 32, 0, 0]
def k0_off6 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32_2702 : BitVec 32 := 32#32
  let c0_i32_2703 : BitVec 32 := 0#32
  let c0_i32_2704 : BitVec 32 := 0#32
  ![v1.toNat, 32, 0, 0]
def k0_cond2 (i : grid0.Coords) : BitVec 1 :=
  let arg1 : BitVec 32 := BitVec.ofNat 32 (i 1).val
  let c1_i32_2 : BitVec 32 := 1#32
  let v8 : BitVec 32 := Scalar.addi arg1 c1_i32_2
  let c4_i32_3 : BitVec 32 := 4#32
  let v9 : BitVec 1 := Scalar.cmpi .slt v8 c4_i32_3
  let v10 : BitVec 32 := Scalar.extui v9
  let c0_i32_4 : BitVec 32 := 0#32
  let v11 : BitVec 1 := Scalar.cmpi .ne v10 c0_i32_4
  v11

def k0_off7 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_2692 : BitVec 32 := 0#32
  ![v4.toNat, 0]
def k0_off8 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_2693 : BitVec 32 := 0#32
  let c0_i32_2694 : BitVec 32 := 0#32
  let c0_i32_2695 : BitVec 32 := 0#32
  ![v4.toNat, 0, 0, 0]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_2691 : BitVec 32 := 1#32
  let v5943 : BitVec 32 := Scalar.addi v1 c1_i32_2691
  let c0_i32_2696 : BitVec 32 := 0#32
  let c0_i32_2697 : BitVec 32 := 0#32
  let c0_i32_2698 : BitVec 32 := 0#32
  ![v5943.toNat, 0, 0, 0]
def k0_off10 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c1_i32_2700 : BitVec 32 := 1#32
  ![v4.toNat, 1]
def k0_off11 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c32_i32_2701 : BitVec 32 := 32#32
  let c0_i32_2702 : BitVec 32 := 0#32
  let c0_i32_2703 : BitVec 32 := 0#32
  ![v4.toNat, 32, 0, 0]
def k0_off12 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_2699 : BitVec 32 := 1#32
  let v5950 : BitVec 32 := Scalar.addi v1 c1_i32_2699
  let c32_i32_2704 : BitVec 32 := 32#32
  let c0_i32_2705 : BitVec 32 := 0#32
  let c0_i32_2706 : BitVec 32 := 0#32
  ![v5950.toNat, 32, 0, 0]
def k0_off13 (i : grid0.Coords) : Fin 2 → Nat :=
  let arg1 : BitVec 32 := BitVec.ofNat 32 (i 1).val
  let c2_i32 : BitVec 32 := 2#32
  let v2 : BitVec 32 := Scalar.remsi arg1 c2_i32
  let c0_i32_9 : BitVec 32 := 0#32
  ![v2.toNat, 0]
def k0_off14 (i : grid0.Coords) : Fin 4 → Nat :=
  let arg1 : BitVec 32 := BitVec.ofNat 32 (i 1).val
  let c2_i32 : BitVec 32 := 2#32
  let v2 : BitVec 32 := Scalar.remsi arg1 c2_i32
  let c0_i32_10 : BitVec 32 := 0#32
  let c0_i32_11 : BitVec 32 := 0#32
  let c0_i32_12 : BitVec 32 := 0#32
  ![v2.toNat, 0, 0, 0]
def k0_off15 (i : grid0.Coords) : Fin 4 → Nat :=
  let arg1 : BitVec 32 := BitVec.ofNat 32 (i 1).val
  let c2_i32 : BitVec 32 := 2#32
  let v2 : BitVec 32 := Scalar.remsi arg1 c2_i32
  let v32 : Index := Scalar.indexCast v2
  let c0_16 : Index := 0#32
  let c0_17 : Index := 0#32
  let c0_18 : Index := 0#32
  ![v32.toNat, 0, 0, 0]
def k0_off16 (i : grid0.Coords) : Fin 4 → Nat :=
  let arg1 : BitVec 32 := BitVec.ofNat 32 (i 1).val
  let c2_i32 : BitVec 32 := 2#32
  let v2 : BitVec 32 := Scalar.remsi arg1 c2_i32
  let v63 : Index := Scalar.indexCast v2
  let c1 : Index := 1#32
  let c0_25 : Index := 0#32
  let c0_26 : Index := 0#32
  ![v63.toNat, 1, 0, 0]
def k0_off17 (i : grid0.Coords) : Fin 4 → Nat :=
  let arg1 : BitVec 32 := BitVec.ofNat 32 (i 1).val
  let c2_i32 : BitVec 32 := 2#32
  let v2 : BitVec 32 := Scalar.remsi arg1 c2_i32
  let v94 : Index := Scalar.indexCast v2
  let c2 : Index := 2#32
  let c0_32 : Index := 0#32
  let c0_33 : Index := 0#32
  ![v94.toNat, 2, 0, 0]
def k0_off18 (i : grid0.Coords) : Fin 4 → Nat :=
  let arg1 : BitVec 32 := BitVec.ofNat 32 (i 1).val
  let c2_i32 : BitVec 32 := 2#32
  let v2 : BitVec 32 := Scalar.remsi arg1 c2_i32
  let v125 : Index := Scalar.indexCast v2
  let c3 : Index := 3#32
  let c0_39 : Index := 0#32
  let c0_40 : Index := 0#32
  ![v125.toNat, 3, 0, 0]
def k0_off19 (i : grid0.Coords) : Fin 4 → Nat :=
  let arg1 : BitVec 32 := BitVec.ofNat 32 (i 1).val
  let c2_i32 : BitVec 32 := 2#32
  let v2 : BitVec 32 := Scalar.remsi arg1 c2_i32
  let v156 : Index := Scalar.indexCast v2
  let c4 : Index := 4#32
  let c0_45 : Index := 0#32
  let c0_46 : Index := 0#32
  ![v156.toNat, 4, 0, 0]
def k0_off20 (i : grid0.Coords) : Fin 4 → Nat :=
  let arg1 : BitVec 32 := BitVec.ofNat 32 (i 1).val
  let c2_i32 : BitVec 32 := 2#32
  let v2 : BitVec 32 := Scalar.remsi arg1 c2_i32
  let v187 : Index := Scalar.indexCast v2
  let c5 : Index := 5#32
  let c0_52 : Index := 0#32
  let c0_53 : Index := 0#32
  ![v187.toNat, 5, 0, 0]
def k0_off21 (i : grid0.Coords) : Fin 4 → Nat :=
  let arg1 : BitVec 32 := BitVec.ofNat 32 (i 1).val
  let c2_i32 : BitVec 32 := 2#32
  let v2 : BitVec 32 := Scalar.remsi arg1 c2_i32
  let v218 : Index := Scalar.indexCast v2
  let c6 : Index := 6#32
  let c0_58 : Index := 0#32
  let c0_59 : Index := 0#32
  ![v218.toNat, 6, 0, 0]
def k0_off22 (i : grid0.Coords) : Fin 4 → Nat :=
  let arg1 : BitVec 32 := BitVec.ofNat 32 (i 1).val
  let c2_i32 : BitVec 32 := 2#32
  let v2 : BitVec 32 := Scalar.remsi arg1 c2_i32
  let v249 : Index := Scalar.indexCast v2
  let c7 : Index := 7#32
  let c0_64 : Index := 0#32
  let c0_65 : Index := 0#32
  ![v249.toNat, 7, 0, 0]
def k0_off23 (i : grid0.Coords) : Fin 4 → Nat :=
  let arg1 : BitVec 32 := BitVec.ofNat 32 (i 1).val
  let c2_i32 : BitVec 32 := 2#32
  let v2 : BitVec 32 := Scalar.remsi arg1 c2_i32
  let v280 : Index := Scalar.indexCast v2
  let c8 : Index := 8#32
  let c0_70 : Index := 0#32
  let c0_71 : Index := 0#32
  ![v280.toNat, 8, 0, 0]
def k0_off24 (i : grid0.Coords) : Fin 4 → Nat :=
  let arg1 : BitVec 32 := BitVec.ofNat 32 (i 1).val
  let c2_i32 : BitVec 32 := 2#32
  let v2 : BitVec 32 := Scalar.remsi arg1 c2_i32
  let v311 : Index := Scalar.indexCast v2
  let c9 : Index := 9#32
  let c0_76 : Index := 0#32
  let c0_77 : Index := 0#32
  ![v311.toNat, 9, 0, 0]
def k0_off25 (i : grid0.Coords) : Fin 4 → Nat :=
  let arg1 : BitVec 32 := BitVec.ofNat 32 (i 1).val
  let c2_i32 : BitVec 32 := 2#32
  let v2 : BitVec 32 := Scalar.remsi arg1 c2_i32
  let v342 : Index := Scalar.indexCast v2
  let c10 : Index := 10#32
  let c0_82 : Index := 0#32
  let c0_83 : Index := 0#32
  ![v342.toNat, 10, 0, 0]
def k0_off26 (i : grid0.Coords) : Fin 4 → Nat :=
  let arg1 : BitVec 32 := BitVec.ofNat 32 (i 1).val
  let c2_i32 : BitVec 32 := 2#32
  let v2 : BitVec 32 := Scalar.remsi arg1 c2_i32
  let v373 : Index := Scalar.indexCast v2
  let c11 : Index := 11#32
  let c0_88 : Index := 0#32
  let c0_89 : Index := 0#32
  ![v373.toNat, 11, 0, 0]
def k0_off27 (i : grid0.Coords) : Fin 4 → Nat :=
  let arg1 : BitVec 32 := BitVec.ofNat 32 (i 1).val
  let c2_i32 : BitVec 32 := 2#32
  let v2 : BitVec 32 := Scalar.remsi arg1 c2_i32
  let v404 : Index := Scalar.indexCast v2
  let c12 : Index := 12#32
  let c0_94 : Index := 0#32
  let c0_95 : Index := 0#32
  ![v404.toNat, 12, 0, 0]
def k0_off28 (i : grid0.Coords) : Fin 4 → Nat :=
  let arg1 : BitVec 32 := BitVec.ofNat 32 (i 1).val
  let c2_i32 : BitVec 32 := 2#32
  let v2 : BitVec 32 := Scalar.remsi arg1 c2_i32
  let v435 : Index := Scalar.indexCast v2
  let c13 : Index := 13#32
  let c0_100 : Index := 0#32
  let c0_101 : Index := 0#32
  ![v435.toNat, 13, 0, 0]
def k0_off29 (i : grid0.Coords) : Fin 4 → Nat :=
  let arg1 : BitVec 32 := BitVec.ofNat 32 (i 1).val
  let c2_i32 : BitVec 32 := 2#32
  let v2 : BitVec 32 := Scalar.remsi arg1 c2_i32
  let v466 : Index := Scalar.indexCast v2
  let c14 : Index := 14#32
  let c0_106 : Index := 0#32
  let c0_107 : Index := 0#32
  ![v466.toNat, 14, 0, 0]
def k0_off30 (i : grid0.Coords) : Fin 4 → Nat :=
  let arg1 : BitVec 32 := BitVec.ofNat 32 (i 1).val
  let c2_i32 : BitVec 32 := 2#32
  let v2 : BitVec 32 := Scalar.remsi arg1 c2_i32
  let v497 : Index := Scalar.indexCast v2
  let c15 : Index := 15#32
  let c0_112 : Index := 0#32
  let c0_113 : Index := 0#32
  ![v497.toNat, 15, 0, 0]
def k0_off31 (i : grid0.Coords) : Fin 4 → Nat :=
  let arg1 : BitVec 32 := BitVec.ofNat 32 (i 1).val
  let c2_i32 : BitVec 32 := 2#32
  let v2 : BitVec 32 := Scalar.remsi arg1 c2_i32
  let v528 : Index := Scalar.indexCast v2
  let c16 : Index := 16#32
  let c0_118 : Index := 0#32
  let c0_119 : Index := 0#32
  ![v528.toNat, 16, 0, 0]
def k0_off32 (i : grid0.Coords) : Fin 4 → Nat :=
  let arg1 : BitVec 32 := BitVec.ofNat 32 (i 1).val
  let c2_i32 : BitVec 32 := 2#32
  let v2 : BitVec 32 := Scalar.remsi arg1 c2_i32
  let v559 : Index := Scalar.indexCast v2
  let c17 : Index := 17#32
  let c0_124 : Index := 0#32
  let c0_125 : Index := 0#32
  ![v559.toNat, 17, 0, 0]
def k0_off33 (i : grid0.Coords) : Fin 4 → Nat :=
  let arg1 : BitVec 32 := BitVec.ofNat 32 (i 1).val
  let c2_i32 : BitVec 32 := 2#32
  let v2 : BitVec 32 := Scalar.remsi arg1 c2_i32
  let v590 : Index := Scalar.indexCast v2
  let c18 : Index := 18#32
  let c0_130 : Index := 0#32
  let c0_131 : Index := 0#32
  ![v590.toNat, 18, 0, 0]
def k0_off34 (i : grid0.Coords) : Fin 4 → Nat :=
  let arg1 : BitVec 32 := BitVec.ofNat 32 (i 1).val
  let c2_i32 : BitVec 32 := 2#32
  let v2 : BitVec 32 := Scalar.remsi arg1 c2_i32
  let v621 : Index := Scalar.indexCast v2
  let c19 : Index := 19#32
  let c0_136 : Index := 0#32
  let c0_137 : Index := 0#32
  ![v621.toNat, 19, 0, 0]
def k0_off35 (i : grid0.Coords) : Fin 4 → Nat :=
  let arg1 : BitVec 32 := BitVec.ofNat 32 (i 1).val
  let c2_i32 : BitVec 32 := 2#32
  let v2 : BitVec 32 := Scalar.remsi arg1 c2_i32
  let v652 : Index := Scalar.indexCast v2
  let c20 : Index := 20#32
  let c0_142 : Index := 0#32
  let c0_143 : Index := 0#32
  ![v652.toNat, 20, 0, 0]
def k0_off36 (i : grid0.Coords) : Fin 4 → Nat :=
  let arg1 : BitVec 32 := BitVec.ofNat 32 (i 1).val
  let c2_i32 : BitVec 32 := 2#32
  let v2 : BitVec 32 := Scalar.remsi arg1 c2_i32
  let v683 : Index := Scalar.indexCast v2
  let c21 : Index := 21#32
  let c0_148 : Index := 0#32
  let c0_149 : Index := 0#32
  ![v683.toNat, 21, 0, 0]
def k0_off37 (i : grid0.Coords) : Fin 4 → Nat :=
  let arg1 : BitVec 32 := BitVec.ofNat 32 (i 1).val
  let c2_i32 : BitVec 32 := 2#32
  let v2 : BitVec 32 := Scalar.remsi arg1 c2_i32
  let v714 : Index := Scalar.indexCast v2
  let c22 : Index := 22#32
  let c0_154 : Index := 0#32
  let c0_155 : Index := 0#32
  ![v714.toNat, 22, 0, 0]
def k0_off38 (i : grid0.Coords) : Fin 4 → Nat :=
  let arg1 : BitVec 32 := BitVec.ofNat 32 (i 1).val
  let c2_i32 : BitVec 32 := 2#32
  let v2 : BitVec 32 := Scalar.remsi arg1 c2_i32
  let v745 : Index := Scalar.indexCast v2
  let c23 : Index := 23#32
  let c0_160 : Index := 0#32
  let c0_161 : Index := 0#32
  ![v745.toNat, 23, 0, 0]
def k0_off39 (i : grid0.Coords) : Fin 4 → Nat :=
  let arg1 : BitVec 32 := BitVec.ofNat 32 (i 1).val
  let c2_i32 : BitVec 32 := 2#32
  let v2 : BitVec 32 := Scalar.remsi arg1 c2_i32
  let v776 : Index := Scalar.indexCast v2
  let c24 : Index := 24#32
  let c0_166 : Index := 0#32
  let c0_167 : Index := 0#32
  ![v776.toNat, 24, 0, 0]
def k0_off40 (i : grid0.Coords) : Fin 4 → Nat :=
  let arg1 : BitVec 32 := BitVec.ofNat 32 (i 1).val
  let c2_i32 : BitVec 32 := 2#32
  let v2 : BitVec 32 := Scalar.remsi arg1 c2_i32
  let v807 : Index := Scalar.indexCast v2
  let c25 : Index := 25#32
  let c0_172 : Index := 0#32
  let c0_173 : Index := 0#32
  ![v807.toNat, 25, 0, 0]
def k0_off41 (i : grid0.Coords) : Fin 4 → Nat :=
  let arg1 : BitVec 32 := BitVec.ofNat 32 (i 1).val
  let c2_i32 : BitVec 32 := 2#32
  let v2 : BitVec 32 := Scalar.remsi arg1 c2_i32
  let v838 : Index := Scalar.indexCast v2
  let c26 : Index := 26#32
  let c0_178 : Index := 0#32
  let c0_179 : Index := 0#32
  ![v838.toNat, 26, 0, 0]
def k0_off42 (i : grid0.Coords) : Fin 4 → Nat :=
  let arg1 : BitVec 32 := BitVec.ofNat 32 (i 1).val
  let c2_i32 : BitVec 32 := 2#32
  let v2 : BitVec 32 := Scalar.remsi arg1 c2_i32
  let v869 : Index := Scalar.indexCast v2
  let c27 : Index := 27#32
  let c0_184 : Index := 0#32
  let c0_185 : Index := 0#32
  ![v869.toNat, 27, 0, 0]
def k0_off43 (i : grid0.Coords) : Fin 4 → Nat :=
  let arg1 : BitVec 32 := BitVec.ofNat 32 (i 1).val
  let c2_i32 : BitVec 32 := 2#32
  let v2 : BitVec 32 := Scalar.remsi arg1 c2_i32
  let v900 : Index := Scalar.indexCast v2
  let c28 : Index := 28#32
  let c0_190 : Index := 0#32
  let c0_191 : Index := 0#32
  ![v900.toNat, 28, 0, 0]
def k0_off44 (i : grid0.Coords) : Fin 4 → Nat :=
  let arg1 : BitVec 32 := BitVec.ofNat 32 (i 1).val
  let c2_i32 : BitVec 32 := 2#32
  let v2 : BitVec 32 := Scalar.remsi arg1 c2_i32
  let v931 : Index := Scalar.indexCast v2
  let c29 : Index := 29#32
  let c0_196 : Index := 0#32
  let c0_197 : Index := 0#32
  ![v931.toNat, 29, 0, 0]
def k0_off45 (i : grid0.Coords) : Fin 4 → Nat :=
  let arg1 : BitVec 32 := BitVec.ofNat 32 (i 1).val
  let c2_i32 : BitVec 32 := 2#32
  let v2 : BitVec 32 := Scalar.remsi arg1 c2_i32
  let v962 : Index := Scalar.indexCast v2
  let c30 : Index := 30#32
  let c0_202 : Index := 0#32
  let c0_203 : Index := 0#32
  ![v962.toNat, 30, 0, 0]
def k0_off46 (i : grid0.Coords) : Fin 4 → Nat :=
  let arg1 : BitVec 32 := BitVec.ofNat 32 (i 1).val
  let c2_i32 : BitVec 32 := 2#32
  let v2 : BitVec 32 := Scalar.remsi arg1 c2_i32
  let v993 : Index := Scalar.indexCast v2
  let c31 : Index := 31#32
  let c0_208 : Index := 0#32
  let c0_209 : Index := 0#32
  ![v993.toNat, 31, 0, 0]
def k0_off47 (i : grid0.Coords) : Fin 2 → Nat :=
  let arg1 : BitVec 32 := BitVec.ofNat 32 (i 1).val
  let c2_i32 : BitVec 32 := 2#32
  let v2 : BitVec 32 := Scalar.remsi arg1 c2_i32
  let c1_i32_215 : BitVec 32 := 1#32
  ![v2.toNat, 1]
def k0_off48 (i : grid0.Coords) : Fin 4 → Nat :=
  let arg1 : BitVec 32 := BitVec.ofNat 32 (i 1).val
  let c2_i32 : BitVec 32 := 2#32
  let v2 : BitVec 32 := Scalar.remsi arg1 c2_i32
  let v1030 : Index := Scalar.indexCast v2
  let c32 : Index := 32#32
  let c0_222 : Index := 0#32
  let c0_223 : Index := 0#32
  ![v1030.toNat, 32, 0, 0]
def k0_off49 (i : grid0.Coords) : Fin 4 → Nat :=
  let arg1 : BitVec 32 := BitVec.ofNat 32 (i 1).val
  let c2_i32 : BitVec 32 := 2#32
  let v2 : BitVec 32 := Scalar.remsi arg1 c2_i32
  let v1061 : Index := Scalar.indexCast v2
  let c33 : Index := 33#32
  let c0_228 : Index := 0#32
  let c0_229 : Index := 0#32
  ![v1061.toNat, 33, 0, 0]
def k0_off50 (i : grid0.Coords) : Fin 4 → Nat :=
  let arg1 : BitVec 32 := BitVec.ofNat 32 (i 1).val
  let c2_i32 : BitVec 32 := 2#32
  let v2 : BitVec 32 := Scalar.remsi arg1 c2_i32
  let v1092 : Index := Scalar.indexCast v2
  let c34 : Index := 34#32
  let c0_234 : Index := 0#32
  let c0_235 : Index := 0#32
  ![v1092.toNat, 34, 0, 0]
def k0_off51 (i : grid0.Coords) : Fin 4 → Nat :=
  let arg1 : BitVec 32 := BitVec.ofNat 32 (i 1).val
  let c2_i32 : BitVec 32 := 2#32
  let v2 : BitVec 32 := Scalar.remsi arg1 c2_i32
  let v1123 : Index := Scalar.indexCast v2
  let c35 : Index := 35#32
  let c0_240 : Index := 0#32
  let c0_241 : Index := 0#32
  ![v1123.toNat, 35, 0, 0]
def k0_off52 (i : grid0.Coords) : Fin 4 → Nat :=
  let arg1 : BitVec 32 := BitVec.ofNat 32 (i 1).val
  let c2_i32 : BitVec 32 := 2#32
  let v2 : BitVec 32 := Scalar.remsi arg1 c2_i32
  let v1154 : Index := Scalar.indexCast v2
  let c36 : Index := 36#32
  let c0_246 : Index := 0#32
  let c0_247 : Index := 0#32
  ![v1154.toNat, 36, 0, 0]
def k0_off53 (i : grid0.Coords) : Fin 4 → Nat :=
  let arg1 : BitVec 32 := BitVec.ofNat 32 (i 1).val
  let c2_i32 : BitVec 32 := 2#32
  let v2 : BitVec 32 := Scalar.remsi arg1 c2_i32
  let v1185 : Index := Scalar.indexCast v2
  let c37 : Index := 37#32
  let c0_252 : Index := 0#32
  let c0_253 : Index := 0#32
  ![v1185.toNat, 37, 0, 0]
def k0_off54 (i : grid0.Coords) : Fin 4 → Nat :=
  let arg1 : BitVec 32 := BitVec.ofNat 32 (i 1).val
  let c2_i32 : BitVec 32 := 2#32
  let v2 : BitVec 32 := Scalar.remsi arg1 c2_i32
  let v1216 : Index := Scalar.indexCast v2
  let c38 : Index := 38#32
  let c0_258 : Index := 0#32
  let c0_259 : Index := 0#32
  ![v1216.toNat, 38, 0, 0]
def k0_off55 (i : grid0.Coords) : Fin 4 → Nat :=
  let arg1 : BitVec 32 := BitVec.ofNat 32 (i 1).val
  let c2_i32 : BitVec 32 := 2#32
  let v2 : BitVec 32 := Scalar.remsi arg1 c2_i32
  let v1247 : Index := Scalar.indexCast v2
  let c39 : Index := 39#32
  let c0_264 : Index := 0#32
  let c0_265 : Index := 0#32
  ![v1247.toNat, 39, 0, 0]
def k0_off56 (i : grid0.Coords) : Fin 4 → Nat :=
  let arg1 : BitVec 32 := BitVec.ofNat 32 (i 1).val
  let c2_i32 : BitVec 32 := 2#32
  let v2 : BitVec 32 := Scalar.remsi arg1 c2_i32
  let v1278 : Index := Scalar.indexCast v2
  let c40 : Index := 40#32
  let c0_270 : Index := 0#32
  let c0_271 : Index := 0#32
  ![v1278.toNat, 40, 0, 0]
def k0_off57 (i : grid0.Coords) : Fin 4 → Nat :=
  let arg1 : BitVec 32 := BitVec.ofNat 32 (i 1).val
  let c2_i32 : BitVec 32 := 2#32
  let v2 : BitVec 32 := Scalar.remsi arg1 c2_i32
  let v1309 : Index := Scalar.indexCast v2
  let c41 : Index := 41#32
  let c0_276 : Index := 0#32
  let c0_277 : Index := 0#32
  ![v1309.toNat, 41, 0, 0]
def k0_off58 (i : grid0.Coords) : Fin 4 → Nat :=
  let arg1 : BitVec 32 := BitVec.ofNat 32 (i 1).val
  let c2_i32 : BitVec 32 := 2#32
  let v2 : BitVec 32 := Scalar.remsi arg1 c2_i32
  let v1340 : Index := Scalar.indexCast v2
  let c42 : Index := 42#32
  let c0_282 : Index := 0#32
  let c0_283 : Index := 0#32
  ![v1340.toNat, 42, 0, 0]
def k0_off59 (i : grid0.Coords) : Fin 4 → Nat :=
  let arg1 : BitVec 32 := BitVec.ofNat 32 (i 1).val
  let c2_i32 : BitVec 32 := 2#32
  let v2 : BitVec 32 := Scalar.remsi arg1 c2_i32
  let v1371 : Index := Scalar.indexCast v2
  let c43 : Index := 43#32
  let c0_288 : Index := 0#32
  let c0_289 : Index := 0#32
  ![v1371.toNat, 43, 0, 0]
def k0_off60 (i : grid0.Coords) : Fin 4 → Nat :=
  let arg1 : BitVec 32 := BitVec.ofNat 32 (i 1).val
  let c2_i32 : BitVec 32 := 2#32
  let v2 : BitVec 32 := Scalar.remsi arg1 c2_i32
  let v1402 : Index := Scalar.indexCast v2
  let c44 : Index := 44#32
  let c0_294 : Index := 0#32
  let c0_295 : Index := 0#32
  ![v1402.toNat, 44, 0, 0]
def k0_off61 (i : grid0.Coords) : Fin 4 → Nat :=
  let arg1 : BitVec 32 := BitVec.ofNat 32 (i 1).val
  let c2_i32 : BitVec 32 := 2#32
  let v2 : BitVec 32 := Scalar.remsi arg1 c2_i32
  let v1433 : Index := Scalar.indexCast v2
  let c45 : Index := 45#32
  let c0_300 : Index := 0#32
  let c0_301 : Index := 0#32
  ![v1433.toNat, 45, 0, 0]
def k0_off62 (i : grid0.Coords) : Fin 4 → Nat :=
  let arg1 : BitVec 32 := BitVec.ofNat 32 (i 1).val
  let c2_i32 : BitVec 32 := 2#32
  let v2 : BitVec 32 := Scalar.remsi arg1 c2_i32
  let v1464 : Index := Scalar.indexCast v2
  let c46 : Index := 46#32
  let c0_306 : Index := 0#32
  let c0_307 : Index := 0#32
  ![v1464.toNat, 46, 0, 0]
def k0_off63 (i : grid0.Coords) : Fin 4 → Nat :=
  let arg1 : BitVec 32 := BitVec.ofNat 32 (i 1).val
  let c2_i32 : BitVec 32 := 2#32
  let v2 : BitVec 32 := Scalar.remsi arg1 c2_i32
  let v1495 : Index := Scalar.indexCast v2
  let c47 : Index := 47#32
  let c0_312 : Index := 0#32
  let c0_313 : Index := 0#32
  ![v1495.toNat, 47, 0, 0]
def k0_off64 (i : grid0.Coords) : Fin 4 → Nat :=
  let arg1 : BitVec 32 := BitVec.ofNat 32 (i 1).val
  let c2_i32 : BitVec 32 := 2#32
  let v2 : BitVec 32 := Scalar.remsi arg1 c2_i32
  let v1526 : Index := Scalar.indexCast v2
  let c48 : Index := 48#32
  let c0_318 : Index := 0#32
  let c0_319 : Index := 0#32
  ![v1526.toNat, 48, 0, 0]
def k0_off65 (i : grid0.Coords) : Fin 4 → Nat :=
  let arg1 : BitVec 32 := BitVec.ofNat 32 (i 1).val
  let c2_i32 : BitVec 32 := 2#32
  let v2 : BitVec 32 := Scalar.remsi arg1 c2_i32
  let v1557 : Index := Scalar.indexCast v2
  let c49 : Index := 49#32
  let c0_324 : Index := 0#32
  let c0_325 : Index := 0#32
  ![v1557.toNat, 49, 0, 0]
def k0_off66 (i : grid0.Coords) : Fin 4 → Nat :=
  let arg1 : BitVec 32 := BitVec.ofNat 32 (i 1).val
  let c2_i32 : BitVec 32 := 2#32
  let v2 : BitVec 32 := Scalar.remsi arg1 c2_i32
  let v1588 : Index := Scalar.indexCast v2
  let c50 : Index := 50#32
  let c0_330 : Index := 0#32
  let c0_331 : Index := 0#32
  ![v1588.toNat, 50, 0, 0]
def k0_off67 (i : grid0.Coords) : Fin 4 → Nat :=
  let arg1 : BitVec 32 := BitVec.ofNat 32 (i 1).val
  let c2_i32 : BitVec 32 := 2#32
  let v2 : BitVec 32 := Scalar.remsi arg1 c2_i32
  let v1619 : Index := Scalar.indexCast v2
  let c51 : Index := 51#32
  let c0_336 : Index := 0#32
  let c0_337 : Index := 0#32
  ![v1619.toNat, 51, 0, 0]
def k0_off68 (i : grid0.Coords) : Fin 4 → Nat :=
  let arg1 : BitVec 32 := BitVec.ofNat 32 (i 1).val
  let c2_i32 : BitVec 32 := 2#32
  let v2 : BitVec 32 := Scalar.remsi arg1 c2_i32
  let v1650 : Index := Scalar.indexCast v2
  let c52 : Index := 52#32
  let c0_342 : Index := 0#32
  let c0_343 : Index := 0#32
  ![v1650.toNat, 52, 0, 0]
def k0_off69 (i : grid0.Coords) : Fin 4 → Nat :=
  let arg1 : BitVec 32 := BitVec.ofNat 32 (i 1).val
  let c2_i32 : BitVec 32 := 2#32
  let v2 : BitVec 32 := Scalar.remsi arg1 c2_i32
  let v1681 : Index := Scalar.indexCast v2
  let c53 : Index := 53#32
  let c0_348 : Index := 0#32
  let c0_349 : Index := 0#32
  ![v1681.toNat, 53, 0, 0]
def k0_off70 (i : grid0.Coords) : Fin 4 → Nat :=
  let arg1 : BitVec 32 := BitVec.ofNat 32 (i 1).val
  let c2_i32 : BitVec 32 := 2#32
  let v2 : BitVec 32 := Scalar.remsi arg1 c2_i32
  let v1712 : Index := Scalar.indexCast v2
  let c54 : Index := 54#32
  let c0_354 : Index := 0#32
  let c0_355 : Index := 0#32
  ![v1712.toNat, 54, 0, 0]
def k0_off71 (i : grid0.Coords) : Fin 4 → Nat :=
  let arg1 : BitVec 32 := BitVec.ofNat 32 (i 1).val
  let c2_i32 : BitVec 32 := 2#32
  let v2 : BitVec 32 := Scalar.remsi arg1 c2_i32
  let v1743 : Index := Scalar.indexCast v2
  let c55 : Index := 55#32
  let c0_360 : Index := 0#32
  let c0_361 : Index := 0#32
  ![v1743.toNat, 55, 0, 0]
def k0_off72 (i : grid0.Coords) : Fin 4 → Nat :=
  let arg1 : BitVec 32 := BitVec.ofNat 32 (i 1).val
  let c2_i32 : BitVec 32 := 2#32
  let v2 : BitVec 32 := Scalar.remsi arg1 c2_i32
  let v1774 : Index := Scalar.indexCast v2
  let c56 : Index := 56#32
  let c0_366 : Index := 0#32
  let c0_367 : Index := 0#32
  ![v1774.toNat, 56, 0, 0]
def k0_off73 (i : grid0.Coords) : Fin 4 → Nat :=
  let arg1 : BitVec 32 := BitVec.ofNat 32 (i 1).val
  let c2_i32 : BitVec 32 := 2#32
  let v2 : BitVec 32 := Scalar.remsi arg1 c2_i32
  let v1805 : Index := Scalar.indexCast v2
  let c57 : Index := 57#32
  let c0_372 : Index := 0#32
  let c0_373 : Index := 0#32
  ![v1805.toNat, 57, 0, 0]
def k0_off74 (i : grid0.Coords) : Fin 4 → Nat :=
  let arg1 : BitVec 32 := BitVec.ofNat 32 (i 1).val
  let c2_i32 : BitVec 32 := 2#32
  let v2 : BitVec 32 := Scalar.remsi arg1 c2_i32
  let v1836 : Index := Scalar.indexCast v2
  let c58 : Index := 58#32
  let c0_378 : Index := 0#32
  let c0_379 : Index := 0#32
  ![v1836.toNat, 58, 0, 0]
def k0_off75 (i : grid0.Coords) : Fin 4 → Nat :=
  let arg1 : BitVec 32 := BitVec.ofNat 32 (i 1).val
  let c2_i32 : BitVec 32 := 2#32
  let v2 : BitVec 32 := Scalar.remsi arg1 c2_i32
  let v1867 : Index := Scalar.indexCast v2
  let c59 : Index := 59#32
  let c0_384 : Index := 0#32
  let c0_385 : Index := 0#32
  ![v1867.toNat, 59, 0, 0]
def k0_off76 (i : grid0.Coords) : Fin 4 → Nat :=
  let arg1 : BitVec 32 := BitVec.ofNat 32 (i 1).val
  let c2_i32 : BitVec 32 := 2#32
  let v2 : BitVec 32 := Scalar.remsi arg1 c2_i32
  let v1898 : Index := Scalar.indexCast v2
  let c60 : Index := 60#32
  let c0_390 : Index := 0#32
  let c0_391 : Index := 0#32
  ![v1898.toNat, 60, 0, 0]
def k0_off77 (i : grid0.Coords) : Fin 4 → Nat :=
  let arg1 : BitVec 32 := BitVec.ofNat 32 (i 1).val
  let c2_i32 : BitVec 32 := 2#32
  let v2 : BitVec 32 := Scalar.remsi arg1 c2_i32
  let v1929 : Index := Scalar.indexCast v2
  let c61 : Index := 61#32
  let c0_396 : Index := 0#32
  let c0_397 : Index := 0#32
  ![v1929.toNat, 61, 0, 0]
def k0_off78 (i : grid0.Coords) : Fin 4 → Nat :=
  let arg1 : BitVec 32 := BitVec.ofNat 32 (i 1).val
  let c2_i32 : BitVec 32 := 2#32
  let v2 : BitVec 32 := Scalar.remsi arg1 c2_i32
  let v1960 : Index := Scalar.indexCast v2
  let c62 : Index := 62#32
  let c0_402 : Index := 0#32
  let c0_403 : Index := 0#32
  ![v1960.toNat, 62, 0, 0]
def k0_off79 (i : grid0.Coords) : Fin 4 → Nat :=
  let arg1 : BitVec 32 := BitVec.ofNat 32 (i 1).val
  let c2_i32 : BitVec 32 := 2#32
  let v2 : BitVec 32 := Scalar.remsi arg1 c2_i32
  let v1991 : Index := Scalar.indexCast v2
  let c63 : Index := 63#32
  let c0_408 : Index := 0#32
  let c0_409 : Index := 0#32
  ![v1991.toNat, 63, 0, 0]
def k0_off80 (i : grid0.Coords) : Fin 4 → Nat :=
  let arg1 : BitVec 32 := BitVec.ofNat 32 (i 1).val
  let c2_i32 : BitVec 32 := 2#32
  let v2 : BitVec 32 := Scalar.remsi arg1 c2_i32
  let v2584 : Index := Scalar.indexCast v2
  let c0_656 : Index := 0#32
  let c0_657 : Index := 0#32
  let c0_658 : Index := 0#32
  ![v2584.toNat, 0, 0, 0]
def k0_off81 (i : grid0.Coords) : Fin 4 → Nat :=
  let arg1 : BitVec 32 := BitVec.ofNat 32 (i 1).val
  let c2_i32 : BitVec 32 := 2#32
  let v2 : BitVec 32 := Scalar.remsi arg1 c2_i32
  let v2597 : Index := Scalar.indexCast v2
  let c1_663 : Index := 1#32
  let c0_664 : Index := 0#32
  let c0_665 : Index := 0#32
  ![v2597.toNat, 1, 0, 0]
def k0_off82 (i : grid0.Coords) : Fin 4 → Nat :=
  let arg1 : BitVec 32 := BitVec.ofNat 32 (i 1).val
  let c2_i32 : BitVec 32 := 2#32
  let v2 : BitVec 32 := Scalar.remsi arg1 c2_i32
  let v2610 : Index := Scalar.indexCast v2
  let c2_670 : Index := 2#32
  let c0_671 : Index := 0#32
  let c0_672 : Index := 0#32
  ![v2610.toNat, 2, 0, 0]
def k0_off83 (i : grid0.Coords) : Fin 4 → Nat :=
  let arg1 : BitVec 32 := BitVec.ofNat 32 (i 1).val
  let c2_i32 : BitVec 32 := 2#32
  let v2 : BitVec 32 := Scalar.remsi arg1 c2_i32
  let v2623 : Index := Scalar.indexCast v2
  let c3_677 : Index := 3#32
  let c0_678 : Index := 0#32
  let c0_679 : Index := 0#32
  ![v2623.toNat, 3, 0, 0]
def k0_off84 (i : grid0.Coords) : Fin 4 → Nat :=
  let arg1 : BitVec 32 := BitVec.ofNat 32 (i 1).val
  let c2_i32 : BitVec 32 := 2#32
  let v2 : BitVec 32 := Scalar.remsi arg1 c2_i32
  let v2636 : Index := Scalar.indexCast v2
  let c4_684 : Index := 4#32
  let c0_685 : Index := 0#32
  let c0_686 : Index := 0#32
  ![v2636.toNat, 4, 0, 0]
def k0_off85 (i : grid0.Coords) : Fin 4 → Nat :=
  let arg1 : BitVec 32 := BitVec.ofNat 32 (i 1).val
  let c2_i32 : BitVec 32 := 2#32
  let v2 : BitVec 32 := Scalar.remsi arg1 c2_i32
  let v2649 : Index := Scalar.indexCast v2
  let c5_691 : Index := 5#32
  let c0_692 : Index := 0#32
  let c0_693 : Index := 0#32
  ![v2649.toNat, 5, 0, 0]
def k0_off86 (i : grid0.Coords) : Fin 4 → Nat :=
  let arg1 : BitVec 32 := BitVec.ofNat 32 (i 1).val
  let c2_i32 : BitVec 32 := 2#32
  let v2 : BitVec 32 := Scalar.remsi arg1 c2_i32
  let v2662 : Index := Scalar.indexCast v2
  let c6_698 : Index := 6#32
  let c0_699 : Index := 0#32
  let c0_700 : Index := 0#32
  ![v2662.toNat, 6, 0, 0]
def k0_off87 (i : grid0.Coords) : Fin 4 → Nat :=
  let arg1 : BitVec 32 := BitVec.ofNat 32 (i 1).val
  let c2_i32 : BitVec 32 := 2#32
  let v2 : BitVec 32 := Scalar.remsi arg1 c2_i32
  let v2675 : Index := Scalar.indexCast v2
  let c7_705 : Index := 7#32
  let c0_706 : Index := 0#32
  let c0_707 : Index := 0#32
  ![v2675.toNat, 7, 0, 0]
def k0_off88 (i : grid0.Coords) : Fin 4 → Nat :=
  let arg1 : BitVec 32 := BitVec.ofNat 32 (i 1).val
  let c2_i32 : BitVec 32 := 2#32
  let v2 : BitVec 32 := Scalar.remsi arg1 c2_i32
  let v2688 : Index := Scalar.indexCast v2
  let c8_712 : Index := 8#32
  let c0_713 : Index := 0#32
  let c0_714 : Index := 0#32
  ![v2688.toNat, 8, 0, 0]
def k0_off89 (i : grid0.Coords) : Fin 4 → Nat :=
  let arg1 : BitVec 32 := BitVec.ofNat 32 (i 1).val
  let c2_i32 : BitVec 32 := 2#32
  let v2 : BitVec 32 := Scalar.remsi arg1 c2_i32
  let v2701 : Index := Scalar.indexCast v2
  let c9_719 : Index := 9#32
  let c0_720 : Index := 0#32
  let c0_721 : Index := 0#32
  ![v2701.toNat, 9, 0, 0]
def k0_off90 (i : grid0.Coords) : Fin 4 → Nat :=
  let arg1 : BitVec 32 := BitVec.ofNat 32 (i 1).val
  let c2_i32 : BitVec 32 := 2#32
  let v2 : BitVec 32 := Scalar.remsi arg1 c2_i32
  let v2714 : Index := Scalar.indexCast v2
  let c10_726 : Index := 10#32
  let c0_727 : Index := 0#32
  let c0_728 : Index := 0#32
  ![v2714.toNat, 10, 0, 0]
def k0_off91 (i : grid0.Coords) : Fin 4 → Nat :=
  let arg1 : BitVec 32 := BitVec.ofNat 32 (i 1).val
  let c2_i32 : BitVec 32 := 2#32
  let v2 : BitVec 32 := Scalar.remsi arg1 c2_i32
  let v2727 : Index := Scalar.indexCast v2
  let c11_733 : Index := 11#32
  let c0_734 : Index := 0#32
  let c0_735 : Index := 0#32
  ![v2727.toNat, 11, 0, 0]
def k0_off92 (i : grid0.Coords) : Fin 4 → Nat :=
  let arg1 : BitVec 32 := BitVec.ofNat 32 (i 1).val
  let c2_i32 : BitVec 32 := 2#32
  let v2 : BitVec 32 := Scalar.remsi arg1 c2_i32
  let v2740 : Index := Scalar.indexCast v2
  let c12_740 : Index := 12#32
  let c0_741 : Index := 0#32
  let c0_742 : Index := 0#32
  ![v2740.toNat, 12, 0, 0]
def k0_off93 (i : grid0.Coords) : Fin 4 → Nat :=
  let arg1 : BitVec 32 := BitVec.ofNat 32 (i 1).val
  let c2_i32 : BitVec 32 := 2#32
  let v2 : BitVec 32 := Scalar.remsi arg1 c2_i32
  let v2753 : Index := Scalar.indexCast v2
  let c13_747 : Index := 13#32
  let c0_748 : Index := 0#32
  let c0_749 : Index := 0#32
  ![v2753.toNat, 13, 0, 0]
def k0_off94 (i : grid0.Coords) : Fin 4 → Nat :=
  let arg1 : BitVec 32 := BitVec.ofNat 32 (i 1).val
  let c2_i32 : BitVec 32 := 2#32
  let v2 : BitVec 32 := Scalar.remsi arg1 c2_i32
  let v2766 : Index := Scalar.indexCast v2
  let c14_754 : Index := 14#32
  let c0_755 : Index := 0#32
  let c0_756 : Index := 0#32
  ![v2766.toNat, 14, 0, 0]
def k0_off95 (i : grid0.Coords) : Fin 4 → Nat :=
  let arg1 : BitVec 32 := BitVec.ofNat 32 (i 1).val
  let c2_i32 : BitVec 32 := 2#32
  let v2 : BitVec 32 := Scalar.remsi arg1 c2_i32
  let v2779 : Index := Scalar.indexCast v2
  let c15_761 : Index := 15#32
  let c0_762 : Index := 0#32
  let c0_763 : Index := 0#32
  ![v2779.toNat, 15, 0, 0]
def k0_off96 (i : grid0.Coords) : Fin 4 → Nat :=
  let arg1 : BitVec 32 := BitVec.ofNat 32 (i 1).val
  let c2_i32 : BitVec 32 := 2#32
  let v2 : BitVec 32 := Scalar.remsi arg1 c2_i32
  let v2792 : Index := Scalar.indexCast v2
  let c16_768 : Index := 16#32
  let c0_769 : Index := 0#32
  let c0_770 : Index := 0#32
  ![v2792.toNat, 16, 0, 0]
def k0_off97 (i : grid0.Coords) : Fin 4 → Nat :=
  let arg1 : BitVec 32 := BitVec.ofNat 32 (i 1).val
  let c2_i32 : BitVec 32 := 2#32
  let v2 : BitVec 32 := Scalar.remsi arg1 c2_i32
  let v2805 : Index := Scalar.indexCast v2
  let c17_775 : Index := 17#32
  let c0_776 : Index := 0#32
  let c0_777 : Index := 0#32
  ![v2805.toNat, 17, 0, 0]
def k0_off98 (i : grid0.Coords) : Fin 4 → Nat :=
  let arg1 : BitVec 32 := BitVec.ofNat 32 (i 1).val
  let c2_i32 : BitVec 32 := 2#32
  let v2 : BitVec 32 := Scalar.remsi arg1 c2_i32
  let v2818 : Index := Scalar.indexCast v2
  let c18_782 : Index := 18#32
  let c0_783 : Index := 0#32
  let c0_784 : Index := 0#32
  ![v2818.toNat, 18, 0, 0]
def k0_off99 (i : grid0.Coords) : Fin 4 → Nat :=
  let arg1 : BitVec 32 := BitVec.ofNat 32 (i 1).val
  let c2_i32 : BitVec 32 := 2#32
  let v2 : BitVec 32 := Scalar.remsi arg1 c2_i32
  let v2831 : Index := Scalar.indexCast v2
  let c19_789 : Index := 19#32
  let c0_790 : Index := 0#32
  let c0_791 : Index := 0#32
  ![v2831.toNat, 19, 0, 0]
def k0_off100 (i : grid0.Coords) : Fin 4 → Nat :=
  let arg1 : BitVec 32 := BitVec.ofNat 32 (i 1).val
  let c2_i32 : BitVec 32 := 2#32
  let v2 : BitVec 32 := Scalar.remsi arg1 c2_i32
  let v2844 : Index := Scalar.indexCast v2
  let c20_796 : Index := 20#32
  let c0_797 : Index := 0#32
  let c0_798 : Index := 0#32
  ![v2844.toNat, 20, 0, 0]
def k0_off101 (i : grid0.Coords) : Fin 4 → Nat :=
  let arg1 : BitVec 32 := BitVec.ofNat 32 (i 1).val
  let c2_i32 : BitVec 32 := 2#32
  let v2 : BitVec 32 := Scalar.remsi arg1 c2_i32
  let v2857 : Index := Scalar.indexCast v2
  let c21_803 : Index := 21#32
  let c0_804 : Index := 0#32
  let c0_805 : Index := 0#32
  ![v2857.toNat, 21, 0, 0]
def k0_off102 (i : grid0.Coords) : Fin 4 → Nat :=
  let arg1 : BitVec 32 := BitVec.ofNat 32 (i 1).val
  let c2_i32 : BitVec 32 := 2#32
  let v2 : BitVec 32 := Scalar.remsi arg1 c2_i32
  let v2870 : Index := Scalar.indexCast v2
  let c22_810 : Index := 22#32
  let c0_811 : Index := 0#32
  let c0_812 : Index := 0#32
  ![v2870.toNat, 22, 0, 0]
def k0_off103 (i : grid0.Coords) : Fin 4 → Nat :=
  let arg1 : BitVec 32 := BitVec.ofNat 32 (i 1).val
  let c2_i32 : BitVec 32 := 2#32
  let v2 : BitVec 32 := Scalar.remsi arg1 c2_i32
  let v2883 : Index := Scalar.indexCast v2
  let c23_817 : Index := 23#32
  let c0_818 : Index := 0#32
  let c0_819 : Index := 0#32
  ![v2883.toNat, 23, 0, 0]
def k0_off104 (i : grid0.Coords) : Fin 4 → Nat :=
  let arg1 : BitVec 32 := BitVec.ofNat 32 (i 1).val
  let c2_i32 : BitVec 32 := 2#32
  let v2 : BitVec 32 := Scalar.remsi arg1 c2_i32
  let v2896 : Index := Scalar.indexCast v2
  let c24_824 : Index := 24#32
  let c0_825 : Index := 0#32
  let c0_826 : Index := 0#32
  ![v2896.toNat, 24, 0, 0]
def k0_off105 (i : grid0.Coords) : Fin 4 → Nat :=
  let arg1 : BitVec 32 := BitVec.ofNat 32 (i 1).val
  let c2_i32 : BitVec 32 := 2#32
  let v2 : BitVec 32 := Scalar.remsi arg1 c2_i32
  let v2909 : Index := Scalar.indexCast v2
  let c25_831 : Index := 25#32
  let c0_832 : Index := 0#32
  let c0_833 : Index := 0#32
  ![v2909.toNat, 25, 0, 0]
def k0_off106 (i : grid0.Coords) : Fin 4 → Nat :=
  let arg1 : BitVec 32 := BitVec.ofNat 32 (i 1).val
  let c2_i32 : BitVec 32 := 2#32
  let v2 : BitVec 32 := Scalar.remsi arg1 c2_i32
  let v2922 : Index := Scalar.indexCast v2
  let c26_838 : Index := 26#32
  let c0_839 : Index := 0#32
  let c0_840 : Index := 0#32
  ![v2922.toNat, 26, 0, 0]
def k0_off107 (i : grid0.Coords) : Fin 4 → Nat :=
  let arg1 : BitVec 32 := BitVec.ofNat 32 (i 1).val
  let c2_i32 : BitVec 32 := 2#32
  let v2 : BitVec 32 := Scalar.remsi arg1 c2_i32
  let v2935 : Index := Scalar.indexCast v2
  let c27_845 : Index := 27#32
  let c0_846 : Index := 0#32
  let c0_847 : Index := 0#32
  ![v2935.toNat, 27, 0, 0]
def k0_off108 (i : grid0.Coords) : Fin 4 → Nat :=
  let arg1 : BitVec 32 := BitVec.ofNat 32 (i 1).val
  let c2_i32 : BitVec 32 := 2#32
  let v2 : BitVec 32 := Scalar.remsi arg1 c2_i32
  let v2948 : Index := Scalar.indexCast v2
  let c28_852 : Index := 28#32
  let c0_853 : Index := 0#32
  let c0_854 : Index := 0#32
  ![v2948.toNat, 28, 0, 0]
def k0_off109 (i : grid0.Coords) : Fin 4 → Nat :=
  let arg1 : BitVec 32 := BitVec.ofNat 32 (i 1).val
  let c2_i32 : BitVec 32 := 2#32
  let v2 : BitVec 32 := Scalar.remsi arg1 c2_i32
  let v2961 : Index := Scalar.indexCast v2
  let c29_859 : Index := 29#32
  let c0_860 : Index := 0#32
  let c0_861 : Index := 0#32
  ![v2961.toNat, 29, 0, 0]
def k0_off110 (i : grid0.Coords) : Fin 4 → Nat :=
  let arg1 : BitVec 32 := BitVec.ofNat 32 (i 1).val
  let c2_i32 : BitVec 32 := 2#32
  let v2 : BitVec 32 := Scalar.remsi arg1 c2_i32
  let v2974 : Index := Scalar.indexCast v2
  let c30_866 : Index := 30#32
  let c0_867 : Index := 0#32
  let c0_868 : Index := 0#32
  ![v2974.toNat, 30, 0, 0]
def k0_off111 (i : grid0.Coords) : Fin 4 → Nat :=
  let arg1 : BitVec 32 := BitVec.ofNat 32 (i 1).val
  let c2_i32 : BitVec 32 := 2#32
  let v2 : BitVec 32 := Scalar.remsi arg1 c2_i32
  let v2987 : Index := Scalar.indexCast v2
  let c31_873 : Index := 31#32
  let c0_874 : Index := 0#32
  let c0_875 : Index := 0#32
  ![v2987.toNat, 31, 0, 0]
def k0_off112 (i : grid0.Coords) : Fin 4 → Nat :=
  let arg1 : BitVec 32 := BitVec.ofNat 32 (i 1).val
  let c2_i32 : BitVec 32 := 2#32
  let v2 : BitVec 32 := Scalar.remsi arg1 c2_i32
  let v3001 : Index := Scalar.indexCast v2
  let c0_880 : Index := 0#32
  let c0_881 : Index := 0#32
  let c128 : Index := 128#32
  ![v3001.toNat, 0, 0, 128]
def k0_off113 (i : grid0.Coords) : Fin 4 → Nat :=
  let arg1 : BitVec 32 := BitVec.ofNat 32 (i 1).val
  let c2_i32 : BitVec 32 := 2#32
  let v2 : BitVec 32 := Scalar.remsi arg1 c2_i32
  let v3010 : Index := Scalar.indexCast v2
  let c1_886 : Index := 1#32
  let c0_887 : Index := 0#32
  let c128_888 : Index := 128#32
  ![v3010.toNat, 1, 0, 128]
def k0_off114 (i : grid0.Coords) : Fin 4 → Nat :=
  let arg1 : BitVec 32 := BitVec.ofNat 32 (i 1).val
  let c2_i32 : BitVec 32 := 2#32
  let v2 : BitVec 32 := Scalar.remsi arg1 c2_i32
  let v3019 : Index := Scalar.indexCast v2
  let c2_893 : Index := 2#32
  let c0_894 : Index := 0#32
  let c128_895 : Index := 128#32
  ![v3019.toNat, 2, 0, 128]
def k0_off115 (i : grid0.Coords) : Fin 4 → Nat :=
  let arg1 : BitVec 32 := BitVec.ofNat 32 (i 1).val
  let c2_i32 : BitVec 32 := 2#32
  let v2 : BitVec 32 := Scalar.remsi arg1 c2_i32
  let v3028 : Index := Scalar.indexCast v2
  let c3_900 : Index := 3#32
  let c0_901 : Index := 0#32
  let c128_902 : Index := 128#32
  ![v3028.toNat, 3, 0, 128]
def k0_off116 (i : grid0.Coords) : Fin 4 → Nat :=
  let arg1 : BitVec 32 := BitVec.ofNat 32 (i 1).val
  let c2_i32 : BitVec 32 := 2#32
  let v2 : BitVec 32 := Scalar.remsi arg1 c2_i32
  let v3037 : Index := Scalar.indexCast v2
  let c4_907 : Index := 4#32
  let c0_908 : Index := 0#32
  let c128_909 : Index := 128#32
  ![v3037.toNat, 4, 0, 128]
def k0_off117 (i : grid0.Coords) : Fin 4 → Nat :=
  let arg1 : BitVec 32 := BitVec.ofNat 32 (i 1).val
  let c2_i32 : BitVec 32 := 2#32
  let v2 : BitVec 32 := Scalar.remsi arg1 c2_i32
  let v3046 : Index := Scalar.indexCast v2
  let c5_914 : Index := 5#32
  let c0_915 : Index := 0#32
  let c128_916 : Index := 128#32
  ![v3046.toNat, 5, 0, 128]
def k0_off118 (i : grid0.Coords) : Fin 4 → Nat :=
  let arg1 : BitVec 32 := BitVec.ofNat 32 (i 1).val
  let c2_i32 : BitVec 32 := 2#32
  let v2 : BitVec 32 := Scalar.remsi arg1 c2_i32
  let v3055 : Index := Scalar.indexCast v2
  let c6_921 : Index := 6#32
  let c0_922 : Index := 0#32
  let c128_923 : Index := 128#32
  ![v3055.toNat, 6, 0, 128]
def k0_off119 (i : grid0.Coords) : Fin 4 → Nat :=
  let arg1 : BitVec 32 := BitVec.ofNat 32 (i 1).val
  let c2_i32 : BitVec 32 := 2#32
  let v2 : BitVec 32 := Scalar.remsi arg1 c2_i32
  let v3064 : Index := Scalar.indexCast v2
  let c7_928 : Index := 7#32
  let c0_929 : Index := 0#32
  let c128_930 : Index := 128#32
  ![v3064.toNat, 7, 0, 128]
def k0_off120 (i : grid0.Coords) : Fin 4 → Nat :=
  let arg1 : BitVec 32 := BitVec.ofNat 32 (i 1).val
  let c2_i32 : BitVec 32 := 2#32
  let v2 : BitVec 32 := Scalar.remsi arg1 c2_i32
  let v3073 : Index := Scalar.indexCast v2
  let c8_935 : Index := 8#32
  let c0_936 : Index := 0#32
  let c128_937 : Index := 128#32
  ![v3073.toNat, 8, 0, 128]
def k0_off121 (i : grid0.Coords) : Fin 4 → Nat :=
  let arg1 : BitVec 32 := BitVec.ofNat 32 (i 1).val
  let c2_i32 : BitVec 32 := 2#32
  let v2 : BitVec 32 := Scalar.remsi arg1 c2_i32
  let v3082 : Index := Scalar.indexCast v2
  let c9_942 : Index := 9#32
  let c0_943 : Index := 0#32
  let c128_944 : Index := 128#32
  ![v3082.toNat, 9, 0, 128]
def k0_off122 (i : grid0.Coords) : Fin 4 → Nat :=
  let arg1 : BitVec 32 := BitVec.ofNat 32 (i 1).val
  let c2_i32 : BitVec 32 := 2#32
  let v2 : BitVec 32 := Scalar.remsi arg1 c2_i32
  let v3091 : Index := Scalar.indexCast v2
  let c10_949 : Index := 10#32
  let c0_950 : Index := 0#32
  let c128_951 : Index := 128#32
  ![v3091.toNat, 10, 0, 128]
def k0_off123 (i : grid0.Coords) : Fin 4 → Nat :=
  let arg1 : BitVec 32 := BitVec.ofNat 32 (i 1).val
  let c2_i32 : BitVec 32 := 2#32
  let v2 : BitVec 32 := Scalar.remsi arg1 c2_i32
  let v3100 : Index := Scalar.indexCast v2
  let c11_956 : Index := 11#32
  let c0_957 : Index := 0#32
  let c128_958 : Index := 128#32
  ![v3100.toNat, 11, 0, 128]
def k0_off124 (i : grid0.Coords) : Fin 4 → Nat :=
  let arg1 : BitVec 32 := BitVec.ofNat 32 (i 1).val
  let c2_i32 : BitVec 32 := 2#32
  let v2 : BitVec 32 := Scalar.remsi arg1 c2_i32
  let v3109 : Index := Scalar.indexCast v2
  let c12_963 : Index := 12#32
  let c0_964 : Index := 0#32
  let c128_965 : Index := 128#32
  ![v3109.toNat, 12, 0, 128]
def k0_off125 (i : grid0.Coords) : Fin 4 → Nat :=
  let arg1 : BitVec 32 := BitVec.ofNat 32 (i 1).val
  let c2_i32 : BitVec 32 := 2#32
  let v2 : BitVec 32 := Scalar.remsi arg1 c2_i32
  let v3118 : Index := Scalar.indexCast v2
  let c13_970 : Index := 13#32
  let c0_971 : Index := 0#32
  let c128_972 : Index := 128#32
  ![v3118.toNat, 13, 0, 128]
def k0_off126 (i : grid0.Coords) : Fin 4 → Nat :=
  let arg1 : BitVec 32 := BitVec.ofNat 32 (i 1).val
  let c2_i32 : BitVec 32 := 2#32
  let v2 : BitVec 32 := Scalar.remsi arg1 c2_i32
  let v3127 : Index := Scalar.indexCast v2
  let c14_977 : Index := 14#32
  let c0_978 : Index := 0#32
  let c128_979 : Index := 128#32
  ![v3127.toNat, 14, 0, 128]
def k0_off127 (i : grid0.Coords) : Fin 4 → Nat :=
  let arg1 : BitVec 32 := BitVec.ofNat 32 (i 1).val
  let c2_i32 : BitVec 32 := 2#32
  let v2 : BitVec 32 := Scalar.remsi arg1 c2_i32
  let v3136 : Index := Scalar.indexCast v2
  let c15_984 : Index := 15#32
  let c0_985 : Index := 0#32
  let c128_986 : Index := 128#32
  ![v3136.toNat, 15, 0, 128]
def k0_off128 (i : grid0.Coords) : Fin 4 → Nat :=
  let arg1 : BitVec 32 := BitVec.ofNat 32 (i 1).val
  let c2_i32 : BitVec 32 := 2#32
  let v2 : BitVec 32 := Scalar.remsi arg1 c2_i32
  let v3145 : Index := Scalar.indexCast v2
  let c16_991 : Index := 16#32
  let c0_992 : Index := 0#32
  let c128_993 : Index := 128#32
  ![v3145.toNat, 16, 0, 128]
def k0_off129 (i : grid0.Coords) : Fin 4 → Nat :=
  let arg1 : BitVec 32 := BitVec.ofNat 32 (i 1).val
  let c2_i32 : BitVec 32 := 2#32
  let v2 : BitVec 32 := Scalar.remsi arg1 c2_i32
  let v3154 : Index := Scalar.indexCast v2
  let c17_998 : Index := 17#32
  let c0_999 : Index := 0#32
  let c128_1000 : Index := 128#32
  ![v3154.toNat, 17, 0, 128]
def k0_off130 (i : grid0.Coords) : Fin 4 → Nat :=
  let arg1 : BitVec 32 := BitVec.ofNat 32 (i 1).val
  let c2_i32 : BitVec 32 := 2#32
  let v2 : BitVec 32 := Scalar.remsi arg1 c2_i32
  let v3163 : Index := Scalar.indexCast v2
  let c18_1005 : Index := 18#32
  let c0_1006 : Index := 0#32
  let c128_1007 : Index := 128#32
  ![v3163.toNat, 18, 0, 128]
def k0_off131 (i : grid0.Coords) : Fin 4 → Nat :=
  let arg1 : BitVec 32 := BitVec.ofNat 32 (i 1).val
  let c2_i32 : BitVec 32 := 2#32
  let v2 : BitVec 32 := Scalar.remsi arg1 c2_i32
  let v3172 : Index := Scalar.indexCast v2
  let c19_1012 : Index := 19#32
  let c0_1013 : Index := 0#32
  let c128_1014 : Index := 128#32
  ![v3172.toNat, 19, 0, 128]
def k0_off132 (i : grid0.Coords) : Fin 4 → Nat :=
  let arg1 : BitVec 32 := BitVec.ofNat 32 (i 1).val
  let c2_i32 : BitVec 32 := 2#32
  let v2 : BitVec 32 := Scalar.remsi arg1 c2_i32
  let v3181 : Index := Scalar.indexCast v2
  let c20_1019 : Index := 20#32
  let c0_1020 : Index := 0#32
  let c128_1021 : Index := 128#32
  ![v3181.toNat, 20, 0, 128]
def k0_off133 (i : grid0.Coords) : Fin 4 → Nat :=
  let arg1 : BitVec 32 := BitVec.ofNat 32 (i 1).val
  let c2_i32 : BitVec 32 := 2#32
  let v2 : BitVec 32 := Scalar.remsi arg1 c2_i32
  let v3190 : Index := Scalar.indexCast v2
  let c21_1026 : Index := 21#32
  let c0_1027 : Index := 0#32
  let c128_1028 : Index := 128#32
  ![v3190.toNat, 21, 0, 128]
def k0_off134 (i : grid0.Coords) : Fin 4 → Nat :=
  let arg1 : BitVec 32 := BitVec.ofNat 32 (i 1).val
  let c2_i32 : BitVec 32 := 2#32
  let v2 : BitVec 32 := Scalar.remsi arg1 c2_i32
  let v3199 : Index := Scalar.indexCast v2
  let c22_1033 : Index := 22#32
  let c0_1034 : Index := 0#32
  let c128_1035 : Index := 128#32
  ![v3199.toNat, 22, 0, 128]
def k0_off135 (i : grid0.Coords) : Fin 4 → Nat :=
  let arg1 : BitVec 32 := BitVec.ofNat 32 (i 1).val
  let c2_i32 : BitVec 32 := 2#32
  let v2 : BitVec 32 := Scalar.remsi arg1 c2_i32
  let v3208 : Index := Scalar.indexCast v2
  let c23_1040 : Index := 23#32
  let c0_1041 : Index := 0#32
  let c128_1042 : Index := 128#32
  ![v3208.toNat, 23, 0, 128]
def k0_off136 (i : grid0.Coords) : Fin 4 → Nat :=
  let arg1 : BitVec 32 := BitVec.ofNat 32 (i 1).val
  let c2_i32 : BitVec 32 := 2#32
  let v2 : BitVec 32 := Scalar.remsi arg1 c2_i32
  let v3217 : Index := Scalar.indexCast v2
  let c24_1047 : Index := 24#32
  let c0_1048 : Index := 0#32
  let c128_1049 : Index := 128#32
  ![v3217.toNat, 24, 0, 128]
def k0_off137 (i : grid0.Coords) : Fin 4 → Nat :=
  let arg1 : BitVec 32 := BitVec.ofNat 32 (i 1).val
  let c2_i32 : BitVec 32 := 2#32
  let v2 : BitVec 32 := Scalar.remsi arg1 c2_i32
  let v3226 : Index := Scalar.indexCast v2
  let c25_1054 : Index := 25#32
  let c0_1055 : Index := 0#32
  let c128_1056 : Index := 128#32
  ![v3226.toNat, 25, 0, 128]
def k0_off138 (i : grid0.Coords) : Fin 4 → Nat :=
  let arg1 : BitVec 32 := BitVec.ofNat 32 (i 1).val
  let c2_i32 : BitVec 32 := 2#32
  let v2 : BitVec 32 := Scalar.remsi arg1 c2_i32
  let v3235 : Index := Scalar.indexCast v2
  let c26_1061 : Index := 26#32
  let c0_1062 : Index := 0#32
  let c128_1063 : Index := 128#32
  ![v3235.toNat, 26, 0, 128]
def k0_off139 (i : grid0.Coords) : Fin 4 → Nat :=
  let arg1 : BitVec 32 := BitVec.ofNat 32 (i 1).val
  let c2_i32 : BitVec 32 := 2#32
  let v2 : BitVec 32 := Scalar.remsi arg1 c2_i32
  let v3244 : Index := Scalar.indexCast v2
  let c27_1068 : Index := 27#32
  let c0_1069 : Index := 0#32
  let c128_1070 : Index := 128#32
  ![v3244.toNat, 27, 0, 128]
def k0_off140 (i : grid0.Coords) : Fin 4 → Nat :=
  let arg1 : BitVec 32 := BitVec.ofNat 32 (i 1).val
  let c2_i32 : BitVec 32 := 2#32
  let v2 : BitVec 32 := Scalar.remsi arg1 c2_i32
  let v3253 : Index := Scalar.indexCast v2
  let c28_1075 : Index := 28#32
  let c0_1076 : Index := 0#32
  let c128_1077 : Index := 128#32
  ![v3253.toNat, 28, 0, 128]
def k0_off141 (i : grid0.Coords) : Fin 4 → Nat :=
  let arg1 : BitVec 32 := BitVec.ofNat 32 (i 1).val
  let c2_i32 : BitVec 32 := 2#32
  let v2 : BitVec 32 := Scalar.remsi arg1 c2_i32
  let v3262 : Index := Scalar.indexCast v2
  let c29_1082 : Index := 29#32
  let c0_1083 : Index := 0#32
  let c128_1084 : Index := 128#32
  ![v3262.toNat, 29, 0, 128]
def k0_off142 (i : grid0.Coords) : Fin 4 → Nat :=
  let arg1 : BitVec 32 := BitVec.ofNat 32 (i 1).val
  let c2_i32 : BitVec 32 := 2#32
  let v2 : BitVec 32 := Scalar.remsi arg1 c2_i32
  let v3271 : Index := Scalar.indexCast v2
  let c30_1089 : Index := 30#32
  let c0_1090 : Index := 0#32
  let c128_1091 : Index := 128#32
  ![v3271.toNat, 30, 0, 128]
def k0_off143 (i : grid0.Coords) : Fin 4 → Nat :=
  let arg1 : BitVec 32 := BitVec.ofNat 32 (i 1).val
  let c2_i32 : BitVec 32 := 2#32
  let v2 : BitVec 32 := Scalar.remsi arg1 c2_i32
  let v3280 : Index := Scalar.indexCast v2
  let c31_1096 : Index := 31#32
  let c0_1097 : Index := 0#32
  let c128_1098 : Index := 128#32
  ![v3280.toNat, 31, 0, 128]
def k0_off144 (i : grid0.Coords) : Fin 4 → Nat :=
  let arg1 : BitVec 32 := BitVec.ofNat 32 (i 1).val
  let c2_i32 : BitVec 32 := 2#32
  let v2 : BitVec 32 := Scalar.remsi arg1 c2_i32
  let v3290 : Index := Scalar.indexCast v2
  let c0_1103 : Index := 0#32
  let c128_1104 : Index := 128#32
  let c0_1105 : Index := 0#32
  ![v3290.toNat, 0, 128, 0]
def k0_off145 (i : grid0.Coords) : Fin 4 → Nat :=
  let arg1 : BitVec 32 := BitVec.ofNat 32 (i 1).val
  let c2_i32 : BitVec 32 := 2#32
  let v2 : BitVec 32 := Scalar.remsi arg1 c2_i32
  let v3299 : Index := Scalar.indexCast v2
  let c1_1110 : Index := 1#32
  let c128_1111 : Index := 128#32
  let c0_1112 : Index := 0#32
  ![v3299.toNat, 1, 128, 0]
def k0_off146 (i : grid0.Coords) : Fin 4 → Nat :=
  let arg1 : BitVec 32 := BitVec.ofNat 32 (i 1).val
  let c2_i32 : BitVec 32 := 2#32
  let v2 : BitVec 32 := Scalar.remsi arg1 c2_i32
  let v3308 : Index := Scalar.indexCast v2
  let c2_1117 : Index := 2#32
  let c128_1118 : Index := 128#32
  let c0_1119 : Index := 0#32
  ![v3308.toNat, 2, 128, 0]
def k0_off147 (i : grid0.Coords) : Fin 4 → Nat :=
  let arg1 : BitVec 32 := BitVec.ofNat 32 (i 1).val
  let c2_i32 : BitVec 32 := 2#32
  let v2 : BitVec 32 := Scalar.remsi arg1 c2_i32
  let v3317 : Index := Scalar.indexCast v2
  let c3_1124 : Index := 3#32
  let c128_1125 : Index := 128#32
  let c0_1126 : Index := 0#32
  ![v3317.toNat, 3, 128, 0]
def k0_off148 (i : grid0.Coords) : Fin 4 → Nat :=
  let arg1 : BitVec 32 := BitVec.ofNat 32 (i 1).val
  let c2_i32 : BitVec 32 := 2#32
  let v2 : BitVec 32 := Scalar.remsi arg1 c2_i32
  let v3326 : Index := Scalar.indexCast v2
  let c4_1131 : Index := 4#32
  let c128_1132 : Index := 128#32
  let c0_1133 : Index := 0#32
  ![v3326.toNat, 4, 128, 0]
def k0_off149 (i : grid0.Coords) : Fin 4 → Nat :=
  let arg1 : BitVec 32 := BitVec.ofNat 32 (i 1).val
  let c2_i32 : BitVec 32 := 2#32
  let v2 : BitVec 32 := Scalar.remsi arg1 c2_i32
  let v3335 : Index := Scalar.indexCast v2
  let c5_1138 : Index := 5#32
  let c128_1139 : Index := 128#32
  let c0_1140 : Index := 0#32
  ![v3335.toNat, 5, 128, 0]
def k0_off150 (i : grid0.Coords) : Fin 4 → Nat :=
  let arg1 : BitVec 32 := BitVec.ofNat 32 (i 1).val
  let c2_i32 : BitVec 32 := 2#32
  let v2 : BitVec 32 := Scalar.remsi arg1 c2_i32
  let v3344 : Index := Scalar.indexCast v2
  let c6_1145 : Index := 6#32
  let c128_1146 : Index := 128#32
  let c0_1147 : Index := 0#32
  ![v3344.toNat, 6, 128, 0]
def k0_off151 (i : grid0.Coords) : Fin 4 → Nat :=
  let arg1 : BitVec 32 := BitVec.ofNat 32 (i 1).val
  let c2_i32 : BitVec 32 := 2#32
  let v2 : BitVec 32 := Scalar.remsi arg1 c2_i32
  let v3353 : Index := Scalar.indexCast v2
  let c7_1152 : Index := 7#32
  let c128_1153 : Index := 128#32
  let c0_1154 : Index := 0#32
  ![v3353.toNat, 7, 128, 0]
def k0_off152 (i : grid0.Coords) : Fin 4 → Nat :=
  let arg1 : BitVec 32 := BitVec.ofNat 32 (i 1).val
  let c2_i32 : BitVec 32 := 2#32
  let v2 : BitVec 32 := Scalar.remsi arg1 c2_i32
  let v3362 : Index := Scalar.indexCast v2
  let c8_1159 : Index := 8#32
  let c128_1160 : Index := 128#32
  let c0_1161 : Index := 0#32
  ![v3362.toNat, 8, 128, 0]
def k0_off153 (i : grid0.Coords) : Fin 4 → Nat :=
  let arg1 : BitVec 32 := BitVec.ofNat 32 (i 1).val
  let c2_i32 : BitVec 32 := 2#32
  let v2 : BitVec 32 := Scalar.remsi arg1 c2_i32
  let v3371 : Index := Scalar.indexCast v2
  let c9_1166 : Index := 9#32
  let c128_1167 : Index := 128#32
  let c0_1168 : Index := 0#32
  ![v3371.toNat, 9, 128, 0]
def k0_off154 (i : grid0.Coords) : Fin 4 → Nat :=
  let arg1 : BitVec 32 := BitVec.ofNat 32 (i 1).val
  let c2_i32 : BitVec 32 := 2#32
  let v2 : BitVec 32 := Scalar.remsi arg1 c2_i32
  let v3380 : Index := Scalar.indexCast v2
  let c10_1173 : Index := 10#32
  let c128_1174 : Index := 128#32
  let c0_1175 : Index := 0#32
  ![v3380.toNat, 10, 128, 0]
def k0_off155 (i : grid0.Coords) : Fin 4 → Nat :=
  let arg1 : BitVec 32 := BitVec.ofNat 32 (i 1).val
  let c2_i32 : BitVec 32 := 2#32
  let v2 : BitVec 32 := Scalar.remsi arg1 c2_i32
  let v3389 : Index := Scalar.indexCast v2
  let c11_1180 : Index := 11#32
  let c128_1181 : Index := 128#32
  let c0_1182 : Index := 0#32
  ![v3389.toNat, 11, 128, 0]
def k0_off156 (i : grid0.Coords) : Fin 4 → Nat :=
  let arg1 : BitVec 32 := BitVec.ofNat 32 (i 1).val
  let c2_i32 : BitVec 32 := 2#32
  let v2 : BitVec 32 := Scalar.remsi arg1 c2_i32
  let v3398 : Index := Scalar.indexCast v2
  let c12_1187 : Index := 12#32
  let c128_1188 : Index := 128#32
  let c0_1189 : Index := 0#32
  ![v3398.toNat, 12, 128, 0]
def k0_off157 (i : grid0.Coords) : Fin 4 → Nat :=
  let arg1 : BitVec 32 := BitVec.ofNat 32 (i 1).val
  let c2_i32 : BitVec 32 := 2#32
  let v2 : BitVec 32 := Scalar.remsi arg1 c2_i32
  let v3407 : Index := Scalar.indexCast v2
  let c13_1194 : Index := 13#32
  let c128_1195 : Index := 128#32
  let c0_1196 : Index := 0#32
  ![v3407.toNat, 13, 128, 0]
def k0_off158 (i : grid0.Coords) : Fin 4 → Nat :=
  let arg1 : BitVec 32 := BitVec.ofNat 32 (i 1).val
  let c2_i32 : BitVec 32 := 2#32
  let v2 : BitVec 32 := Scalar.remsi arg1 c2_i32
  let v3416 : Index := Scalar.indexCast v2
  let c14_1201 : Index := 14#32
  let c128_1202 : Index := 128#32
  let c0_1203 : Index := 0#32
  ![v3416.toNat, 14, 128, 0]
def k0_off159 (i : grid0.Coords) : Fin 4 → Nat :=
  let arg1 : BitVec 32 := BitVec.ofNat 32 (i 1).val
  let c2_i32 : BitVec 32 := 2#32
  let v2 : BitVec 32 := Scalar.remsi arg1 c2_i32
  let v3425 : Index := Scalar.indexCast v2
  let c15_1208 : Index := 15#32
  let c128_1209 : Index := 128#32
  let c0_1210 : Index := 0#32
  ![v3425.toNat, 15, 128, 0]
def k0_off160 (i : grid0.Coords) : Fin 4 → Nat :=
  let arg1 : BitVec 32 := BitVec.ofNat 32 (i 1).val
  let c2_i32 : BitVec 32 := 2#32
  let v2 : BitVec 32 := Scalar.remsi arg1 c2_i32
  let v3434 : Index := Scalar.indexCast v2
  let c16_1215 : Index := 16#32
  let c128_1216 : Index := 128#32
  let c0_1217 : Index := 0#32
  ![v3434.toNat, 16, 128, 0]
def k0_off161 (i : grid0.Coords) : Fin 4 → Nat :=
  let arg1 : BitVec 32 := BitVec.ofNat 32 (i 1).val
  let c2_i32 : BitVec 32 := 2#32
  let v2 : BitVec 32 := Scalar.remsi arg1 c2_i32
  let v3443 : Index := Scalar.indexCast v2
  let c17_1222 : Index := 17#32
  let c128_1223 : Index := 128#32
  let c0_1224 : Index := 0#32
  ![v3443.toNat, 17, 128, 0]
def k0_off162 (i : grid0.Coords) : Fin 4 → Nat :=
  let arg1 : BitVec 32 := BitVec.ofNat 32 (i 1).val
  let c2_i32 : BitVec 32 := 2#32
  let v2 : BitVec 32 := Scalar.remsi arg1 c2_i32
  let v3452 : Index := Scalar.indexCast v2
  let c18_1229 : Index := 18#32
  let c128_1230 : Index := 128#32
  let c0_1231 : Index := 0#32
  ![v3452.toNat, 18, 128, 0]
def k0_off163 (i : grid0.Coords) : Fin 4 → Nat :=
  let arg1 : BitVec 32 := BitVec.ofNat 32 (i 1).val
  let c2_i32 : BitVec 32 := 2#32
  let v2 : BitVec 32 := Scalar.remsi arg1 c2_i32
  let v3461 : Index := Scalar.indexCast v2
  let c19_1236 : Index := 19#32
  let c128_1237 : Index := 128#32
  let c0_1238 : Index := 0#32
  ![v3461.toNat, 19, 128, 0]
def k0_off164 (i : grid0.Coords) : Fin 4 → Nat :=
  let arg1 : BitVec 32 := BitVec.ofNat 32 (i 1).val
  let c2_i32 : BitVec 32 := 2#32
  let v2 : BitVec 32 := Scalar.remsi arg1 c2_i32
  let v3470 : Index := Scalar.indexCast v2
  let c20_1243 : Index := 20#32
  let c128_1244 : Index := 128#32
  let c0_1245 : Index := 0#32
  ![v3470.toNat, 20, 128, 0]
def k0_off165 (i : grid0.Coords) : Fin 4 → Nat :=
  let arg1 : BitVec 32 := BitVec.ofNat 32 (i 1).val
  let c2_i32 : BitVec 32 := 2#32
  let v2 : BitVec 32 := Scalar.remsi arg1 c2_i32
  let v3479 : Index := Scalar.indexCast v2
  let c21_1250 : Index := 21#32
  let c128_1251 : Index := 128#32
  let c0_1252 : Index := 0#32
  ![v3479.toNat, 21, 128, 0]
def k0_off166 (i : grid0.Coords) : Fin 4 → Nat :=
  let arg1 : BitVec 32 := BitVec.ofNat 32 (i 1).val
  let c2_i32 : BitVec 32 := 2#32
  let v2 : BitVec 32 := Scalar.remsi arg1 c2_i32
  let v3488 : Index := Scalar.indexCast v2
  let c22_1257 : Index := 22#32
  let c128_1258 : Index := 128#32
  let c0_1259 : Index := 0#32
  ![v3488.toNat, 22, 128, 0]
def k0_off167 (i : grid0.Coords) : Fin 4 → Nat :=
  let arg1 : BitVec 32 := BitVec.ofNat 32 (i 1).val
  let c2_i32 : BitVec 32 := 2#32
  let v2 : BitVec 32 := Scalar.remsi arg1 c2_i32
  let v3497 : Index := Scalar.indexCast v2
  let c23_1264 : Index := 23#32
  let c128_1265 : Index := 128#32
  let c0_1266 : Index := 0#32
  ![v3497.toNat, 23, 128, 0]
def k0_off168 (i : grid0.Coords) : Fin 4 → Nat :=
  let arg1 : BitVec 32 := BitVec.ofNat 32 (i 1).val
  let c2_i32 : BitVec 32 := 2#32
  let v2 : BitVec 32 := Scalar.remsi arg1 c2_i32
  let v3506 : Index := Scalar.indexCast v2
  let c24_1271 : Index := 24#32
  let c128_1272 : Index := 128#32
  let c0_1273 : Index := 0#32
  ![v3506.toNat, 24, 128, 0]
def k0_off169 (i : grid0.Coords) : Fin 4 → Nat :=
  let arg1 : BitVec 32 := BitVec.ofNat 32 (i 1).val
  let c2_i32 : BitVec 32 := 2#32
  let v2 : BitVec 32 := Scalar.remsi arg1 c2_i32
  let v3515 : Index := Scalar.indexCast v2
  let c25_1278 : Index := 25#32
  let c128_1279 : Index := 128#32
  let c0_1280 : Index := 0#32
  ![v3515.toNat, 25, 128, 0]
def k0_off170 (i : grid0.Coords) : Fin 4 → Nat :=
  let arg1 : BitVec 32 := BitVec.ofNat 32 (i 1).val
  let c2_i32 : BitVec 32 := 2#32
  let v2 : BitVec 32 := Scalar.remsi arg1 c2_i32
  let v3524 : Index := Scalar.indexCast v2
  let c26_1285 : Index := 26#32
  let c128_1286 : Index := 128#32
  let c0_1287 : Index := 0#32
  ![v3524.toNat, 26, 128, 0]
def k0_off171 (i : grid0.Coords) : Fin 4 → Nat :=
  let arg1 : BitVec 32 := BitVec.ofNat 32 (i 1).val
  let c2_i32 : BitVec 32 := 2#32
  let v2 : BitVec 32 := Scalar.remsi arg1 c2_i32
  let v3533 : Index := Scalar.indexCast v2
  let c27_1292 : Index := 27#32
  let c128_1293 : Index := 128#32
  let c0_1294 : Index := 0#32
  ![v3533.toNat, 27, 128, 0]
def k0_off172 (i : grid0.Coords) : Fin 4 → Nat :=
  let arg1 : BitVec 32 := BitVec.ofNat 32 (i 1).val
  let c2_i32 : BitVec 32 := 2#32
  let v2 : BitVec 32 := Scalar.remsi arg1 c2_i32
  let v3542 : Index := Scalar.indexCast v2
  let c28_1299 : Index := 28#32
  let c128_1300 : Index := 128#32
  let c0_1301 : Index := 0#32
  ![v3542.toNat, 28, 128, 0]
def k0_off173 (i : grid0.Coords) : Fin 4 → Nat :=
  let arg1 : BitVec 32 := BitVec.ofNat 32 (i 1).val
  let c2_i32 : BitVec 32 := 2#32
  let v2 : BitVec 32 := Scalar.remsi arg1 c2_i32
  let v3551 : Index := Scalar.indexCast v2
  let c29_1306 : Index := 29#32
  let c128_1307 : Index := 128#32
  let c0_1308 : Index := 0#32
  ![v3551.toNat, 29, 128, 0]
def k0_off174 (i : grid0.Coords) : Fin 4 → Nat :=
  let arg1 : BitVec 32 := BitVec.ofNat 32 (i 1).val
  let c2_i32 : BitVec 32 := 2#32
  let v2 : BitVec 32 := Scalar.remsi arg1 c2_i32
  let v3560 : Index := Scalar.indexCast v2
  let c30_1313 : Index := 30#32
  let c128_1314 : Index := 128#32
  let c0_1315 : Index := 0#32
  ![v3560.toNat, 30, 128, 0]
def k0_off175 (i : grid0.Coords) : Fin 4 → Nat :=
  let arg1 : BitVec 32 := BitVec.ofNat 32 (i 1).val
  let c2_i32 : BitVec 32 := 2#32
  let v2 : BitVec 32 := Scalar.remsi arg1 c2_i32
  let v3569 : Index := Scalar.indexCast v2
  let c31_1320 : Index := 31#32
  let c128_1321 : Index := 128#32
  let c0_1322 : Index := 0#32
  ![v3569.toNat, 31, 128, 0]
def k0_off176 (i : grid0.Coords) : Fin 4 → Nat :=
  let arg1 : BitVec 32 := BitVec.ofNat 32 (i 1).val
  let c2_i32 : BitVec 32 := 2#32
  let v2 : BitVec 32 := Scalar.remsi arg1 c2_i32
  let v3581 : Index := Scalar.indexCast v2
  let c0_1327 : Index := 0#32
  let c128_1328 : Index := 128#32
  let c128_1329 : Index := 128#32
  ![v3581.toNat, 0, 128, 128]
def k0_off177 (i : grid0.Coords) : Fin 4 → Nat :=
  let arg1 : BitVec 32 := BitVec.ofNat 32 (i 1).val
  let c2_i32 : BitVec 32 := 2#32
  let v2 : BitVec 32 := Scalar.remsi arg1 c2_i32
  let v3594 : Index := Scalar.indexCast v2
  let c1_1334 : Index := 1#32
  let c128_1335 : Index := 128#32
  let c128_1336 : Index := 128#32
  ![v3594.toNat, 1, 128, 128]
def k0_off178 (i : grid0.Coords) : Fin 4 → Nat :=
  let arg1 : BitVec 32 := BitVec.ofNat 32 (i 1).val
  let c2_i32 : BitVec 32 := 2#32
  let v2 : BitVec 32 := Scalar.remsi arg1 c2_i32
  let v3607 : Index := Scalar.indexCast v2
  let c2_1341 : Index := 2#32
  let c128_1342 : Index := 128#32
  let c128_1343 : Index := 128#32
  ![v3607.toNat, 2, 128, 128]
def k0_off179 (i : grid0.Coords) : Fin 4 → Nat :=
  let arg1 : BitVec 32 := BitVec.ofNat 32 (i 1).val
  let c2_i32 : BitVec 32 := 2#32
  let v2 : BitVec 32 := Scalar.remsi arg1 c2_i32
  let v3620 : Index := Scalar.indexCast v2
  let c3_1348 : Index := 3#32
  let c128_1349 : Index := 128#32
  let c128_1350 : Index := 128#32
  ![v3620.toNat, 3, 128, 128]
def k0_off180 (i : grid0.Coords) : Fin 4 → Nat :=
  let arg1 : BitVec 32 := BitVec.ofNat 32 (i 1).val
  let c2_i32 : BitVec 32 := 2#32
  let v2 : BitVec 32 := Scalar.remsi arg1 c2_i32
  let v3633 : Index := Scalar.indexCast v2
  let c4_1355 : Index := 4#32
  let c128_1356 : Index := 128#32
  let c128_1357 : Index := 128#32
  ![v3633.toNat, 4, 128, 128]
def k0_off181 (i : grid0.Coords) : Fin 4 → Nat :=
  let arg1 : BitVec 32 := BitVec.ofNat 32 (i 1).val
  let c2_i32 : BitVec 32 := 2#32
  let v2 : BitVec 32 := Scalar.remsi arg1 c2_i32
  let v3646 : Index := Scalar.indexCast v2
  let c5_1362 : Index := 5#32
  let c128_1363 : Index := 128#32
  let c128_1364 : Index := 128#32
  ![v3646.toNat, 5, 128, 128]
def k0_off182 (i : grid0.Coords) : Fin 4 → Nat :=
  let arg1 : BitVec 32 := BitVec.ofNat 32 (i 1).val
  let c2_i32 : BitVec 32 := 2#32
  let v2 : BitVec 32 := Scalar.remsi arg1 c2_i32
  let v3659 : Index := Scalar.indexCast v2
  let c6_1369 : Index := 6#32
  let c128_1370 : Index := 128#32
  let c128_1371 : Index := 128#32
  ![v3659.toNat, 6, 128, 128]
def k0_off183 (i : grid0.Coords) : Fin 4 → Nat :=
  let arg1 : BitVec 32 := BitVec.ofNat 32 (i 1).val
  let c2_i32 : BitVec 32 := 2#32
  let v2 : BitVec 32 := Scalar.remsi arg1 c2_i32
  let v3672 : Index := Scalar.indexCast v2
  let c7_1376 : Index := 7#32
  let c128_1377 : Index := 128#32
  let c128_1378 : Index := 128#32
  ![v3672.toNat, 7, 128, 128]
def k0_off184 (i : grid0.Coords) : Fin 4 → Nat :=
  let arg1 : BitVec 32 := BitVec.ofNat 32 (i 1).val
  let c2_i32 : BitVec 32 := 2#32
  let v2 : BitVec 32 := Scalar.remsi arg1 c2_i32
  let v3685 : Index := Scalar.indexCast v2
  let c8_1383 : Index := 8#32
  let c128_1384 : Index := 128#32
  let c128_1385 : Index := 128#32
  ![v3685.toNat, 8, 128, 128]
def k0_off185 (i : grid0.Coords) : Fin 4 → Nat :=
  let arg1 : BitVec 32 := BitVec.ofNat 32 (i 1).val
  let c2_i32 : BitVec 32 := 2#32
  let v2 : BitVec 32 := Scalar.remsi arg1 c2_i32
  let v3698 : Index := Scalar.indexCast v2
  let c9_1390 : Index := 9#32
  let c128_1391 : Index := 128#32
  let c128_1392 : Index := 128#32
  ![v3698.toNat, 9, 128, 128]
def k0_off186 (i : grid0.Coords) : Fin 4 → Nat :=
  let arg1 : BitVec 32 := BitVec.ofNat 32 (i 1).val
  let c2_i32 : BitVec 32 := 2#32
  let v2 : BitVec 32 := Scalar.remsi arg1 c2_i32
  let v3711 : Index := Scalar.indexCast v2
  let c10_1397 : Index := 10#32
  let c128_1398 : Index := 128#32
  let c128_1399 : Index := 128#32
  ![v3711.toNat, 10, 128, 128]
def k0_off187 (i : grid0.Coords) : Fin 4 → Nat :=
  let arg1 : BitVec 32 := BitVec.ofNat 32 (i 1).val
  let c2_i32 : BitVec 32 := 2#32
  let v2 : BitVec 32 := Scalar.remsi arg1 c2_i32
  let v3724 : Index := Scalar.indexCast v2
  let c11_1404 : Index := 11#32
  let c128_1405 : Index := 128#32
  let c128_1406 : Index := 128#32
  ![v3724.toNat, 11, 128, 128]
def k0_off188 (i : grid0.Coords) : Fin 4 → Nat :=
  let arg1 : BitVec 32 := BitVec.ofNat 32 (i 1).val
  let c2_i32 : BitVec 32 := 2#32
  let v2 : BitVec 32 := Scalar.remsi arg1 c2_i32
  let v3737 : Index := Scalar.indexCast v2
  let c12_1411 : Index := 12#32
  let c128_1412 : Index := 128#32
  let c128_1413 : Index := 128#32
  ![v3737.toNat, 12, 128, 128]
def k0_off189 (i : grid0.Coords) : Fin 4 → Nat :=
  let arg1 : BitVec 32 := BitVec.ofNat 32 (i 1).val
  let c2_i32 : BitVec 32 := 2#32
  let v2 : BitVec 32 := Scalar.remsi arg1 c2_i32
  let v3750 : Index := Scalar.indexCast v2
  let c13_1418 : Index := 13#32
  let c128_1419 : Index := 128#32
  let c128_1420 : Index := 128#32
  ![v3750.toNat, 13, 128, 128]
def k0_off190 (i : grid0.Coords) : Fin 4 → Nat :=
  let arg1 : BitVec 32 := BitVec.ofNat 32 (i 1).val
  let c2_i32 : BitVec 32 := 2#32
  let v2 : BitVec 32 := Scalar.remsi arg1 c2_i32
  let v3763 : Index := Scalar.indexCast v2
  let c14_1425 : Index := 14#32
  let c128_1426 : Index := 128#32
  let c128_1427 : Index := 128#32
  ![v3763.toNat, 14, 128, 128]
def k0_off191 (i : grid0.Coords) : Fin 4 → Nat :=
  let arg1 : BitVec 32 := BitVec.ofNat 32 (i 1).val
  let c2_i32 : BitVec 32 := 2#32
  let v2 : BitVec 32 := Scalar.remsi arg1 c2_i32
  let v3776 : Index := Scalar.indexCast v2
  let c15_1432 : Index := 15#32
  let c128_1433 : Index := 128#32
  let c128_1434 : Index := 128#32
  ![v3776.toNat, 15, 128, 128]
def k0_off192 (i : grid0.Coords) : Fin 4 → Nat :=
  let arg1 : BitVec 32 := BitVec.ofNat 32 (i 1).val
  let c2_i32 : BitVec 32 := 2#32
  let v2 : BitVec 32 := Scalar.remsi arg1 c2_i32
  let v3789 : Index := Scalar.indexCast v2
  let c16_1439 : Index := 16#32
  let c128_1440 : Index := 128#32
  let c128_1441 : Index := 128#32
  ![v3789.toNat, 16, 128, 128]
def k0_off193 (i : grid0.Coords) : Fin 4 → Nat :=
  let arg1 : BitVec 32 := BitVec.ofNat 32 (i 1).val
  let c2_i32 : BitVec 32 := 2#32
  let v2 : BitVec 32 := Scalar.remsi arg1 c2_i32
  let v3802 : Index := Scalar.indexCast v2
  let c17_1446 : Index := 17#32
  let c128_1447 : Index := 128#32
  let c128_1448 : Index := 128#32
  ![v3802.toNat, 17, 128, 128]
def k0_off194 (i : grid0.Coords) : Fin 4 → Nat :=
  let arg1 : BitVec 32 := BitVec.ofNat 32 (i 1).val
  let c2_i32 : BitVec 32 := 2#32
  let v2 : BitVec 32 := Scalar.remsi arg1 c2_i32
  let v3815 : Index := Scalar.indexCast v2
  let c18_1453 : Index := 18#32
  let c128_1454 : Index := 128#32
  let c128_1455 : Index := 128#32
  ![v3815.toNat, 18, 128, 128]
def k0_off195 (i : grid0.Coords) : Fin 4 → Nat :=
  let arg1 : BitVec 32 := BitVec.ofNat 32 (i 1).val
  let c2_i32 : BitVec 32 := 2#32
  let v2 : BitVec 32 := Scalar.remsi arg1 c2_i32
  let v3828 : Index := Scalar.indexCast v2
  let c19_1460 : Index := 19#32
  let c128_1461 : Index := 128#32
  let c128_1462 : Index := 128#32
  ![v3828.toNat, 19, 128, 128]
def k0_off196 (i : grid0.Coords) : Fin 4 → Nat :=
  let arg1 : BitVec 32 := BitVec.ofNat 32 (i 1).val
  let c2_i32 : BitVec 32 := 2#32
  let v2 : BitVec 32 := Scalar.remsi arg1 c2_i32
  let v3841 : Index := Scalar.indexCast v2
  let c20_1467 : Index := 20#32
  let c128_1468 : Index := 128#32
  let c128_1469 : Index := 128#32
  ![v3841.toNat, 20, 128, 128]
def k0_off197 (i : grid0.Coords) : Fin 4 → Nat :=
  let arg1 : BitVec 32 := BitVec.ofNat 32 (i 1).val
  let c2_i32 : BitVec 32 := 2#32
  let v2 : BitVec 32 := Scalar.remsi arg1 c2_i32
  let v3854 : Index := Scalar.indexCast v2
  let c21_1474 : Index := 21#32
  let c128_1475 : Index := 128#32
  let c128_1476 : Index := 128#32
  ![v3854.toNat, 21, 128, 128]
def k0_off198 (i : grid0.Coords) : Fin 4 → Nat :=
  let arg1 : BitVec 32 := BitVec.ofNat 32 (i 1).val
  let c2_i32 : BitVec 32 := 2#32
  let v2 : BitVec 32 := Scalar.remsi arg1 c2_i32
  let v3867 : Index := Scalar.indexCast v2
  let c22_1481 : Index := 22#32
  let c128_1482 : Index := 128#32
  let c128_1483 : Index := 128#32
  ![v3867.toNat, 22, 128, 128]
def k0_off199 (i : grid0.Coords) : Fin 4 → Nat :=
  let arg1 : BitVec 32 := BitVec.ofNat 32 (i 1).val
  let c2_i32 : BitVec 32 := 2#32
  let v2 : BitVec 32 := Scalar.remsi arg1 c2_i32
  let v3880 : Index := Scalar.indexCast v2
  let c23_1488 : Index := 23#32
  let c128_1489 : Index := 128#32
  let c128_1490 : Index := 128#32
  ![v3880.toNat, 23, 128, 128]
def k0_off200 (i : grid0.Coords) : Fin 4 → Nat :=
  let arg1 : BitVec 32 := BitVec.ofNat 32 (i 1).val
  let c2_i32 : BitVec 32 := 2#32
  let v2 : BitVec 32 := Scalar.remsi arg1 c2_i32
  let v3893 : Index := Scalar.indexCast v2
  let c24_1495 : Index := 24#32
  let c128_1496 : Index := 128#32
  let c128_1497 : Index := 128#32
  ![v3893.toNat, 24, 128, 128]
def k0_off201 (i : grid0.Coords) : Fin 4 → Nat :=
  let arg1 : BitVec 32 := BitVec.ofNat 32 (i 1).val
  let c2_i32 : BitVec 32 := 2#32
  let v2 : BitVec 32 := Scalar.remsi arg1 c2_i32
  let v3906 : Index := Scalar.indexCast v2
  let c25_1502 : Index := 25#32
  let c128_1503 : Index := 128#32
  let c128_1504 : Index := 128#32
  ![v3906.toNat, 25, 128, 128]
def k0_off202 (i : grid0.Coords) : Fin 4 → Nat :=
  let arg1 : BitVec 32 := BitVec.ofNat 32 (i 1).val
  let c2_i32 : BitVec 32 := 2#32
  let v2 : BitVec 32 := Scalar.remsi arg1 c2_i32
  let v3919 : Index := Scalar.indexCast v2
  let c26_1509 : Index := 26#32
  let c128_1510 : Index := 128#32
  let c128_1511 : Index := 128#32
  ![v3919.toNat, 26, 128, 128]
def k0_off203 (i : grid0.Coords) : Fin 4 → Nat :=
  let arg1 : BitVec 32 := BitVec.ofNat 32 (i 1).val
  let c2_i32 : BitVec 32 := 2#32
  let v2 : BitVec 32 := Scalar.remsi arg1 c2_i32
  let v3932 : Index := Scalar.indexCast v2
  let c27_1516 : Index := 27#32
  let c128_1517 : Index := 128#32
  let c128_1518 : Index := 128#32
  ![v3932.toNat, 27, 128, 128]
def k0_off204 (i : grid0.Coords) : Fin 4 → Nat :=
  let arg1 : BitVec 32 := BitVec.ofNat 32 (i 1).val
  let c2_i32 : BitVec 32 := 2#32
  let v2 : BitVec 32 := Scalar.remsi arg1 c2_i32
  let v3945 : Index := Scalar.indexCast v2
  let c28_1523 : Index := 28#32
  let c128_1524 : Index := 128#32
  let c128_1525 : Index := 128#32
  ![v3945.toNat, 28, 128, 128]
def k0_off205 (i : grid0.Coords) : Fin 4 → Nat :=
  let arg1 : BitVec 32 := BitVec.ofNat 32 (i 1).val
  let c2_i32 : BitVec 32 := 2#32
  let v2 : BitVec 32 := Scalar.remsi arg1 c2_i32
  let v3958 : Index := Scalar.indexCast v2
  let c29_1530 : Index := 29#32
  let c128_1531 : Index := 128#32
  let c128_1532 : Index := 128#32
  ![v3958.toNat, 29, 128, 128]
def k0_off206 (i : grid0.Coords) : Fin 4 → Nat :=
  let arg1 : BitVec 32 := BitVec.ofNat 32 (i 1).val
  let c2_i32 : BitVec 32 := 2#32
  let v2 : BitVec 32 := Scalar.remsi arg1 c2_i32
  let v3971 : Index := Scalar.indexCast v2
  let c30_1537 : Index := 30#32
  let c128_1538 : Index := 128#32
  let c128_1539 : Index := 128#32
  ![v3971.toNat, 30, 128, 128]
def k0_off207 (i : grid0.Coords) : Fin 4 → Nat :=
  let arg1 : BitVec 32 := BitVec.ofNat 32 (i 1).val
  let c2_i32 : BitVec 32 := 2#32
  let v2 : BitVec 32 := Scalar.remsi arg1 c2_i32
  let v3984 : Index := Scalar.indexCast v2
  let c31_1544 : Index := 31#32
  let c128_1545 : Index := 128#32
  let c128_1546 : Index := 128#32
  ![v3984.toNat, 31, 128, 128]
def k0_off208 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_1553 : BitVec 32 := 0#32
  let c0_i32_1554 : BitVec 32 := 0#32
  let c0_i32_1555 : BitVec 32 := 0#32
  ![v1.toNat, 0, 0, 0]
def k0_off209 (i : grid0.Coords) : Fin 4 → Nat :=
  let arg1 : BitVec 32 := BitVec.ofNat 32 (i 1).val
  let c2_i32 : BitVec 32 := 2#32
  let v2 : BitVec 32 := Scalar.remsi arg1 c2_i32
  let v4521 : Index := Scalar.indexCast v2
  let c32_1785 : Index := 32#32
  let c0_1786 : Index := 0#32
  let c0_1787 : Index := 0#32
  ![v4521.toNat, 32, 0, 0]
def k0_off210 (i : grid0.Coords) : Fin 4 → Nat :=
  let arg1 : BitVec 32 := BitVec.ofNat 32 (i 1).val
  let c2_i32 : BitVec 32 := 2#32
  let v2 : BitVec 32 := Scalar.remsi arg1 c2_i32
  let v4534 : Index := Scalar.indexCast v2
  let c33_1792 : Index := 33#32
  let c0_1793 : Index := 0#32
  let c0_1794 : Index := 0#32
  ![v4534.toNat, 33, 0, 0]
def k0_off211 (i : grid0.Coords) : Fin 4 → Nat :=
  let arg1 : BitVec 32 := BitVec.ofNat 32 (i 1).val
  let c2_i32 : BitVec 32 := 2#32
  let v2 : BitVec 32 := Scalar.remsi arg1 c2_i32
  let v4547 : Index := Scalar.indexCast v2
  let c34_1799 : Index := 34#32
  let c0_1800 : Index := 0#32
  let c0_1801 : Index := 0#32
  ![v4547.toNat, 34, 0, 0]
def k0_off212 (i : grid0.Coords) : Fin 4 → Nat :=
  let arg1 : BitVec 32 := BitVec.ofNat 32 (i 1).val
  let c2_i32 : BitVec 32 := 2#32
  let v2 : BitVec 32 := Scalar.remsi arg1 c2_i32
  let v4560 : Index := Scalar.indexCast v2
  let c35_1806 : Index := 35#32
  let c0_1807 : Index := 0#32
  let c0_1808 : Index := 0#32
  ![v4560.toNat, 35, 0, 0]
def k0_off213 (i : grid0.Coords) : Fin 4 → Nat :=
  let arg1 : BitVec 32 := BitVec.ofNat 32 (i 1).val
  let c2_i32 : BitVec 32 := 2#32
  let v2 : BitVec 32 := Scalar.remsi arg1 c2_i32
  let v4573 : Index := Scalar.indexCast v2
  let c36_1813 : Index := 36#32
  let c0_1814 : Index := 0#32
  let c0_1815 : Index := 0#32
  ![v4573.toNat, 36, 0, 0]
def k0_off214 (i : grid0.Coords) : Fin 4 → Nat :=
  let arg1 : BitVec 32 := BitVec.ofNat 32 (i 1).val
  let c2_i32 : BitVec 32 := 2#32
  let v2 : BitVec 32 := Scalar.remsi arg1 c2_i32
  let v4586 : Index := Scalar.indexCast v2
  let c37_1820 : Index := 37#32
  let c0_1821 : Index := 0#32
  let c0_1822 : Index := 0#32
  ![v4586.toNat, 37, 0, 0]
def k0_off215 (i : grid0.Coords) : Fin 4 → Nat :=
  let arg1 : BitVec 32 := BitVec.ofNat 32 (i 1).val
  let c2_i32 : BitVec 32 := 2#32
  let v2 : BitVec 32 := Scalar.remsi arg1 c2_i32
  let v4599 : Index := Scalar.indexCast v2
  let c38_1827 : Index := 38#32
  let c0_1828 : Index := 0#32
  let c0_1829 : Index := 0#32
  ![v4599.toNat, 38, 0, 0]
def k0_off216 (i : grid0.Coords) : Fin 4 → Nat :=
  let arg1 : BitVec 32 := BitVec.ofNat 32 (i 1).val
  let c2_i32 : BitVec 32 := 2#32
  let v2 : BitVec 32 := Scalar.remsi arg1 c2_i32
  let v4612 : Index := Scalar.indexCast v2
  let c39_1834 : Index := 39#32
  let c0_1835 : Index := 0#32
  let c0_1836 : Index := 0#32
  ![v4612.toNat, 39, 0, 0]
def k0_off217 (i : grid0.Coords) : Fin 4 → Nat :=
  let arg1 : BitVec 32 := BitVec.ofNat 32 (i 1).val
  let c2_i32 : BitVec 32 := 2#32
  let v2 : BitVec 32 := Scalar.remsi arg1 c2_i32
  let v4625 : Index := Scalar.indexCast v2
  let c40_1841 : Index := 40#32
  let c0_1842 : Index := 0#32
  let c0_1843 : Index := 0#32
  ![v4625.toNat, 40, 0, 0]
def k0_off218 (i : grid0.Coords) : Fin 4 → Nat :=
  let arg1 : BitVec 32 := BitVec.ofNat 32 (i 1).val
  let c2_i32 : BitVec 32 := 2#32
  let v2 : BitVec 32 := Scalar.remsi arg1 c2_i32
  let v4638 : Index := Scalar.indexCast v2
  let c41_1848 : Index := 41#32
  let c0_1849 : Index := 0#32
  let c0_1850 : Index := 0#32
  ![v4638.toNat, 41, 0, 0]
def k0_off219 (i : grid0.Coords) : Fin 4 → Nat :=
  let arg1 : BitVec 32 := BitVec.ofNat 32 (i 1).val
  let c2_i32 : BitVec 32 := 2#32
  let v2 : BitVec 32 := Scalar.remsi arg1 c2_i32
  let v4651 : Index := Scalar.indexCast v2
  let c42_1855 : Index := 42#32
  let c0_1856 : Index := 0#32
  let c0_1857 : Index := 0#32
  ![v4651.toNat, 42, 0, 0]
def k0_off220 (i : grid0.Coords) : Fin 4 → Nat :=
  let arg1 : BitVec 32 := BitVec.ofNat 32 (i 1).val
  let c2_i32 : BitVec 32 := 2#32
  let v2 : BitVec 32 := Scalar.remsi arg1 c2_i32
  let v4664 : Index := Scalar.indexCast v2
  let c43_1862 : Index := 43#32
  let c0_1863 : Index := 0#32
  let c0_1864 : Index := 0#32
  ![v4664.toNat, 43, 0, 0]
def k0_off221 (i : grid0.Coords) : Fin 4 → Nat :=
  let arg1 : BitVec 32 := BitVec.ofNat 32 (i 1).val
  let c2_i32 : BitVec 32 := 2#32
  let v2 : BitVec 32 := Scalar.remsi arg1 c2_i32
  let v4677 : Index := Scalar.indexCast v2
  let c44_1869 : Index := 44#32
  let c0_1870 : Index := 0#32
  let c0_1871 : Index := 0#32
  ![v4677.toNat, 44, 0, 0]
def k0_off222 (i : grid0.Coords) : Fin 4 → Nat :=
  let arg1 : BitVec 32 := BitVec.ofNat 32 (i 1).val
  let c2_i32 : BitVec 32 := 2#32
  let v2 : BitVec 32 := Scalar.remsi arg1 c2_i32
  let v4690 : Index := Scalar.indexCast v2
  let c45_1876 : Index := 45#32
  let c0_1877 : Index := 0#32
  let c0_1878 : Index := 0#32
  ![v4690.toNat, 45, 0, 0]
def k0_off223 (i : grid0.Coords) : Fin 4 → Nat :=
  let arg1 : BitVec 32 := BitVec.ofNat 32 (i 1).val
  let c2_i32 : BitVec 32 := 2#32
  let v2 : BitVec 32 := Scalar.remsi arg1 c2_i32
  let v4703 : Index := Scalar.indexCast v2
  let c46_1883 : Index := 46#32
  let c0_1884 : Index := 0#32
  let c0_1885 : Index := 0#32
  ![v4703.toNat, 46, 0, 0]
def k0_off224 (i : grid0.Coords) : Fin 4 → Nat :=
  let arg1 : BitVec 32 := BitVec.ofNat 32 (i 1).val
  let c2_i32 : BitVec 32 := 2#32
  let v2 : BitVec 32 := Scalar.remsi arg1 c2_i32
  let v4716 : Index := Scalar.indexCast v2
  let c47_1890 : Index := 47#32
  let c0_1891 : Index := 0#32
  let c0_1892 : Index := 0#32
  ![v4716.toNat, 47, 0, 0]
def k0_off225 (i : grid0.Coords) : Fin 4 → Nat :=
  let arg1 : BitVec 32 := BitVec.ofNat 32 (i 1).val
  let c2_i32 : BitVec 32 := 2#32
  let v2 : BitVec 32 := Scalar.remsi arg1 c2_i32
  let v4729 : Index := Scalar.indexCast v2
  let c48_1897 : Index := 48#32
  let c0_1898 : Index := 0#32
  let c0_1899 : Index := 0#32
  ![v4729.toNat, 48, 0, 0]
def k0_off226 (i : grid0.Coords) : Fin 4 → Nat :=
  let arg1 : BitVec 32 := BitVec.ofNat 32 (i 1).val
  let c2_i32 : BitVec 32 := 2#32
  let v2 : BitVec 32 := Scalar.remsi arg1 c2_i32
  let v4742 : Index := Scalar.indexCast v2
  let c49_1904 : Index := 49#32
  let c0_1905 : Index := 0#32
  let c0_1906 : Index := 0#32
  ![v4742.toNat, 49, 0, 0]
def k0_off227 (i : grid0.Coords) : Fin 4 → Nat :=
  let arg1 : BitVec 32 := BitVec.ofNat 32 (i 1).val
  let c2_i32 : BitVec 32 := 2#32
  let v2 : BitVec 32 := Scalar.remsi arg1 c2_i32
  let v4755 : Index := Scalar.indexCast v2
  let c50_1911 : Index := 50#32
  let c0_1912 : Index := 0#32
  let c0_1913 : Index := 0#32
  ![v4755.toNat, 50, 0, 0]
def k0_off228 (i : grid0.Coords) : Fin 4 → Nat :=
  let arg1 : BitVec 32 := BitVec.ofNat 32 (i 1).val
  let c2_i32 : BitVec 32 := 2#32
  let v2 : BitVec 32 := Scalar.remsi arg1 c2_i32
  let v4768 : Index := Scalar.indexCast v2
  let c51_1918 : Index := 51#32
  let c0_1919 : Index := 0#32
  let c0_1920 : Index := 0#32
  ![v4768.toNat, 51, 0, 0]
def k0_off229 (i : grid0.Coords) : Fin 4 → Nat :=
  let arg1 : BitVec 32 := BitVec.ofNat 32 (i 1).val
  let c2_i32 : BitVec 32 := 2#32
  let v2 : BitVec 32 := Scalar.remsi arg1 c2_i32
  let v4781 : Index := Scalar.indexCast v2
  let c52_1925 : Index := 52#32
  let c0_1926 : Index := 0#32
  let c0_1927 : Index := 0#32
  ![v4781.toNat, 52, 0, 0]
def k0_off230 (i : grid0.Coords) : Fin 4 → Nat :=
  let arg1 : BitVec 32 := BitVec.ofNat 32 (i 1).val
  let c2_i32 : BitVec 32 := 2#32
  let v2 : BitVec 32 := Scalar.remsi arg1 c2_i32
  let v4794 : Index := Scalar.indexCast v2
  let c53_1932 : Index := 53#32
  let c0_1933 : Index := 0#32
  let c0_1934 : Index := 0#32
  ![v4794.toNat, 53, 0, 0]
def k0_off231 (i : grid0.Coords) : Fin 4 → Nat :=
  let arg1 : BitVec 32 := BitVec.ofNat 32 (i 1).val
  let c2_i32 : BitVec 32 := 2#32
  let v2 : BitVec 32 := Scalar.remsi arg1 c2_i32
  let v4807 : Index := Scalar.indexCast v2
  let c54_1939 : Index := 54#32
  let c0_1940 : Index := 0#32
  let c0_1941 : Index := 0#32
  ![v4807.toNat, 54, 0, 0]
def k0_off232 (i : grid0.Coords) : Fin 4 → Nat :=
  let arg1 : BitVec 32 := BitVec.ofNat 32 (i 1).val
  let c2_i32 : BitVec 32 := 2#32
  let v2 : BitVec 32 := Scalar.remsi arg1 c2_i32
  let v4820 : Index := Scalar.indexCast v2
  let c55_1946 : Index := 55#32
  let c0_1947 : Index := 0#32
  let c0_1948 : Index := 0#32
  ![v4820.toNat, 55, 0, 0]
def k0_off233 (i : grid0.Coords) : Fin 4 → Nat :=
  let arg1 : BitVec 32 := BitVec.ofNat 32 (i 1).val
  let c2_i32 : BitVec 32 := 2#32
  let v2 : BitVec 32 := Scalar.remsi arg1 c2_i32
  let v4833 : Index := Scalar.indexCast v2
  let c56_1953 : Index := 56#32
  let c0_1954 : Index := 0#32
  let c0_1955 : Index := 0#32
  ![v4833.toNat, 56, 0, 0]
def k0_off234 (i : grid0.Coords) : Fin 4 → Nat :=
  let arg1 : BitVec 32 := BitVec.ofNat 32 (i 1).val
  let c2_i32 : BitVec 32 := 2#32
  let v2 : BitVec 32 := Scalar.remsi arg1 c2_i32
  let v4846 : Index := Scalar.indexCast v2
  let c57_1960 : Index := 57#32
  let c0_1961 : Index := 0#32
  let c0_1962 : Index := 0#32
  ![v4846.toNat, 57, 0, 0]
def k0_off235 (i : grid0.Coords) : Fin 4 → Nat :=
  let arg1 : BitVec 32 := BitVec.ofNat 32 (i 1).val
  let c2_i32 : BitVec 32 := 2#32
  let v2 : BitVec 32 := Scalar.remsi arg1 c2_i32
  let v4859 : Index := Scalar.indexCast v2
  let c58_1967 : Index := 58#32
  let c0_1968 : Index := 0#32
  let c0_1969 : Index := 0#32
  ![v4859.toNat, 58, 0, 0]
def k0_off236 (i : grid0.Coords) : Fin 4 → Nat :=
  let arg1 : BitVec 32 := BitVec.ofNat 32 (i 1).val
  let c2_i32 : BitVec 32 := 2#32
  let v2 : BitVec 32 := Scalar.remsi arg1 c2_i32
  let v4872 : Index := Scalar.indexCast v2
  let c59_1974 : Index := 59#32
  let c0_1975 : Index := 0#32
  let c0_1976 : Index := 0#32
  ![v4872.toNat, 59, 0, 0]
def k0_off237 (i : grid0.Coords) : Fin 4 → Nat :=
  let arg1 : BitVec 32 := BitVec.ofNat 32 (i 1).val
  let c2_i32 : BitVec 32 := 2#32
  let v2 : BitVec 32 := Scalar.remsi arg1 c2_i32
  let v4885 : Index := Scalar.indexCast v2
  let c60_1981 : Index := 60#32
  let c0_1982 : Index := 0#32
  let c0_1983 : Index := 0#32
  ![v4885.toNat, 60, 0, 0]
def k0_off238 (i : grid0.Coords) : Fin 4 → Nat :=
  let arg1 : BitVec 32 := BitVec.ofNat 32 (i 1).val
  let c2_i32 : BitVec 32 := 2#32
  let v2 : BitVec 32 := Scalar.remsi arg1 c2_i32
  let v4898 : Index := Scalar.indexCast v2
  let c61_1988 : Index := 61#32
  let c0_1989 : Index := 0#32
  let c0_1990 : Index := 0#32
  ![v4898.toNat, 61, 0, 0]
def k0_off239 (i : grid0.Coords) : Fin 4 → Nat :=
  let arg1 : BitVec 32 := BitVec.ofNat 32 (i 1).val
  let c2_i32 : BitVec 32 := 2#32
  let v2 : BitVec 32 := Scalar.remsi arg1 c2_i32
  let v4911 : Index := Scalar.indexCast v2
  let c62_1995 : Index := 62#32
  let c0_1996 : Index := 0#32
  let c0_1997 : Index := 0#32
  ![v4911.toNat, 62, 0, 0]
def k0_off240 (i : grid0.Coords) : Fin 4 → Nat :=
  let arg1 : BitVec 32 := BitVec.ofNat 32 (i 1).val
  let c2_i32 : BitVec 32 := 2#32
  let v2 : BitVec 32 := Scalar.remsi arg1 c2_i32
  let v4924 : Index := Scalar.indexCast v2
  let c63_2002 : Index := 63#32
  let c0_2003 : Index := 0#32
  let c0_2004 : Index := 0#32
  ![v4924.toNat, 63, 0, 0]
def k0_off241 (i : grid0.Coords) : Fin 4 → Nat :=
  let arg1 : BitVec 32 := BitVec.ofNat 32 (i 1).val
  let c2_i32 : BitVec 32 := 2#32
  let v2 : BitVec 32 := Scalar.remsi arg1 c2_i32
  let v4938 : Index := Scalar.indexCast v2
  let c32_2009 : Index := 32#32
  let c0_2010 : Index := 0#32
  let c128_2011 : Index := 128#32
  ![v4938.toNat, 32, 0, 128]
def k0_off242 (i : grid0.Coords) : Fin 4 → Nat :=
  let arg1 : BitVec 32 := BitVec.ofNat 32 (i 1).val
  let c2_i32 : BitVec 32 := 2#32
  let v2 : BitVec 32 := Scalar.remsi arg1 c2_i32
  let v4947 : Index := Scalar.indexCast v2
  let c33_2016 : Index := 33#32
  let c0_2017 : Index := 0#32
  let c128_2018 : Index := 128#32
  ![v4947.toNat, 33, 0, 128]
def k0_off243 (i : grid0.Coords) : Fin 4 → Nat :=
  let arg1 : BitVec 32 := BitVec.ofNat 32 (i 1).val
  let c2_i32 : BitVec 32 := 2#32
  let v2 : BitVec 32 := Scalar.remsi arg1 c2_i32
  let v4956 : Index := Scalar.indexCast v2
  let c34_2023 : Index := 34#32
  let c0_2024 : Index := 0#32
  let c128_2025 : Index := 128#32
  ![v4956.toNat, 34, 0, 128]
def k0_off244 (i : grid0.Coords) : Fin 4 → Nat :=
  let arg1 : BitVec 32 := BitVec.ofNat 32 (i 1).val
  let c2_i32 : BitVec 32 := 2#32
  let v2 : BitVec 32 := Scalar.remsi arg1 c2_i32
  let v4965 : Index := Scalar.indexCast v2
  let c35_2030 : Index := 35#32
  let c0_2031 : Index := 0#32
  let c128_2032 : Index := 128#32
  ![v4965.toNat, 35, 0, 128]
def k0_off245 (i : grid0.Coords) : Fin 4 → Nat :=
  let arg1 : BitVec 32 := BitVec.ofNat 32 (i 1).val
  let c2_i32 : BitVec 32 := 2#32
  let v2 : BitVec 32 := Scalar.remsi arg1 c2_i32
  let v4974 : Index := Scalar.indexCast v2
  let c36_2037 : Index := 36#32
  let c0_2038 : Index := 0#32
  let c128_2039 : Index := 128#32
  ![v4974.toNat, 36, 0, 128]
def k0_off246 (i : grid0.Coords) : Fin 4 → Nat :=
  let arg1 : BitVec 32 := BitVec.ofNat 32 (i 1).val
  let c2_i32 : BitVec 32 := 2#32
  let v2 : BitVec 32 := Scalar.remsi arg1 c2_i32
  let v4983 : Index := Scalar.indexCast v2
  let c37_2044 : Index := 37#32
  let c0_2045 : Index := 0#32
  let c128_2046 : Index := 128#32
  ![v4983.toNat, 37, 0, 128]
def k0_off247 (i : grid0.Coords) : Fin 4 → Nat :=
  let arg1 : BitVec 32 := BitVec.ofNat 32 (i 1).val
  let c2_i32 : BitVec 32 := 2#32
  let v2 : BitVec 32 := Scalar.remsi arg1 c2_i32
  let v4992 : Index := Scalar.indexCast v2
  let c38_2051 : Index := 38#32
  let c0_2052 : Index := 0#32
  let c128_2053 : Index := 128#32
  ![v4992.toNat, 38, 0, 128]
def k0_off248 (i : grid0.Coords) : Fin 4 → Nat :=
  let arg1 : BitVec 32 := BitVec.ofNat 32 (i 1).val
  let c2_i32 : BitVec 32 := 2#32
  let v2 : BitVec 32 := Scalar.remsi arg1 c2_i32
  let v5001 : Index := Scalar.indexCast v2
  let c39_2058 : Index := 39#32
  let c0_2059 : Index := 0#32
  let c128_2060 : Index := 128#32
  ![v5001.toNat, 39, 0, 128]
def k0_off249 (i : grid0.Coords) : Fin 4 → Nat :=
  let arg1 : BitVec 32 := BitVec.ofNat 32 (i 1).val
  let c2_i32 : BitVec 32 := 2#32
  let v2 : BitVec 32 := Scalar.remsi arg1 c2_i32
  let v5010 : Index := Scalar.indexCast v2
  let c40_2065 : Index := 40#32
  let c0_2066 : Index := 0#32
  let c128_2067 : Index := 128#32
  ![v5010.toNat, 40, 0, 128]
def k0_off250 (i : grid0.Coords) : Fin 4 → Nat :=
  let arg1 : BitVec 32 := BitVec.ofNat 32 (i 1).val
  let c2_i32 : BitVec 32 := 2#32
  let v2 : BitVec 32 := Scalar.remsi arg1 c2_i32
  let v5019 : Index := Scalar.indexCast v2
  let c41_2072 : Index := 41#32
  let c0_2073 : Index := 0#32
  let c128_2074 : Index := 128#32
  ![v5019.toNat, 41, 0, 128]
def k0_off251 (i : grid0.Coords) : Fin 4 → Nat :=
  let arg1 : BitVec 32 := BitVec.ofNat 32 (i 1).val
  let c2_i32 : BitVec 32 := 2#32
  let v2 : BitVec 32 := Scalar.remsi arg1 c2_i32
  let v5028 : Index := Scalar.indexCast v2
  let c42_2079 : Index := 42#32
  let c0_2080 : Index := 0#32
  let c128_2081 : Index := 128#32
  ![v5028.toNat, 42, 0, 128]
def k0_off252 (i : grid0.Coords) : Fin 4 → Nat :=
  let arg1 : BitVec 32 := BitVec.ofNat 32 (i 1).val
  let c2_i32 : BitVec 32 := 2#32
  let v2 : BitVec 32 := Scalar.remsi arg1 c2_i32
  let v5037 : Index := Scalar.indexCast v2
  let c43_2086 : Index := 43#32
  let c0_2087 : Index := 0#32
  let c128_2088 : Index := 128#32
  ![v5037.toNat, 43, 0, 128]
def k0_off253 (i : grid0.Coords) : Fin 4 → Nat :=
  let arg1 : BitVec 32 := BitVec.ofNat 32 (i 1).val
  let c2_i32 : BitVec 32 := 2#32
  let v2 : BitVec 32 := Scalar.remsi arg1 c2_i32
  let v5046 : Index := Scalar.indexCast v2
  let c44_2093 : Index := 44#32
  let c0_2094 : Index := 0#32
  let c128_2095 : Index := 128#32
  ![v5046.toNat, 44, 0, 128]
def k0_off254 (i : grid0.Coords) : Fin 4 → Nat :=
  let arg1 : BitVec 32 := BitVec.ofNat 32 (i 1).val
  let c2_i32 : BitVec 32 := 2#32
  let v2 : BitVec 32 := Scalar.remsi arg1 c2_i32
  let v5055 : Index := Scalar.indexCast v2
  let c45_2100 : Index := 45#32
  let c0_2101 : Index := 0#32
  let c128_2102 : Index := 128#32
  ![v5055.toNat, 45, 0, 128]
def k0_off255 (i : grid0.Coords) : Fin 4 → Nat :=
  let arg1 : BitVec 32 := BitVec.ofNat 32 (i 1).val
  let c2_i32 : BitVec 32 := 2#32
  let v2 : BitVec 32 := Scalar.remsi arg1 c2_i32
  let v5064 : Index := Scalar.indexCast v2
  let c46_2107 : Index := 46#32
  let c0_2108 : Index := 0#32
  let c128_2109 : Index := 128#32
  ![v5064.toNat, 46, 0, 128]
def k0_off256 (i : grid0.Coords) : Fin 4 → Nat :=
  let arg1 : BitVec 32 := BitVec.ofNat 32 (i 1).val
  let c2_i32 : BitVec 32 := 2#32
  let v2 : BitVec 32 := Scalar.remsi arg1 c2_i32
  let v5073 : Index := Scalar.indexCast v2
  let c47_2114 : Index := 47#32
  let c0_2115 : Index := 0#32
  let c128_2116 : Index := 128#32
  ![v5073.toNat, 47, 0, 128]
def k0_off257 (i : grid0.Coords) : Fin 4 → Nat :=
  let arg1 : BitVec 32 := BitVec.ofNat 32 (i 1).val
  let c2_i32 : BitVec 32 := 2#32
  let v2 : BitVec 32 := Scalar.remsi arg1 c2_i32
  let v5082 : Index := Scalar.indexCast v2
  let c48_2121 : Index := 48#32
  let c0_2122 : Index := 0#32
  let c128_2123 : Index := 128#32
  ![v5082.toNat, 48, 0, 128]
def k0_off258 (i : grid0.Coords) : Fin 4 → Nat :=
  let arg1 : BitVec 32 := BitVec.ofNat 32 (i 1).val
  let c2_i32 : BitVec 32 := 2#32
  let v2 : BitVec 32 := Scalar.remsi arg1 c2_i32
  let v5091 : Index := Scalar.indexCast v2
  let c49_2128 : Index := 49#32
  let c0_2129 : Index := 0#32
  let c128_2130 : Index := 128#32
  ![v5091.toNat, 49, 0, 128]
def k0_off259 (i : grid0.Coords) : Fin 4 → Nat :=
  let arg1 : BitVec 32 := BitVec.ofNat 32 (i 1).val
  let c2_i32 : BitVec 32 := 2#32
  let v2 : BitVec 32 := Scalar.remsi arg1 c2_i32
  let v5100 : Index := Scalar.indexCast v2
  let c50_2135 : Index := 50#32
  let c0_2136 : Index := 0#32
  let c128_2137 : Index := 128#32
  ![v5100.toNat, 50, 0, 128]
def k0_off260 (i : grid0.Coords) : Fin 4 → Nat :=
  let arg1 : BitVec 32 := BitVec.ofNat 32 (i 1).val
  let c2_i32 : BitVec 32 := 2#32
  let v2 : BitVec 32 := Scalar.remsi arg1 c2_i32
  let v5109 : Index := Scalar.indexCast v2
  let c51_2142 : Index := 51#32
  let c0_2143 : Index := 0#32
  let c128_2144 : Index := 128#32
  ![v5109.toNat, 51, 0, 128]
def k0_off261 (i : grid0.Coords) : Fin 4 → Nat :=
  let arg1 : BitVec 32 := BitVec.ofNat 32 (i 1).val
  let c2_i32 : BitVec 32 := 2#32
  let v2 : BitVec 32 := Scalar.remsi arg1 c2_i32
  let v5118 : Index := Scalar.indexCast v2
  let c52_2149 : Index := 52#32
  let c0_2150 : Index := 0#32
  let c128_2151 : Index := 128#32
  ![v5118.toNat, 52, 0, 128]
def k0_off262 (i : grid0.Coords) : Fin 4 → Nat :=
  let arg1 : BitVec 32 := BitVec.ofNat 32 (i 1).val
  let c2_i32 : BitVec 32 := 2#32
  let v2 : BitVec 32 := Scalar.remsi arg1 c2_i32
  let v5127 : Index := Scalar.indexCast v2
  let c53_2156 : Index := 53#32
  let c0_2157 : Index := 0#32
  let c128_2158 : Index := 128#32
  ![v5127.toNat, 53, 0, 128]
def k0_off263 (i : grid0.Coords) : Fin 4 → Nat :=
  let arg1 : BitVec 32 := BitVec.ofNat 32 (i 1).val
  let c2_i32 : BitVec 32 := 2#32
  let v2 : BitVec 32 := Scalar.remsi arg1 c2_i32
  let v5136 : Index := Scalar.indexCast v2
  let c54_2163 : Index := 54#32
  let c0_2164 : Index := 0#32
  let c128_2165 : Index := 128#32
  ![v5136.toNat, 54, 0, 128]
def k0_off264 (i : grid0.Coords) : Fin 4 → Nat :=
  let arg1 : BitVec 32 := BitVec.ofNat 32 (i 1).val
  let c2_i32 : BitVec 32 := 2#32
  let v2 : BitVec 32 := Scalar.remsi arg1 c2_i32
  let v5145 : Index := Scalar.indexCast v2
  let c55_2170 : Index := 55#32
  let c0_2171 : Index := 0#32
  let c128_2172 : Index := 128#32
  ![v5145.toNat, 55, 0, 128]
def k0_off265 (i : grid0.Coords) : Fin 4 → Nat :=
  let arg1 : BitVec 32 := BitVec.ofNat 32 (i 1).val
  let c2_i32 : BitVec 32 := 2#32
  let v2 : BitVec 32 := Scalar.remsi arg1 c2_i32
  let v5154 : Index := Scalar.indexCast v2
  let c56_2177 : Index := 56#32
  let c0_2178 : Index := 0#32
  let c128_2179 : Index := 128#32
  ![v5154.toNat, 56, 0, 128]
def k0_off266 (i : grid0.Coords) : Fin 4 → Nat :=
  let arg1 : BitVec 32 := BitVec.ofNat 32 (i 1).val
  let c2_i32 : BitVec 32 := 2#32
  let v2 : BitVec 32 := Scalar.remsi arg1 c2_i32
  let v5163 : Index := Scalar.indexCast v2
  let c57_2184 : Index := 57#32
  let c0_2185 : Index := 0#32
  let c128_2186 : Index := 128#32
  ![v5163.toNat, 57, 0, 128]
def k0_off267 (i : grid0.Coords) : Fin 4 → Nat :=
  let arg1 : BitVec 32 := BitVec.ofNat 32 (i 1).val
  let c2_i32 : BitVec 32 := 2#32
  let v2 : BitVec 32 := Scalar.remsi arg1 c2_i32
  let v5172 : Index := Scalar.indexCast v2
  let c58_2191 : Index := 58#32
  let c0_2192 : Index := 0#32
  let c128_2193 : Index := 128#32
  ![v5172.toNat, 58, 0, 128]
def k0_off268 (i : grid0.Coords) : Fin 4 → Nat :=
  let arg1 : BitVec 32 := BitVec.ofNat 32 (i 1).val
  let c2_i32 : BitVec 32 := 2#32
  let v2 : BitVec 32 := Scalar.remsi arg1 c2_i32
  let v5181 : Index := Scalar.indexCast v2
  let c59_2198 : Index := 59#32
  let c0_2199 : Index := 0#32
  let c128_2200 : Index := 128#32
  ![v5181.toNat, 59, 0, 128]
def k0_off269 (i : grid0.Coords) : Fin 4 → Nat :=
  let arg1 : BitVec 32 := BitVec.ofNat 32 (i 1).val
  let c2_i32 : BitVec 32 := 2#32
  let v2 : BitVec 32 := Scalar.remsi arg1 c2_i32
  let v5190 : Index := Scalar.indexCast v2
  let c60_2205 : Index := 60#32
  let c0_2206 : Index := 0#32
  let c128_2207 : Index := 128#32
  ![v5190.toNat, 60, 0, 128]
def k0_off270 (i : grid0.Coords) : Fin 4 → Nat :=
  let arg1 : BitVec 32 := BitVec.ofNat 32 (i 1).val
  let c2_i32 : BitVec 32 := 2#32
  let v2 : BitVec 32 := Scalar.remsi arg1 c2_i32
  let v5199 : Index := Scalar.indexCast v2
  let c61_2212 : Index := 61#32
  let c0_2213 : Index := 0#32
  let c128_2214 : Index := 128#32
  ![v5199.toNat, 61, 0, 128]
def k0_off271 (i : grid0.Coords) : Fin 4 → Nat :=
  let arg1 : BitVec 32 := BitVec.ofNat 32 (i 1).val
  let c2_i32 : BitVec 32 := 2#32
  let v2 : BitVec 32 := Scalar.remsi arg1 c2_i32
  let v5208 : Index := Scalar.indexCast v2
  let c62_2219 : Index := 62#32
  let c0_2220 : Index := 0#32
  let c128_2221 : Index := 128#32
  ![v5208.toNat, 62, 0, 128]
def k0_off272 (i : grid0.Coords) : Fin 4 → Nat :=
  let arg1 : BitVec 32 := BitVec.ofNat 32 (i 1).val
  let c2_i32 : BitVec 32 := 2#32
  let v2 : BitVec 32 := Scalar.remsi arg1 c2_i32
  let v5217 : Index := Scalar.indexCast v2
  let c63_2226 : Index := 63#32
  let c0_2227 : Index := 0#32
  let c128_2228 : Index := 128#32
  ![v5217.toNat, 63, 0, 128]
def k0_off273 (i : grid0.Coords) : Fin 4 → Nat :=
  let arg1 : BitVec 32 := BitVec.ofNat 32 (i 1).val
  let c2_i32 : BitVec 32 := 2#32
  let v2 : BitVec 32 := Scalar.remsi arg1 c2_i32
  let v5227 : Index := Scalar.indexCast v2
  let c32_2233 : Index := 32#32
  let c128_2234 : Index := 128#32
  let c0_2235 : Index := 0#32
  ![v5227.toNat, 32, 128, 0]
def k0_off274 (i : grid0.Coords) : Fin 4 → Nat :=
  let arg1 : BitVec 32 := BitVec.ofNat 32 (i 1).val
  let c2_i32 : BitVec 32 := 2#32
  let v2 : BitVec 32 := Scalar.remsi arg1 c2_i32
  let v5236 : Index := Scalar.indexCast v2
  let c33_2240 : Index := 33#32
  let c128_2241 : Index := 128#32
  let c0_2242 : Index := 0#32
  ![v5236.toNat, 33, 128, 0]
def k0_off275 (i : grid0.Coords) : Fin 4 → Nat :=
  let arg1 : BitVec 32 := BitVec.ofNat 32 (i 1).val
  let c2_i32 : BitVec 32 := 2#32
  let v2 : BitVec 32 := Scalar.remsi arg1 c2_i32
  let v5245 : Index := Scalar.indexCast v2
  let c34_2247 : Index := 34#32
  let c128_2248 : Index := 128#32
  let c0_2249 : Index := 0#32
  ![v5245.toNat, 34, 128, 0]
def k0_off276 (i : grid0.Coords) : Fin 4 → Nat :=
  let arg1 : BitVec 32 := BitVec.ofNat 32 (i 1).val
  let c2_i32 : BitVec 32 := 2#32
  let v2 : BitVec 32 := Scalar.remsi arg1 c2_i32
  let v5254 : Index := Scalar.indexCast v2
  let c35_2254 : Index := 35#32
  let c128_2255 : Index := 128#32
  let c0_2256 : Index := 0#32
  ![v5254.toNat, 35, 128, 0]
def k0_off277 (i : grid0.Coords) : Fin 4 → Nat :=
  let arg1 : BitVec 32 := BitVec.ofNat 32 (i 1).val
  let c2_i32 : BitVec 32 := 2#32
  let v2 : BitVec 32 := Scalar.remsi arg1 c2_i32
  let v5263 : Index := Scalar.indexCast v2
  let c36_2261 : Index := 36#32
  let c128_2262 : Index := 128#32
  let c0_2263 : Index := 0#32
  ![v5263.toNat, 36, 128, 0]
def k0_off278 (i : grid0.Coords) : Fin 4 → Nat :=
  let arg1 : BitVec 32 := BitVec.ofNat 32 (i 1).val
  let c2_i32 : BitVec 32 := 2#32
  let v2 : BitVec 32 := Scalar.remsi arg1 c2_i32
  let v5272 : Index := Scalar.indexCast v2
  let c37_2268 : Index := 37#32
  let c128_2269 : Index := 128#32
  let c0_2270 : Index := 0#32
  ![v5272.toNat, 37, 128, 0]
def k0_off279 (i : grid0.Coords) : Fin 4 → Nat :=
  let arg1 : BitVec 32 := BitVec.ofNat 32 (i 1).val
  let c2_i32 : BitVec 32 := 2#32
  let v2 : BitVec 32 := Scalar.remsi arg1 c2_i32
  let v5281 : Index := Scalar.indexCast v2
  let c38_2275 : Index := 38#32
  let c128_2276 : Index := 128#32
  let c0_2277 : Index := 0#32
  ![v5281.toNat, 38, 128, 0]
def k0_off280 (i : grid0.Coords) : Fin 4 → Nat :=
  let arg1 : BitVec 32 := BitVec.ofNat 32 (i 1).val
  let c2_i32 : BitVec 32 := 2#32
  let v2 : BitVec 32 := Scalar.remsi arg1 c2_i32
  let v5290 : Index := Scalar.indexCast v2
  let c39_2282 : Index := 39#32
  let c128_2283 : Index := 128#32
  let c0_2284 : Index := 0#32
  ![v5290.toNat, 39, 128, 0]
def k0_off281 (i : grid0.Coords) : Fin 4 → Nat :=
  let arg1 : BitVec 32 := BitVec.ofNat 32 (i 1).val
  let c2_i32 : BitVec 32 := 2#32
  let v2 : BitVec 32 := Scalar.remsi arg1 c2_i32
  let v5299 : Index := Scalar.indexCast v2
  let c40_2289 : Index := 40#32
  let c128_2290 : Index := 128#32
  let c0_2291 : Index := 0#32
  ![v5299.toNat, 40, 128, 0]
def k0_off282 (i : grid0.Coords) : Fin 4 → Nat :=
  let arg1 : BitVec 32 := BitVec.ofNat 32 (i 1).val
  let c2_i32 : BitVec 32 := 2#32
  let v2 : BitVec 32 := Scalar.remsi arg1 c2_i32
  let v5308 : Index := Scalar.indexCast v2
  let c41_2296 : Index := 41#32
  let c128_2297 : Index := 128#32
  let c0_2298 : Index := 0#32
  ![v5308.toNat, 41, 128, 0]
def k0_off283 (i : grid0.Coords) : Fin 4 → Nat :=
  let arg1 : BitVec 32 := BitVec.ofNat 32 (i 1).val
  let c2_i32 : BitVec 32 := 2#32
  let v2 : BitVec 32 := Scalar.remsi arg1 c2_i32
  let v5317 : Index := Scalar.indexCast v2
  let c42_2303 : Index := 42#32
  let c128_2304 : Index := 128#32
  let c0_2305 : Index := 0#32
  ![v5317.toNat, 42, 128, 0]
def k0_off284 (i : grid0.Coords) : Fin 4 → Nat :=
  let arg1 : BitVec 32 := BitVec.ofNat 32 (i 1).val
  let c2_i32 : BitVec 32 := 2#32
  let v2 : BitVec 32 := Scalar.remsi arg1 c2_i32
  let v5326 : Index := Scalar.indexCast v2
  let c43_2310 : Index := 43#32
  let c128_2311 : Index := 128#32
  let c0_2312 : Index := 0#32
  ![v5326.toNat, 43, 128, 0]
def k0_off285 (i : grid0.Coords) : Fin 4 → Nat :=
  let arg1 : BitVec 32 := BitVec.ofNat 32 (i 1).val
  let c2_i32 : BitVec 32 := 2#32
  let v2 : BitVec 32 := Scalar.remsi arg1 c2_i32
  let v5335 : Index := Scalar.indexCast v2
  let c44_2317 : Index := 44#32
  let c128_2318 : Index := 128#32
  let c0_2319 : Index := 0#32
  ![v5335.toNat, 44, 128, 0]
def k0_off286 (i : grid0.Coords) : Fin 4 → Nat :=
  let arg1 : BitVec 32 := BitVec.ofNat 32 (i 1).val
  let c2_i32 : BitVec 32 := 2#32
  let v2 : BitVec 32 := Scalar.remsi arg1 c2_i32
  let v5344 : Index := Scalar.indexCast v2
  let c45_2324 : Index := 45#32
  let c128_2325 : Index := 128#32
  let c0_2326 : Index := 0#32
  ![v5344.toNat, 45, 128, 0]
def k0_off287 (i : grid0.Coords) : Fin 4 → Nat :=
  let arg1 : BitVec 32 := BitVec.ofNat 32 (i 1).val
  let c2_i32 : BitVec 32 := 2#32
  let v2 : BitVec 32 := Scalar.remsi arg1 c2_i32
  let v5353 : Index := Scalar.indexCast v2
  let c46_2331 : Index := 46#32
  let c128_2332 : Index := 128#32
  let c0_2333 : Index := 0#32
  ![v5353.toNat, 46, 128, 0]
def k0_off288 (i : grid0.Coords) : Fin 4 → Nat :=
  let arg1 : BitVec 32 := BitVec.ofNat 32 (i 1).val
  let c2_i32 : BitVec 32 := 2#32
  let v2 : BitVec 32 := Scalar.remsi arg1 c2_i32
  let v5362 : Index := Scalar.indexCast v2
  let c47_2338 : Index := 47#32
  let c128_2339 : Index := 128#32
  let c0_2340 : Index := 0#32
  ![v5362.toNat, 47, 128, 0]
def k0_off289 (i : grid0.Coords) : Fin 4 → Nat :=
  let arg1 : BitVec 32 := BitVec.ofNat 32 (i 1).val
  let c2_i32 : BitVec 32 := 2#32
  let v2 : BitVec 32 := Scalar.remsi arg1 c2_i32
  let v5371 : Index := Scalar.indexCast v2
  let c48_2345 : Index := 48#32
  let c128_2346 : Index := 128#32
  let c0_2347 : Index := 0#32
  ![v5371.toNat, 48, 128, 0]
def k0_off290 (i : grid0.Coords) : Fin 4 → Nat :=
  let arg1 : BitVec 32 := BitVec.ofNat 32 (i 1).val
  let c2_i32 : BitVec 32 := 2#32
  let v2 : BitVec 32 := Scalar.remsi arg1 c2_i32
  let v5380 : Index := Scalar.indexCast v2
  let c49_2352 : Index := 49#32
  let c128_2353 : Index := 128#32
  let c0_2354 : Index := 0#32
  ![v5380.toNat, 49, 128, 0]
def k0_off291 (i : grid0.Coords) : Fin 4 → Nat :=
  let arg1 : BitVec 32 := BitVec.ofNat 32 (i 1).val
  let c2_i32 : BitVec 32 := 2#32
  let v2 : BitVec 32 := Scalar.remsi arg1 c2_i32
  let v5389 : Index := Scalar.indexCast v2
  let c50_2359 : Index := 50#32
  let c128_2360 : Index := 128#32
  let c0_2361 : Index := 0#32
  ![v5389.toNat, 50, 128, 0]
def k0_off292 (i : grid0.Coords) : Fin 4 → Nat :=
  let arg1 : BitVec 32 := BitVec.ofNat 32 (i 1).val
  let c2_i32 : BitVec 32 := 2#32
  let v2 : BitVec 32 := Scalar.remsi arg1 c2_i32
  let v5398 : Index := Scalar.indexCast v2
  let c51_2366 : Index := 51#32
  let c128_2367 : Index := 128#32
  let c0_2368 : Index := 0#32
  ![v5398.toNat, 51, 128, 0]
def k0_off293 (i : grid0.Coords) : Fin 4 → Nat :=
  let arg1 : BitVec 32 := BitVec.ofNat 32 (i 1).val
  let c2_i32 : BitVec 32 := 2#32
  let v2 : BitVec 32 := Scalar.remsi arg1 c2_i32
  let v5407 : Index := Scalar.indexCast v2
  let c52_2373 : Index := 52#32
  let c128_2374 : Index := 128#32
  let c0_2375 : Index := 0#32
  ![v5407.toNat, 52, 128, 0]
def k0_off294 (i : grid0.Coords) : Fin 4 → Nat :=
  let arg1 : BitVec 32 := BitVec.ofNat 32 (i 1).val
  let c2_i32 : BitVec 32 := 2#32
  let v2 : BitVec 32 := Scalar.remsi arg1 c2_i32
  let v5416 : Index := Scalar.indexCast v2
  let c53_2380 : Index := 53#32
  let c128_2381 : Index := 128#32
  let c0_2382 : Index := 0#32
  ![v5416.toNat, 53, 128, 0]
def k0_off295 (i : grid0.Coords) : Fin 4 → Nat :=
  let arg1 : BitVec 32 := BitVec.ofNat 32 (i 1).val
  let c2_i32 : BitVec 32 := 2#32
  let v2 : BitVec 32 := Scalar.remsi arg1 c2_i32
  let v5425 : Index := Scalar.indexCast v2
  let c54_2387 : Index := 54#32
  let c128_2388 : Index := 128#32
  let c0_2389 : Index := 0#32
  ![v5425.toNat, 54, 128, 0]
def k0_off296 (i : grid0.Coords) : Fin 4 → Nat :=
  let arg1 : BitVec 32 := BitVec.ofNat 32 (i 1).val
  let c2_i32 : BitVec 32 := 2#32
  let v2 : BitVec 32 := Scalar.remsi arg1 c2_i32
  let v5434 : Index := Scalar.indexCast v2
  let c55_2394 : Index := 55#32
  let c128_2395 : Index := 128#32
  let c0_2396 : Index := 0#32
  ![v5434.toNat, 55, 128, 0]
def k0_off297 (i : grid0.Coords) : Fin 4 → Nat :=
  let arg1 : BitVec 32 := BitVec.ofNat 32 (i 1).val
  let c2_i32 : BitVec 32 := 2#32
  let v2 : BitVec 32 := Scalar.remsi arg1 c2_i32
  let v5443 : Index := Scalar.indexCast v2
  let c56_2401 : Index := 56#32
  let c128_2402 : Index := 128#32
  let c0_2403 : Index := 0#32
  ![v5443.toNat, 56, 128, 0]
def k0_off298 (i : grid0.Coords) : Fin 4 → Nat :=
  let arg1 : BitVec 32 := BitVec.ofNat 32 (i 1).val
  let c2_i32 : BitVec 32 := 2#32
  let v2 : BitVec 32 := Scalar.remsi arg1 c2_i32
  let v5452 : Index := Scalar.indexCast v2
  let c57_2408 : Index := 57#32
  let c128_2409 : Index := 128#32
  let c0_2410 : Index := 0#32
  ![v5452.toNat, 57, 128, 0]
def k0_off299 (i : grid0.Coords) : Fin 4 → Nat :=
  let arg1 : BitVec 32 := BitVec.ofNat 32 (i 1).val
  let c2_i32 : BitVec 32 := 2#32
  let v2 : BitVec 32 := Scalar.remsi arg1 c2_i32
  let v5461 : Index := Scalar.indexCast v2
  let c58_2415 : Index := 58#32
  let c128_2416 : Index := 128#32
  let c0_2417 : Index := 0#32
  ![v5461.toNat, 58, 128, 0]
def k0_off300 (i : grid0.Coords) : Fin 4 → Nat :=
  let arg1 : BitVec 32 := BitVec.ofNat 32 (i 1).val
  let c2_i32 : BitVec 32 := 2#32
  let v2 : BitVec 32 := Scalar.remsi arg1 c2_i32
  let v5470 : Index := Scalar.indexCast v2
  let c59_2422 : Index := 59#32
  let c128_2423 : Index := 128#32
  let c0_2424 : Index := 0#32
  ![v5470.toNat, 59, 128, 0]
def k0_off301 (i : grid0.Coords) : Fin 4 → Nat :=
  let arg1 : BitVec 32 := BitVec.ofNat 32 (i 1).val
  let c2_i32 : BitVec 32 := 2#32
  let v2 : BitVec 32 := Scalar.remsi arg1 c2_i32
  let v5479 : Index := Scalar.indexCast v2
  let c60_2429 : Index := 60#32
  let c128_2430 : Index := 128#32
  let c0_2431 : Index := 0#32
  ![v5479.toNat, 60, 128, 0]
def k0_off302 (i : grid0.Coords) : Fin 4 → Nat :=
  let arg1 : BitVec 32 := BitVec.ofNat 32 (i 1).val
  let c2_i32 : BitVec 32 := 2#32
  let v2 : BitVec 32 := Scalar.remsi arg1 c2_i32
  let v5488 : Index := Scalar.indexCast v2
  let c61_2436 : Index := 61#32
  let c128_2437 : Index := 128#32
  let c0_2438 : Index := 0#32
  ![v5488.toNat, 61, 128, 0]
def k0_off303 (i : grid0.Coords) : Fin 4 → Nat :=
  let arg1 : BitVec 32 := BitVec.ofNat 32 (i 1).val
  let c2_i32 : BitVec 32 := 2#32
  let v2 : BitVec 32 := Scalar.remsi arg1 c2_i32
  let v5497 : Index := Scalar.indexCast v2
  let c62_2443 : Index := 62#32
  let c128_2444 : Index := 128#32
  let c0_2445 : Index := 0#32
  ![v5497.toNat, 62, 128, 0]
def k0_off304 (i : grid0.Coords) : Fin 4 → Nat :=
  let arg1 : BitVec 32 := BitVec.ofNat 32 (i 1).val
  let c2_i32 : BitVec 32 := 2#32
  let v2 : BitVec 32 := Scalar.remsi arg1 c2_i32
  let v5506 : Index := Scalar.indexCast v2
  let c63_2450 : Index := 63#32
  let c128_2451 : Index := 128#32
  let c0_2452 : Index := 0#32
  ![v5506.toNat, 63, 128, 0]
def k0_off305 (i : grid0.Coords) : Fin 4 → Nat :=
  let arg1 : BitVec 32 := BitVec.ofNat 32 (i 1).val
  let c2_i32 : BitVec 32 := 2#32
  let v2 : BitVec 32 := Scalar.remsi arg1 c2_i32
  let v5518 : Index := Scalar.indexCast v2
  let c32_2457 : Index := 32#32
  let c128_2458 : Index := 128#32
  let c128_2459 : Index := 128#32
  ![v5518.toNat, 32, 128, 128]
def k0_off306 (i : grid0.Coords) : Fin 4 → Nat :=
  let arg1 : BitVec 32 := BitVec.ofNat 32 (i 1).val
  let c2_i32 : BitVec 32 := 2#32
  let v2 : BitVec 32 := Scalar.remsi arg1 c2_i32
  let v5531 : Index := Scalar.indexCast v2
  let c33_2464 : Index := 33#32
  let c128_2465 : Index := 128#32
  let c128_2466 : Index := 128#32
  ![v5531.toNat, 33, 128, 128]
def k0_off307 (i : grid0.Coords) : Fin 4 → Nat :=
  let arg1 : BitVec 32 := BitVec.ofNat 32 (i 1).val
  let c2_i32 : BitVec 32 := 2#32
  let v2 : BitVec 32 := Scalar.remsi arg1 c2_i32
  let v5544 : Index := Scalar.indexCast v2
  let c34_2471 : Index := 34#32
  let c128_2472 : Index := 128#32
  let c128_2473 : Index := 128#32
  ![v5544.toNat, 34, 128, 128]
def k0_off308 (i : grid0.Coords) : Fin 4 → Nat :=
  let arg1 : BitVec 32 := BitVec.ofNat 32 (i 1).val
  let c2_i32 : BitVec 32 := 2#32
  let v2 : BitVec 32 := Scalar.remsi arg1 c2_i32
  let v5557 : Index := Scalar.indexCast v2
  let c35_2478 : Index := 35#32
  let c128_2479 : Index := 128#32
  let c128_2480 : Index := 128#32
  ![v5557.toNat, 35, 128, 128]
def k0_off309 (i : grid0.Coords) : Fin 4 → Nat :=
  let arg1 : BitVec 32 := BitVec.ofNat 32 (i 1).val
  let c2_i32 : BitVec 32 := 2#32
  let v2 : BitVec 32 := Scalar.remsi arg1 c2_i32
  let v5570 : Index := Scalar.indexCast v2
  let c36_2485 : Index := 36#32
  let c128_2486 : Index := 128#32
  let c128_2487 : Index := 128#32
  ![v5570.toNat, 36, 128, 128]
def k0_off310 (i : grid0.Coords) : Fin 4 → Nat :=
  let arg1 : BitVec 32 := BitVec.ofNat 32 (i 1).val
  let c2_i32 : BitVec 32 := 2#32
  let v2 : BitVec 32 := Scalar.remsi arg1 c2_i32
  let v5583 : Index := Scalar.indexCast v2
  let c37_2492 : Index := 37#32
  let c128_2493 : Index := 128#32
  let c128_2494 : Index := 128#32
  ![v5583.toNat, 37, 128, 128]
def k0_off311 (i : grid0.Coords) : Fin 4 → Nat :=
  let arg1 : BitVec 32 := BitVec.ofNat 32 (i 1).val
  let c2_i32 : BitVec 32 := 2#32
  let v2 : BitVec 32 := Scalar.remsi arg1 c2_i32
  let v5596 : Index := Scalar.indexCast v2
  let c38_2499 : Index := 38#32
  let c128_2500 : Index := 128#32
  let c128_2501 : Index := 128#32
  ![v5596.toNat, 38, 128, 128]
def k0_off312 (i : grid0.Coords) : Fin 4 → Nat :=
  let arg1 : BitVec 32 := BitVec.ofNat 32 (i 1).val
  let c2_i32 : BitVec 32 := 2#32
  let v2 : BitVec 32 := Scalar.remsi arg1 c2_i32
  let v5609 : Index := Scalar.indexCast v2
  let c39_2506 : Index := 39#32
  let c128_2507 : Index := 128#32
  let c128_2508 : Index := 128#32
  ![v5609.toNat, 39, 128, 128]
def k0_off313 (i : grid0.Coords) : Fin 4 → Nat :=
  let arg1 : BitVec 32 := BitVec.ofNat 32 (i 1).val
  let c2_i32 : BitVec 32 := 2#32
  let v2 : BitVec 32 := Scalar.remsi arg1 c2_i32
  let v5622 : Index := Scalar.indexCast v2
  let c40_2513 : Index := 40#32
  let c128_2514 : Index := 128#32
  let c128_2515 : Index := 128#32
  ![v5622.toNat, 40, 128, 128]
def k0_off314 (i : grid0.Coords) : Fin 4 → Nat :=
  let arg1 : BitVec 32 := BitVec.ofNat 32 (i 1).val
  let c2_i32 : BitVec 32 := 2#32
  let v2 : BitVec 32 := Scalar.remsi arg1 c2_i32
  let v5635 : Index := Scalar.indexCast v2
  let c41_2520 : Index := 41#32
  let c128_2521 : Index := 128#32
  let c128_2522 : Index := 128#32
  ![v5635.toNat, 41, 128, 128]
def k0_off315 (i : grid0.Coords) : Fin 4 → Nat :=
  let arg1 : BitVec 32 := BitVec.ofNat 32 (i 1).val
  let c2_i32 : BitVec 32 := 2#32
  let v2 : BitVec 32 := Scalar.remsi arg1 c2_i32
  let v5648 : Index := Scalar.indexCast v2
  let c42_2527 : Index := 42#32
  let c128_2528 : Index := 128#32
  let c128_2529 : Index := 128#32
  ![v5648.toNat, 42, 128, 128]
def k0_off316 (i : grid0.Coords) : Fin 4 → Nat :=
  let arg1 : BitVec 32 := BitVec.ofNat 32 (i 1).val
  let c2_i32 : BitVec 32 := 2#32
  let v2 : BitVec 32 := Scalar.remsi arg1 c2_i32
  let v5661 : Index := Scalar.indexCast v2
  let c43_2534 : Index := 43#32
  let c128_2535 : Index := 128#32
  let c128_2536 : Index := 128#32
  ![v5661.toNat, 43, 128, 128]
def k0_off317 (i : grid0.Coords) : Fin 4 → Nat :=
  let arg1 : BitVec 32 := BitVec.ofNat 32 (i 1).val
  let c2_i32 : BitVec 32 := 2#32
  let v2 : BitVec 32 := Scalar.remsi arg1 c2_i32
  let v5674 : Index := Scalar.indexCast v2
  let c44_2541 : Index := 44#32
  let c128_2542 : Index := 128#32
  let c128_2543 : Index := 128#32
  ![v5674.toNat, 44, 128, 128]
def k0_off318 (i : grid0.Coords) : Fin 4 → Nat :=
  let arg1 : BitVec 32 := BitVec.ofNat 32 (i 1).val
  let c2_i32 : BitVec 32 := 2#32
  let v2 : BitVec 32 := Scalar.remsi arg1 c2_i32
  let v5687 : Index := Scalar.indexCast v2
  let c45_2548 : Index := 45#32
  let c128_2549 : Index := 128#32
  let c128_2550 : Index := 128#32
  ![v5687.toNat, 45, 128, 128]
def k0_off319 (i : grid0.Coords) : Fin 4 → Nat :=
  let arg1 : BitVec 32 := BitVec.ofNat 32 (i 1).val
  let c2_i32 : BitVec 32 := 2#32
  let v2 : BitVec 32 := Scalar.remsi arg1 c2_i32
  let v5700 : Index := Scalar.indexCast v2
  let c46_2555 : Index := 46#32
  let c128_2556 : Index := 128#32
  let c128_2557 : Index := 128#32
  ![v5700.toNat, 46, 128, 128]
def k0_off320 (i : grid0.Coords) : Fin 4 → Nat :=
  let arg1 : BitVec 32 := BitVec.ofNat 32 (i 1).val
  let c2_i32 : BitVec 32 := 2#32
  let v2 : BitVec 32 := Scalar.remsi arg1 c2_i32
  let v5713 : Index := Scalar.indexCast v2
  let c47_2562 : Index := 47#32
  let c128_2563 : Index := 128#32
  let c128_2564 : Index := 128#32
  ![v5713.toNat, 47, 128, 128]
def k0_off321 (i : grid0.Coords) : Fin 4 → Nat :=
  let arg1 : BitVec 32 := BitVec.ofNat 32 (i 1).val
  let c2_i32 : BitVec 32 := 2#32
  let v2 : BitVec 32 := Scalar.remsi arg1 c2_i32
  let v5726 : Index := Scalar.indexCast v2
  let c48_2569 : Index := 48#32
  let c128_2570 : Index := 128#32
  let c128_2571 : Index := 128#32
  ![v5726.toNat, 48, 128, 128]
def k0_off322 (i : grid0.Coords) : Fin 4 → Nat :=
  let arg1 : BitVec 32 := BitVec.ofNat 32 (i 1).val
  let c2_i32 : BitVec 32 := 2#32
  let v2 : BitVec 32 := Scalar.remsi arg1 c2_i32
  let v5739 : Index := Scalar.indexCast v2
  let c49_2576 : Index := 49#32
  let c128_2577 : Index := 128#32
  let c128_2578 : Index := 128#32
  ![v5739.toNat, 49, 128, 128]
def k0_off323 (i : grid0.Coords) : Fin 4 → Nat :=
  let arg1 : BitVec 32 := BitVec.ofNat 32 (i 1).val
  let c2_i32 : BitVec 32 := 2#32
  let v2 : BitVec 32 := Scalar.remsi arg1 c2_i32
  let v5752 : Index := Scalar.indexCast v2
  let c50_2583 : Index := 50#32
  let c128_2584 : Index := 128#32
  let c128_2585 : Index := 128#32
  ![v5752.toNat, 50, 128, 128]
def k0_off324 (i : grid0.Coords) : Fin 4 → Nat :=
  let arg1 : BitVec 32 := BitVec.ofNat 32 (i 1).val
  let c2_i32 : BitVec 32 := 2#32
  let v2 : BitVec 32 := Scalar.remsi arg1 c2_i32
  let v5765 : Index := Scalar.indexCast v2
  let c51_2590 : Index := 51#32
  let c128_2591 : Index := 128#32
  let c128_2592 : Index := 128#32
  ![v5765.toNat, 51, 128, 128]
def k0_off325 (i : grid0.Coords) : Fin 4 → Nat :=
  let arg1 : BitVec 32 := BitVec.ofNat 32 (i 1).val
  let c2_i32 : BitVec 32 := 2#32
  let v2 : BitVec 32 := Scalar.remsi arg1 c2_i32
  let v5778 : Index := Scalar.indexCast v2
  let c52_2597 : Index := 52#32
  let c128_2598 : Index := 128#32
  let c128_2599 : Index := 128#32
  ![v5778.toNat, 52, 128, 128]
def k0_off326 (i : grid0.Coords) : Fin 4 → Nat :=
  let arg1 : BitVec 32 := BitVec.ofNat 32 (i 1).val
  let c2_i32 : BitVec 32 := 2#32
  let v2 : BitVec 32 := Scalar.remsi arg1 c2_i32
  let v5791 : Index := Scalar.indexCast v2
  let c53_2604 : Index := 53#32
  let c128_2605 : Index := 128#32
  let c128_2606 : Index := 128#32
  ![v5791.toNat, 53, 128, 128]
def k0_off327 (i : grid0.Coords) : Fin 4 → Nat :=
  let arg1 : BitVec 32 := BitVec.ofNat 32 (i 1).val
  let c2_i32 : BitVec 32 := 2#32
  let v2 : BitVec 32 := Scalar.remsi arg1 c2_i32
  let v5804 : Index := Scalar.indexCast v2
  let c54_2611 : Index := 54#32
  let c128_2612 : Index := 128#32
  let c128_2613 : Index := 128#32
  ![v5804.toNat, 54, 128, 128]
def k0_off328 (i : grid0.Coords) : Fin 4 → Nat :=
  let arg1 : BitVec 32 := BitVec.ofNat 32 (i 1).val
  let c2_i32 : BitVec 32 := 2#32
  let v2 : BitVec 32 := Scalar.remsi arg1 c2_i32
  let v5817 : Index := Scalar.indexCast v2
  let c55_2618 : Index := 55#32
  let c128_2619 : Index := 128#32
  let c128_2620 : Index := 128#32
  ![v5817.toNat, 55, 128, 128]
def k0_off329 (i : grid0.Coords) : Fin 4 → Nat :=
  let arg1 : BitVec 32 := BitVec.ofNat 32 (i 1).val
  let c2_i32 : BitVec 32 := 2#32
  let v2 : BitVec 32 := Scalar.remsi arg1 c2_i32
  let v5830 : Index := Scalar.indexCast v2
  let c56_2625 : Index := 56#32
  let c128_2626 : Index := 128#32
  let c128_2627 : Index := 128#32
  ![v5830.toNat, 56, 128, 128]
def k0_off330 (i : grid0.Coords) : Fin 4 → Nat :=
  let arg1 : BitVec 32 := BitVec.ofNat 32 (i 1).val
  let c2_i32 : BitVec 32 := 2#32
  let v2 : BitVec 32 := Scalar.remsi arg1 c2_i32
  let v5843 : Index := Scalar.indexCast v2
  let c57_2632 : Index := 57#32
  let c128_2633 : Index := 128#32
  let c128_2634 : Index := 128#32
  ![v5843.toNat, 57, 128, 128]
def k0_off331 (i : grid0.Coords) : Fin 4 → Nat :=
  let arg1 : BitVec 32 := BitVec.ofNat 32 (i 1).val
  let c2_i32 : BitVec 32 := 2#32
  let v2 : BitVec 32 := Scalar.remsi arg1 c2_i32
  let v5856 : Index := Scalar.indexCast v2
  let c58_2639 : Index := 58#32
  let c128_2640 : Index := 128#32
  let c128_2641 : Index := 128#32
  ![v5856.toNat, 58, 128, 128]
def k0_off332 (i : grid0.Coords) : Fin 4 → Nat :=
  let arg1 : BitVec 32 := BitVec.ofNat 32 (i 1).val
  let c2_i32 : BitVec 32 := 2#32
  let v2 : BitVec 32 := Scalar.remsi arg1 c2_i32
  let v5869 : Index := Scalar.indexCast v2
  let c59_2646 : Index := 59#32
  let c128_2647 : Index := 128#32
  let c128_2648 : Index := 128#32
  ![v5869.toNat, 59, 128, 128]
def k0_off333 (i : grid0.Coords) : Fin 4 → Nat :=
  let arg1 : BitVec 32 := BitVec.ofNat 32 (i 1).val
  let c2_i32 : BitVec 32 := 2#32
  let v2 : BitVec 32 := Scalar.remsi arg1 c2_i32
  let v5882 : Index := Scalar.indexCast v2
  let c60_2653 : Index := 60#32
  let c128_2654 : Index := 128#32
  let c128_2655 : Index := 128#32
  ![v5882.toNat, 60, 128, 128]
def k0_off334 (i : grid0.Coords) : Fin 4 → Nat :=
  let arg1 : BitVec 32 := BitVec.ofNat 32 (i 1).val
  let c2_i32 : BitVec 32 := 2#32
  let v2 : BitVec 32 := Scalar.remsi arg1 c2_i32
  let v5895 : Index := Scalar.indexCast v2
  let c61_2660 : Index := 61#32
  let c128_2661 : Index := 128#32
  let c128_2662 : Index := 128#32
  ![v5895.toNat, 61, 128, 128]
def k0_off335 (i : grid0.Coords) : Fin 4 → Nat :=
  let arg1 : BitVec 32 := BitVec.ofNat 32 (i 1).val
  let c2_i32 : BitVec 32 := 2#32
  let v2 : BitVec 32 := Scalar.remsi arg1 c2_i32
  let v5908 : Index := Scalar.indexCast v2
  let c62_2667 : Index := 62#32
  let c128_2668 : Index := 128#32
  let c128_2669 : Index := 128#32
  ![v5908.toNat, 62, 128, 128]
def k0_off336 (i : grid0.Coords) : Fin 4 → Nat :=
  let arg1 : BitVec 32 := BitVec.ofNat 32 (i 1).val
  let c2_i32 : BitVec 32 := 2#32
  let v2 : BitVec 32 := Scalar.remsi arg1 c2_i32
  let v5921 : Index := Scalar.indexCast v2
  let c63_2674 : Index := 63#32
  let c128_2675 : Index := 128#32
  let c128_2676 : Index := 128#32
  ![v5921.toNat, 63, 128, 128]
def k0_off337 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32_2683 : BitVec 32 := 32#32
  let c0_i32_2684 : BitVec 32 := 0#32
  let c0_i32_2685 : BitVec 32 := 0#32
  ![v1.toNat, 32, 0, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S8x64x256x256 : Shape := ⟨4, ![8, 64, 256, 256]⟩
abbrev S8x256 : Shape := ⟨2, ![8, 256]⟩
abbrev S1x64x1x1 : Shape := ⟨4, ![1, 64, 1, 1]⟩
abbrev S1x64x1 : Shape := ⟨3, ![1, 64, 1]⟩
abbrev S8x1x256x1 : Shape := ⟨4, ![8, 1, 256, 1]⟩
abbrev S8x1x1x256 : Shape := ⟨4, ![8, 1, 1, 256]⟩
abbrev S8x1x256x256 : Shape := ⟨4, ![8, 1, 256, 256]⟩
abbrev S_ : Shape := ⟨0, ![]⟩
abbrev S8 : Shape := ⟨1, ![8]⟩
abbrev S8x1 : Shape := ⟨2, ![8, 1]⟩
abbrev S256x256 : Shape := ⟨2, ![256, 256]⟩
abbrev S8x64x256 : Shape := ⟨3, ![8, 64, 256]⟩
abbrev S8x1x256 : Shape := ⟨3, ![8, 1, 256]⟩
abbrev S8x64 : Shape := ⟨2, ![8, 64]⟩
abbrev S8x1x1x1 : Shape := ⟨4, ![8, 1, 1, 1]⟩
abbrev S1x1x256x256 : Shape := ⟨4, ![1, 1, 256, 256]⟩
abbrev S1x64x256x256 : Shape := ⟨4, ![1, 64, 256, 256]⟩

abbrev nBuf : Space → Nat
  | .hbm => 96
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x256, .f32⟩
  | .hbm, ⟨2, _⟩ => ⟨S1x64x1x1, .f32⟩
  | .hbm, ⟨3, _⟩ => ⟨S1x64x1x1, .f32⟩
  | .hbm, ⟨4, _⟩ => ⟨S1x64x1x1, .f32⟩
  | .hbm, ⟨5, _⟩ => ⟨S1x64x1, .f32⟩
  | .hbm, ⟨6, _⟩ => ⟨S8x1x256x1, .f32⟩
  | .hbm, ⟨7, _⟩ => ⟨S8x1x1x256, .f32⟩
  | .hbm, ⟨8, _⟩ => ⟨S8x1x256x256, .f32⟩
  | .hbm, ⟨9, _⟩ => ⟨S8x1x256x256, .f32⟩
  | .hbm, ⟨10, _⟩ => ⟨S8x1x256x256, .f32⟩
  | .hbm, ⟨11, _⟩ => ⟨S8x256, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S_, .f32⟩
  | .hbm, ⟨19, _⟩ => ⟨S_, .f32⟩
  | .hbm, ⟨20, _⟩ => ⟨S8x1, .f32⟩
  | .hbm, ⟨21, _⟩ => ⟨S8x1, .f32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S8x64x256x256, .i1⟩
  | .hbm, ⟨26, _⟩ => ⟨S_, .f32⟩
  | .hbm, ⟨27, _⟩ => ⟨S8x64x256x256, .f32⟩
  | .hbm, ⟨28, _⟩ => ⟨S8x64x256x256, .f32⟩
  | .hbm, ⟨29, _⟩ => ⟨S_, .f32⟩
  | .hbm, ⟨30, _⟩ => ⟨S8x64x256, .f32⟩
  | .hbm, ⟨31, _⟩ => ⟨S8x1x256, .f32⟩
  | .hbm, ⟨32, _⟩ => ⟨S8x64x256, .f32⟩
  | .hbm, ⟨33, _⟩ => ⟨S8x64x256, .f32⟩
  | .hbm, ⟨34, _⟩ => ⟨S_, .f32⟩
  | .hbm, ⟨35, _⟩ => ⟨S8x64, .f32⟩
  | .hbm, ⟨36, _⟩ => ⟨S8x64x256, .f32⟩
  | .hbm, ⟨37, _⟩ => ⟨S8x1x256, .f32⟩
  | .hbm, ⟨38, _⟩ => ⟨S8x64x256, .f32⟩
  | .hbm, ⟨39, _⟩ => ⟨S8x64x256, .f32⟩
  | .hbm, ⟨40, _⟩ => ⟨S_, .f32⟩
  | .hbm, ⟨41, _⟩ => ⟨S8x64, .f32⟩
  | .hbm, ⟨42, _⟩ => ⟨S8x64, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S8x64, .f32⟩
  | .hbm, ⟨47, _⟩ => ⟨S8x1, .f32⟩
  | .hbm, ⟨48, _⟩ => ⟨S8x64, .f32⟩
  | .hbm, ⟨49, _⟩ => ⟨S8x64, .f32⟩
  | .hbm, ⟨50, _⟩ => ⟨S8x64, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .f32⟩
  | .hbm, ⟨68, _⟩ => ⟨S8x1x1x1, .f32⟩
  | .hbm, ⟨69, _⟩ => ⟨S1x1x256x256, .f32⟩
  | .hbm, ⟨70, _⟩ => ⟨S8x1x256x256, .f32⟩
  | .hbm, ⟨71, _⟩ => ⟨S8x1x256x256, .f32⟩
  | .hbm, ⟨72, _⟩ => ⟨S8x1x256x256, .f32⟩
  | .hbm, ⟨73, _⟩ => ⟨S8x64x256x256, .f32⟩
  | .hbm, ⟨74, _⟩ => ⟨S8x64x256x256, .f32⟩
  | .hbm, ⟨75, _⟩ => ⟨S8x64x256x256, .f32⟩
  | .hbm, ⟨76, _⟩ => ⟨S8x64x256x256, .f32⟩
  | .hbm, ⟨77, _⟩ => ⟨S8x1x1x1, .f32⟩
  | .hbm, ⟨78, _⟩ => ⟨S_, .f32⟩
  | .hbm, ⟨79, _⟩ => ⟨S8x1x1x1, .f32⟩
  | .hbm, ⟨80, _⟩ => ⟨S8x1x1x1, .f32⟩
  | .hbm, ⟨81, _⟩ => ⟨S8x1x1x1, .f32⟩
  | .hbm, ⟨82, _⟩ => ⟨S8x64x256x256, .f32⟩
  | .hbm, ⟨83, _⟩ => ⟨S8x64x256x256, .f32⟩
  | .hbm, ⟨84, _⟩ => ⟨S1x64x1x1, .f32⟩
  | .hbm, ⟨85, _⟩ => ⟨S1x1x256x256, .f32⟩
  | .hbm, ⟨86, _⟩ => ⟨S1x64x256x256, .f32⟩
  | .hbm, ⟨87, _⟩ => ⟨S1x64x256x256, .f32⟩
  | .hbm, ⟨88, _⟩ => ⟨S1x64x256x256, .f32⟩
  | .hbm, ⟨89, _⟩ => ⟨S1x64x1x1, .f32⟩
  | .hbm, ⟨90, _⟩ => ⟨S1x64x1x1, .f32⟩
  | .hbm, ⟨91, _⟩ => ⟨S1x64x1x1, .f32⟩
  | .hbm, ⟨92, _⟩ => ⟨S8x64x256x256, .f32⟩
  | .hbm, ⟨93, _⟩ => ⟨S8x64x256x256, .f32⟩
  | .hbm, ⟨94, _⟩ => ⟨S8x64x256x256, .f32⟩
  | .hbm, ⟨95, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Proof.Short.lean ====
/-
  The kernel's body written once more with its repeated stretches as loops over the features. The printed body has
  one copy of the text per feature; here the text for one feature is a definition and `rep` runs it for every feature.
  Short/Eq.lean shows that the two are one program.
-/
module

public import proofs.«01_k».proof.Proof.Gen.KernelIdeal

@[expose] public section

set_option synthInstance.maxSize 4096

noncomputable section

namespace Cert.KernelIdeal.Hand

open Idealize.ShloMosaic Idealize.SL.Sem
open Cert.KernelIdeal Cert.KernelIdeal.Gen

variable {F : FTy → Type} [FloatOps F]

/-- The kernel's programs. -/
abbrev K (F : FTy → Type) [FloatOps F] (α : Type) : Type 1 := Prog (TpuEff nD τ sig (Elt F) Λ₀ .tc) α

/-- Run `f k`, `f (k+1)`, … , `n` of them, each from the state the one before left. -/
def rep {σ : Type} {N : ℕ} (f : (g : ℕ) → g < N → σ → K F σ) : (n k : ℕ) → k + n ≤ N → σ → K F σ
  | 0, _, _, s => .ret s
  | n + 1, k, h, s => Prog.bind (f k (by omega) s) fun s' => rep f n (k + 1) (by omega) s'

/-! ## Which slot, which image -/

/-- The input slot a point computes on: its second coordinate's parity. -/
def cur (i : grid0.Coords) : BitVec 32 := Scalar.remsi (BitVec.ofNat 32 (i 1).val) 2#32
/-- The input slot it fills for the next point. -/
def nxt (i : grid0.Coords) : BitVec 32 := Scalar.remsi (Scalar.addi (BitVec.ofNat 32 (i 1).val) 1#32) 2#32
/-- The image of the batch that it computes. -/
def img (i : grid0.Coords) : BitVec 32 := Scalar.addi (Scalar.muli (BitVec.ofNat 32 (i 0).val) 4#32) (BitVec.ofNat 32 (i 1).val)
/-- "Not the first point of its row." -/
def notFirst (i : grid0.Coords) : BitVec 1 :=
  Scalar.cmpi .ne (Scalar.extui (Scalar.cmpi .sgt (BitVec.ofNat 32 (i 1).val) 0#32) : BitVec 32) 0#32
/-- "The last point of its row." -/
def isLast (i : grid0.Coords) : BitVec 1 :=
  Scalar.cmpi .ne (Scalar.extui (Scalar.cmpi .eq (BitVec.ofNat 32 (i 1).val) 3#32) : BitVec 32) 0#32

theorem cur_lt : ∀ i : grid0.Coords, (cur i).toNat < 2 := by decide +kernel
theorem nxt_lt : ∀ i : grid0.Coords, (nxt i).toNat < 2 := by decide +kernel
theorem img_lt : ∀ i : grid0.Coords, (img i).toNat < 8 := by decide +kernel
theorem next_lt : ∀ i : grid0.Coords, k0_cond2 i = 1#1 → (Scalar.addi (img i) 1#32).toNat < 8 := by decide +kernel

/-! ## Rectangles in bounds -/

theorem inbS {s c : ℕ} (hs : s < 2) (hc : c < 2) : ∀ a, (![s, c] : Fin 2 → ℕ) a + S1x1.size a ≤ S2x2.size a := by
  intro a; fin_cases a <;> simp [S1x1, S2x2] <;> omega
theorem inbT {c : ℕ} (hc : c < 2) : ∀ a, (![c] : Fin 1 → ℕ) a + S1.size a ≤ S2.size a := by
  intro a; fin_cases a; simp [S1, S2]; omega
theorem inbX {s f : ℕ} (hs : s < 2) (hf : f ≤ 32) : ∀ a, (![s, f, 0, 0] : Fin 4 → ℕ) a + S1x32x256x256.size a ≤ S2x64x256x256.size a := by
  intro a; fin_cases a <;> simp [S1x32x256x256, S2x64x256x256] <;> omega
theorem inbH {b f : ℕ} (hs : b < 8) (hf : f ≤ 32) : ∀ a, (![b, f, 0, 0] : Fin 4 → ℕ) a + S1x32x256x256.size a ≤ S8x64x256x256.size a := by
  intro a; fin_cases a <;> simp [S1x32x256x256, S8x64x256x256] <;> omega
theorem inbO {c : ℕ} (hs : c < 2) : ∀ a, (![c, 0, 0, 0] : Fin 4 → ℕ) a + S1x32x256x256.size a ≤ S2x32x256x256.size a := by
  intro a; fin_cases a <;> simp [S1x32x256x256, S2x32x256x256] <;> omega
theorem inbA {s f : ℕ} (hs : s < 2) (hf : f < 64) : ∀ a, (![s, f, 0, 0] : Fin 4 → ℕ) a + S1x1x256x256.size a ≤ S2x64x256x256.size a := by
  intro a; fin_cases a <;> simp [S1x1x256x256, S2x64x256x256] <;> omega
theorem inbQ {s f r q : ℕ} (hs : s < 2) (hf : f < 64) (hr : r ≤ 128) (hq : q ≤ 128) :
    ∀ a, (![s, f, r, q] : Fin 4 → ℕ) a + S1x1x128x128.size a ≤ S2x64x256x256.size a := by
  intro a; fin_cases a <;> simp [S1x1x128x128, S2x64x256x256] <;> omega
theorem inbP {c g r q : ℕ} (hs : c < 2) (hf : g < 32) (hr : r ≤ 128) (hq : q ≤ 128) :
    ∀ a, (![c, g, r, q] : Fin 4 → ℕ) a + S1x1x128x128.size a ≤ S2x32x256x256.size a := by
  intro a; fin_cases a <;> simp [S1x1x128x128, S2x32x256x256] <;> omega

/-! ## The transfers' ends -/

/-- The semaphore of input slot `s`, chunk `c`. -/
abbrev inSem (M : DmaSems sig S2x2) (s c : ℕ) (hs : s < 2) (hc : c < 2) : DmaSems sig S_ :=
  (M.slice (Rect.unit (s := S2x2) ![s, c] S1x1.size (inbS hs hc))).squeeze S_ squeezes_S1x1_S_
/-- The semaphore of output chunk `c`. -/
abbrev outSem (M : DmaSems sig S2) (c : ℕ) (hc : c < 2) : DmaSems sig S_ :=
  (M.slice (Rect.unit (s := S2) ![c] S1.size (inbT hc))).squeeze S_ squeezes_S1_S_
/-- 32 features of input slot `s`, from feature `f`. -/
abbrev xWin (M : Memref sig .tc .vmem S2x64x256x256 .f32) (s f : ℕ) (hs : s < 2) (hf : f ≤ 32) : Memref sig .tc .vmem S32x256x256 .f32 :=
  (M.slice (Rect.unit (s := S2x64x256x256) ![s, f, 0, 0] S1x32x256x256.size (inbX hs hf)) (fun _ => rfl)).squeeze S32x256x256 squeezes_S1x32x256x256_S32x256x256
/-- 32 features of image `b` of an array in HBM, from feature `f`. -/
abbrev hWin (M : Memref sig .tc .hbm S8x64x256x256 .f32) (b f : ℕ) (hb : b < 8) (hf : f ≤ 32) : Memref sig .tc .hbm S32x256x256 .f32 :=
  (M.slice (Rect.unit (s := S8x64x256x256) ![b, f, 0, 0] S1x32x256x256.size (inbH hb hf)) (fun _ => rfl)).squeeze S32x256x256 squeezes_S1x32x256x256_S32x256x256
/-- Output chunk `c`. -/
abbrev oWin (M : Memref sig .tc .vmem S2x32x256x256 .f32) (c : ℕ) (hc : c < 2) : Memref sig .tc .vmem S32x256x256 .f32 :=
  (M.slice (Rect.unit (s := S2x32x256x256) ![c, 0, 0, 0] S1x32x256x256.size (inbO hc)) (fun _ => rfl)).squeeze S32x256x256 squeezes_S1x32x256x256_S32x256x256

/-! ## What a point computes -/

/-- The identity matrix as truth values. -/
def eyeB : IVec S256x256 1 := cmpi .eq (iota .tc S256x256 32 [0] iota_S256x256_d0_w32) (iota .tc S256x256 32 [1] iota_S256x256_d1_w32)
/-- The mask row, and its square. -/
def mRow (v : Vec F S1x1x256 .f32) : FVec F S1x256 .f32 := shapeCast S1x256 v shapeCasts_S1x1x256_S1x256
def mSq (v : Vec F S1x1x256 .f32) : FVec F S1x256 .f32 := mulf (mRow v) (mRow v)
/-- The square down the diagonal, zero elsewhere. -/
def e2 (v : Vec F S1x1x256 .f32) : FVec F S256x256 .f32 :=
  select eyeB (broadcastTo S256x256 (shapeCast S1x256 (mSq v) shapeCasts_S1x256_S1x256) broadcasts_S1x256_S256x256)
    (broadcast S256x256 (Scalar.ofBits .f32 0x00000000#32))
/-- One diagonal block of the masked feature summed. -/
def trPart (a e : FVec F S128x128 .f32) : F .f32 :=
  extractAt ![0, 0, 0] (shapeCast S1x1x1 (multiReduction .add [1, 2] S1 (shapeCast S1x128x128 (mulf a e) shapeCasts_S128x128_S1x128x128)
    0x00000000#32 reduces_S1x128x128_S1 (.inl rfl) rfl) shapeCasts_S1_S1x1x1) inpos_S1x1x1_p0_0_0
/-- A feature as a matrix. -/
def mat (x : Vec F S1x1x256x256 .f32) : FVec F S256x256 .f32 := shapeCast S256x256 x shapeCasts_S1x1x256x256_S256x256
/-- A feature's masked trace. -/
def trOf (v : Vec F S1x1x256 .f32) (x : Vec F S1x1x256x256 .f32) : F .f32 :=
  Scalar.addf
    (trPart (extractStridedSlice S128x128 ![0, 0] (mat x) slices_S256x256_o0_0_S128x128)
      (extractStridedSlice S128x128 ![0, 0] (e2 v) slices_S256x256_o0_0_S128x128))
    (trPart (extractStridedSlice S128x128 ![128, 128] (mat x) slices_S256x256_o128_128_S128x128)
      (extractStridedSlice S128x128 ![128, 128] (e2 v) slices_S256x256_o128_128_S128x128))
/-- The row of traces with feature `f`'s added at lane `f`. -/
def trStep (v : Vec F S1x1x256 .f32) (f : ℕ) (x : Vec F S1x1x256x256 .f32) (t : FVec F S1x256 .f32) : FVec F S1x256 .f32 :=
  addf t (select (cmpi .eq (iota .tc S1x256 32 [1] iota_S1x256_d1_w32) (broadcast S1x256 (BitVec.ofNat 32 f)))
    (broadcast S1x256 (trOf v x)) (broadcast S1x256 (Scalar.ofBits .f32 0x00000000#32)))
/-- The trace of the masked feature's square. -/
def sqOf (v : Vec F S1x1x256 .f32) (x : Vec F S1x1x256x256 .f32) : F .f32 :=
  extractAt ![0, 0, 0] (shapeCast S1x1x1 (multiReduction .add [1, 2] S1 (shapeCast S1x256x256
    (mulf (mulf (mat x) (transpose S256x256 [1, 0] (mat x) transposes_S256x256_p1_0_S256x256)) (broadcastTo S256x256 (mSq v) broadcasts_S1x256_S256x256))
    shapeCasts_S256x256_S1x256x256) 0x00000000#32 reduces_S1x256x256_S1 (.inl rfl) rfl) shapeCasts_S1_S1x1x1) inpos_S1x1x1_p0_0_0
/-- One feature's part of the two running sums: the row of traces, and the sum of squares. -/
def stStep (v : Vec F S1x1x256 .f32) (f : ℕ) (x : Vec F S1x1x256x256 .f32) (s : FVec F S1x256 .f32 × F .f32) : FVec F S1x256 .f32 × F .f32 :=
  (trStep v f x s.1, Scalar.addf s.2 (sqOf v x))
/-- What they start from. -/
def st0 : FVec F S1x256 .f32 × F .f32 := (broadcast S1x256 (Scalar.ofBits .f32 0x00000000#32), Scalar.ofBits .f32 0x00000000#32)
/-- The sum of a row of 256. -/
def sumRow (r : FVec F S1x256 .f32) : F .f32 :=
  extractAt ![0, 0, 0] (shapeCast S1x1x1 (multiReduction .add [1, 2] S1 (shapeCast S1x1x256 r shapeCasts_S1x256_S1x1x256)
    0x00000000#32 reduces_S1x1x256_S1 (.inl rfl) rfl) shapeCasts_S1_S1x1x1) inpos_S1x1x1_p0_0_0
/-- The sum of a row of 64. -/
def sumRow64 (r : FVec F S1x64 .f32) : F .f32 :=
  extractAt ![0, 0, 0] (shapeCast S1x1x1 (multiReduction .add [1, 2] S1 (shapeCast S1x1x64 r shapeCasts_S1x64_S1x1x64)
    0x00000000#32 reduces_S1x1x64_S1 (.inl rfl) rfl) shapeCasts_S1_S1x1x1) inpos_S1x1x1_p0_0_0
/-- The mask's count. -/
def cnt (v : Vec F S1x1x256 .f32) : F .f32 := sumRow (mSq v)
/-- The mean. -/
def meanB (v : Vec F S1x1x256 .f32) (s : FVec F S1x256 .f32 × F .f32) : F .f32 :=
  Scalar.divf (sumRow s.1) (Scalar.mulf (cnt v) (Scalar.ofBits .f32 0x42800000#32))
/-- The variance. -/
def varB (v : Vec F S1x1x256 .f32) (s : FVec F S1x256 .f32 × F .f32) : F .f32 :=
  Scalar.divf (Scalar.subf s.2 (Scalar.divf (sumRow (mulf s.1 s.1)) (cnt v)))
    (Scalar.mulf (Scalar.maximumf (Scalar.subf (cnt v) (Scalar.ofBits .f32 0x3F800000#32)) (Scalar.ofBits .f32 0x3F800000#32)) (Scalar.ofBits .f32 0x42800000#32))
/-- The reciprocal of the deviation. -/
def invB (v : Vec F S1x1x256 .f32) (s : FVec F S1x256 .f32 × F .f32) : F .f32 :=
  Scalar.rsqrt (Scalar.addf (varB v s) (Scalar.ofBits .f32 0x3089705F#32))
/-- The features' scales. -/
def scaleV (w we wb : Vec F S1x64 .f32) : FVec F S1x64 .f32 :=
  addf (mulf (shapeCast S1x64 w shapeCasts_S1x64_S1x64) (exp (shapeCast S1x64 we shapeCasts_S1x64_S1x64))) (shapeCast S1x64 wb shapeCasts_S1x64_S1x64)
/-- Entry `f` of a row of 64, picked by a masked sum. -/
def pick (f : ℕ) (r : FVec F S1x64 .f32) : F .f32 :=
  sumRow64 (select (cmpi .eq (iota .tc S1x64 32 [1] iota_S1x64_d1_w32) (broadcast S1x64 (BitVec.ofNat 32 f))) r
    (broadcast S1x64 (Scalar.ofBits .f32 0x00000000#32)))
/-- The identity matrix. -/
def eyeF : FVec F S256x256 .f32 :=
  select eyeB (broadcast S256x256 (Scalar.ofBits .f32 0x3F800000#32)) (broadcast S256x256 (Scalar.ofBits .f32 0x00000000#32))
/-- The mask's outer square over the deviation. -/
def m2i (v : Vec F S1x1x256 .f32) (s : FVec F S1x256 .f32 × F .f32) : FVec F S256x256 .f32 :=
  mulf (mulf (broadcastTo S256x256 (transpose S256x1 [1, 0] (mRow v) transposes_S1x256_p1_0_S256x1) broadcasts_S256x1_S256x256)
    (broadcastTo S256x256 (mRow v) broadcasts_S1x256_S256x256)) (broadcast S256x256 (invB v s))
/-- The mean down the diagonal. -/
def me1 (v : Vec F S1x1x256 .f32) (s : FVec F S1x256 .f32 × F .f32) : FVec F S256x256 .f32 :=
  mulf (broadcast S256x256 (meanB v s)) eyeF
/-- A block of a feature as a matrix. -/
def matQ (x : Vec F S1x1x128x128 .f32) : FVec F S128x128 .f32 := shapeCast S128x128 x shapeCasts_S1x1x128x128_S128x128
/-- What is stored over a block on the diagonal. -/
def payD (v : Vec F S1x1x256 .f32) (s : FVec F S1x256 .f32 × F .f32) (sv bv : F .f32) (r q : ℕ) (h : S256x256.Slices ![r, q] S128x128)
    (x : Vec F S1x1x128x128 .f32) : Vec F S1x1x128x128 .f32 :=
  shapeCast S1x1x128x128 (addf (mulf (mulf (subf (matQ x) (extractStridedSlice S128x128 ![r, q] (me1 v s) h)) (extractStridedSlice S128x128 ![r, q] (m2i v s) h)) (broadcast S128x128 sv))
    (mulf (broadcast S128x128 bv) (extractStridedSlice S128x128 ![r, q] (eyeF) h))) shapeCasts_S128x128_S1x1x128x128
/-- What is stored over a block off the diagonal. -/
def payO (v : Vec F S1x1x256 .f32) (s : FVec F S1x256 .f32 × F .f32) (sv : F .f32) (r q : ℕ) (h : S256x256.Slices ![r, q] S128x128)
    (x : Vec F S1x1x128x128 .f32) : Vec F S1x1x128x128 .f32 :=
  shapeCast S1x1x128x128 (mulf (mulf (matQ x) (extractStridedSlice S128x128 ![r, q] (m2i v s) h)) (broadcast S128x128 sv)) shapeCasts_S128x128_S1x1x128x128

/-! ## The body -/

section Body

variable (i : grid0.Coords) (arg2 : Memref sig .tc .vmem S1x1x256 .f32) (arg3 arg4 arg5 arg6 : Memref sig .tc .vmem S1x64 .f32)
  (arg7 arg8 : Memref sig .tc .hbm S8x64x256x256 .f32) (arg9 : Memref sig .tc .vmem S2x64x256x256 .f32)
  (arg10 : Memref sig .tc .vmem S2x32x256x256 .f32) (arg11 : DmaSems sig S2x2) (arg12 : DmaSems sig S2)

/-- Start the copy of chunk `f/32` of image `b` into input slot `s`. -/
def dmaIn (s b c f : ℕ) (hs : s < 2) (hb : b < 8) (hc : c < 2) (hf : f ≤ 32) : K F PUnit :=
  Prog.lift (.enqueueDma (hWin arg7 b f hb hf) (.here (xWin arg9 s f hs hf)) (.dma (inSem arg11 s c hs hc).sem)
    ((View.wordExact_bits rfl).reshape _ _) ((View.wordExact_bits rfl).reshape _ _) ⟨Or.inl rfl, trivial⟩)
/-- Wait for chunk `c` of input slot `s`. -/
def waitIn (s c : ℕ) (hs : s < 2) (hc : c < 2) : K F PUnit :=
  Prog.lift (.waitDma2 (inSem arg11 s c hs hc).sem (hWin arg7 0 0 (by decide) (by decide)) (xWin arg9 s 0 hs (by decide))
    ((View.wordExact_bits rfl).reshape _ _) ((View.wordExact_bits rfl).reshape _ _))
/-- Start the copy of output chunk `c` to image `b`. -/
def dmaOut (b c f : ℕ) (hb : b < 8) (hc : c < 2) (hf : f ≤ 32) : K F PUnit :=
  Prog.lift (.enqueueDma (oWin arg10 c hc) (.here (hWin arg8 b f hb hf)) (.dma (outSem arg12 c hc).sem)
    ((View.wordExact_bits rfl).reshape _ _) ((View.wordExact_bits rfl).reshape _ _) ⟨Or.inl rfl, trivial⟩)
/-- Wait for the copy of output chunk `c`. -/
def waitOut (c : ℕ) (hc : c < 2) : K F PUnit :=
  Prog.lift (.waitDma2 (outSem arg12 c hc).sem (oWin arg10 c hc) (hWin arg8 0 0 (by decide) (by decide))
    ((View.wordExact_bits rfl).reshape _ _) ((View.wordExact_bits rfl).reshape _ _))

/-- At a row's first point, start both chunks of its own image. -/
def startOwn : K F PUnit :=
  if h : k0_cond1 i = 1#1 then
    Prog.bind (dmaIn arg7 arg9 arg11 (cur i).toNat (img i).toNat 0 0 (cur_lt i) (img_lt i) (by decide) (by decide)) fun _ =>
    Prog.bind (dmaIn arg7 arg9 arg11 (cur i).toNat (img i).toNat 1 32 (cur_lt i) (img_lt i) (by decide) (by decide)) fun _ => .ret ⟨⟩
  else .ret ⟨⟩
/-- But at its last, start both chunks of the next. -/
def startNext : K F PUnit :=
  if h : k0_cond2 i = 1#1 then
    Prog.bind (dmaIn arg7 arg9 arg11 (nxt i).toNat (Scalar.addi (img i) 1#32).toNat 0 0 (nxt_lt i) (next_lt i h) (by decide) (by decide)) fun _ =>
    Prog.bind (dmaIn arg7 arg9 arg11 (nxt i).toNat (Scalar.addi (img i) 1#32).toNat 1 32 (nxt_lt i) (next_lt i h) (by decide) (by decide)) fun _ => .ret ⟨⟩
  else .ret ⟨⟩
/-- Read feature `f0 + g` and add its part of the two sums. -/
def stLoad (v : Vec F S1x1x256 .f32) (f0 : ℕ) (hf : f0 ≤ 32) (g : ℕ) (hg : g < 32) (s : FVec F S1x256 .f32 × F .f32) : K F (FVec F S1x256 .f32 × F .f32) :=
  .op (.load arg9 (Rect.unit (s := S2x64x256x256) ![(cur i).toNat, f0 + g, 0, 0] S1x1x256x256.size (inbA (cur_lt i) (by omega))).toLoadRect (View.loadsAt_vmem h_S1x1x256x256))
    fun x => .ret (stStep v (f0 + g) x s)
/-- One chunk's part of the two sums. -/
def stChunk (v : Vec F S1x1x256 .f32) (c f0 : ℕ) (hc : c < 2) (hf : f0 ≤ 32) (s : FVec F S1x256 .f32 × F .f32) : K F (FVec F S1x256 .f32 × F .f32) :=
  Prog.bind (waitIn arg7 arg9 arg11 (cur i).toNat c (cur_lt i) hc) fun _ => rep (stLoad i arg9 v f0 hf) 32 0 (by decide) s
/-- Read the bias row and pick feature `f0 + g`'s, kept as entry `g` of the list so far. -/
def bLoad (f0 : ℕ) (g : ℕ) (hg : g < 32) (l : ℕ → F .f32) : K F (ℕ → F .f32) :=
  .op (.load arg6 (Rect.unit (s := S1x64) ![0, 0] S1x64.size inb_S1x64_S1x64_0_0).toLoadRect (View.loadsAt_vmem h_S1x64))
    fun x => .ret fun h => if h = g then pick (f0 + g) (shapeCast S1x64 x shapeCasts_S1x64_S1x64) else l h
/-- Read, compute and store one block of feature `f0 + g` of chunk `c`. -/
def qStep (c f0 : ℕ) (hc : c < 2) (hf : f0 ≤ 32) (r q : ℕ) (hr : r ≤ 128) (hq : q ≤ 128)
    (pay : ℕ → Vec F S1x1x128x128 .f32 → Vec F S1x1x128x128 .f32) (g : ℕ) (hg : g < 32) (_ : PUnit) : K F PUnit :=
  .op (.load arg9 (Rect.unit (s := S2x64x256x256) ![(cur i).toNat, f0 + g, r, q] S1x1x128x128.size (inbQ (cur_lt i) (by omega) hr hq)).toLoadRect (View.loadsAt_vmem h_S1x1x128x128))
    fun x =>
  .op (.load arg10 (Rect.unit (s := S2x32x256x256) ![c, g, r, q] S1x1x128x128.size (inbP hc hg hr hq)).toLoadRect (View.loadsAt_vmem h_S1x1x128x128))
    fun _ =>
  .op (.store arg10 (Rect.unit (s := S2x32x256x256) ![c, g, r, q] S1x1x128x128.size (inbP hc hg hr hq)) (pay g x) Finset.univ (View.stores_vmem_bits_univ h_S1x1x128x128 rfl) (.inl rfl))
    fun _ => .ret ⟨⟩
/-- A chunk's four blocks, feature by feature within each. -/
def qChunk (v : Vec F S1x1x256 .f32) (s : FVec F S1x256 .f32 × F .f32) (sc : FVec F S1x64 .f32) (bv : ℕ → F .f32) (c f0 : ℕ) (hc : c < 2) (hf : f0 ≤ 32) : K F PUnit :=
  Prog.bind (rep (qStep i arg9 arg10 c f0 hc hf 0 0 (by decide) (by decide)
    (fun g => payD v s (pick (f0 + g) sc) (bv g) 0 0 slices_S256x256_o0_0_S128x128)) 32 0 (by decide) ⟨⟩) fun _ =>
  Prog.bind (rep (qStep i arg9 arg10 c f0 hc hf 0 128 (by decide) (by decide)
    (fun g => payO v s (pick (f0 + g) sc) 0 128 slices_S256x256_o0_128_S128x128)) 32 0 (by decide) ⟨⟩) fun _ =>
  Prog.bind (rep (qStep i arg9 arg10 c f0 hc hf 128 0 (by decide) (by decide)
    (fun g => payO v s (pick (f0 + g) sc) 128 0 slices_S256x256_o128_0_S128x128)) 32 0 (by decide) ⟨⟩) fun _ =>
  rep (qStep i arg9 arg10 c f0 hc hf 128 128 (by decide) (by decide)
    (fun g => payD v s (pick (f0 + g) sc) (bv g) 128 128 slices_S256x256_o128_128_S128x128)) 32 0 (by decide) ⟨⟩
/-- A chunk of the output: wait for the chunk's last copy, compute, start its copy. -/
def outChunk (v : Vec F S1x1x256 .f32) (s : FVec F S1x256 .f32 × F .f32) (sc : FVec F S1x64 .f32) (c f0 : ℕ) (hc : c < 2) (hf : f0 ≤ 32) : K F PUnit :=
  Prog.bind (if h : notFirst i = 1#1 then Prog.bind (waitOut arg8 arg10 arg12 c hc) fun _ => .ret ⟨⟩ else .ret ⟨⟩ : K F PUnit) fun _ =>
  Prog.bind (rep (bLoad arg6 f0) 32 0 (by decide) fun _ => Scalar.ofBits .f32 0x00000000#32) fun bv =>
  Prog.bind (qChunk i arg9 arg10 v s sc bv c f0 hc hf) fun _ =>
  dmaOut arg8 arg10 arg12 (img i).toNat c f0 (img_lt i) hc hf
/-- At a row's last point, wait for both copies. -/
def drain : K F PUnit :=
  if h : isLast i = 1#1 then
    Prog.bind (waitOut arg8 arg10 arg12 0 (by decide)) fun _ => Prog.bind (waitOut arg8 arg10 arg12 1 (by decide)) fun _ => .ret ⟨⟩
  else .ret ⟨⟩
/-- A row of 64 read. -/
def rowLoad (arg : Memref sig .tc .vmem S1x64 .f32) : K F (Vec F S1x64 .f32) :=
  Prog.lift (.load arg (Rect.unit (s := S1x64) ![0, 0] S1x64.size inb_S1x64_S1x64_0_0).toLoadRect (View.loadsAt_vmem h_S1x64))
/-- The body. -/
def body : K F PUnit :=
  Prog.bind (startOwn i arg7 arg9 arg11) fun _ =>
  Prog.bind (startNext i arg7 arg9 arg11) fun _ =>
  Prog.bind (Prog.lift (.load arg2 (Rect.unit (s := S1x1x256) ![0, 0, 0] S1x1x256.size inb_S1x1x256_S1x1x256_0_0_0).toLoadRect (View.loadsAt_vmem h_S1x1x256))) fun v =>
  Prog.bind (stChunk i arg7 arg9 arg11 v 0 0 (by decide) (by decide) st0) fun s =>
  Prog.bind (stChunk i arg7 arg9 arg11 v 1 32 (by decide) (by decide) s) fun s =>
  Prog.bind (rowLoad arg3) fun w => Prog.bind (rowLoad arg4) fun we => Prog.bind (rowLoad arg5) fun wb =>
  Prog.bind (outChunk i arg6 arg8 arg9 arg10 arg12 v s (scaleV w we wb) 0 0 (by decide) (by decide)) fun _ =>
  Prog.bind (outChunk i arg6 arg8 arg9 arg10 arg12 v s (scaleV w we wb) 1 32 (by decide) (by decide)) fun _ =>
  drain i arg8 arg10 arg12

end Body

end Cert.KernelIdeal.Hand

end
-- ==== Proof.Windows.lean ====
/-
  The pieces of the buffers that the kernel's transfers move, by coordinates: which elements a piece has, and what a
  piece holds once another has been copied over it.
-/
module

public import proofs.«01_k».proof.Proof.Short
public import proofs.«01_k».proof.Proof.Gen.KernelIdeal.Frame
public import Idealize.ShloMosaic.Lib.Pipeline.Routed

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The buffers: the input array, the output array, the input slots, the output chunks. -/
abbrev mH : Memref sig .tc .hbm S8x64x256x256 .f32 := Memref.whole main_arg0
abbrev mR : Memref sig .tc .hbm S8x64x256x256 .f32 := Memref.whole main_v5
abbrev mX : Memref sig .tc .vmem S2x64x256x256 .f32 := Memref.whole cc0_scratch0
abbrev mO : Memref sig .tc .vmem S2x32x256x256 .f32 := Memref.whole cc0_scratch1

/-- An index of a four-axis array from its coordinates. -/
abbrev ix8 (b : Fin 8) (f : Fin 64) (i j : Fin 256) : S8x64x256x256.Idx := Fin.cons b (Fin.cons f (Fin.cons i (Fin.cons j finZeroElim)))

/-- Input slot `s`'s features from `f`, by coordinates. -/
theorem mem_xWin {s f : ℕ} (hs : s < 2) (hf : f ≤ 32) (i : S2x64x256x256.Idx) :
    i ∈ (xWin mX s f hs hf).view.set ↔ (i 0 : ℕ) = s ∧ f ≤ (i 1 : ℕ) ∧ (i 1 : ℕ) < f + 32 := by
  have e : (xWin mX s f hs hf).view.set = (Rect.unit (s := S2x64x256x256) ![s, f, 0, 0] S1x32x256x256.size (inbX hs hf)).set := (View.set_reshape _ _).trans (View.set_slice_whole _ _)
  rw [e, Rect.mem_set_unit]
  have h2 := (i 2).isLt; have h3 := (i 3).isLt
  simp only [S2x64x256x256] at h2 h3
  constructor
  · intro h; have a0 := h 0; have a1 := h 1
    simp [S1x32x256x256] at a0 a1; omega
  · intro h a; fin_cases a <;> simp [S1x32x256x256] <;> first | omega | (simp at h2 h3; omega)

/-- Image `b`'s features from `f` in the output array. -/
theorem mem_rWin {b f : ℕ} (hb : b < 8) (hf : f ≤ 32) (i : S8x64x256x256.Idx) :
    i ∈ (hWin mR b f hb hf).view.set ↔ (i 0 : ℕ) = b ∧ f ≤ (i 1 : ℕ) ∧ (i 1 : ℕ) < f + 32 := by
  have e : (hWin mR b f hb hf).view.set = (Rect.unit (s := S8x64x256x256) ![b, f, 0, 0] S1x32x256x256.size (inbH hb hf)).set := (View.set_reshape _ _).trans (View.set_slice_whole _ _)
  rw [e, Rect.mem_set_unit]
  have h2 := (i 2).isLt; have h3 := (i 3).isLt
  simp only [S8x64x256x256] at h2 h3
  constructor
  · intro h; have a0 := h 0; have a1 := h 1
    simp [S1x32x256x256] at a0 a1; omega
  · intro h a; fin_cases a <;> simp [S1x32x256x256] <;> first | omega | (simp at h2 h3; omega)

/-- Output chunk `c`. -/
theorem mem_oWin {c : ℕ} (hc : c < 2) (i : S2x32x256x256.Idx) :
    i ∈ (oWin mO c hc).view.set ↔ (i 0 : ℕ) = c := by
  have e : (oWin mO c hc).view.set = (Rect.unit (s := S2x32x256x256) ![c, 0, 0, 0] S1x32x256x256.size (inbO hc)).set := (View.set_reshape _ _).trans (View.set_slice_whole _ _)
  rw [e, Rect.mem_set_unit]
  have h1 := (i 1).isLt; have h2 := (i 2).isLt; have h3 := (i 3).isLt
  simp only [S2x32x256x256] at h1 h2 h3
  constructor
  · intro h; have a0 := h 0
    simp [S1x32x256x256] at a0; omega
  · intro h a; fin_cases a <;> simp [S1x32x256x256] <;> first | omega | (simp at h1 h2 h3; omega)

/-- What an input slot's piece holds once image `b`'s has been copied over it: the image, whichever slot. -/
def xAt (x : S8x64x256x256.Idx → Elt F .f32) (b : Fin 8) : S2x64x256x256.Idx → Elt F .f32 := fun i => x (ix8 b (i 1) (i 2) (i 3))
/-- What an output chunk holds when it is image `b`'s features of `g`. -/
def oAt (g : S8x64x256x256.Idx → Elt F .f32) (b : Fin 8) : S2x32x256x256.Idx → Elt F .f32 := fun i =>
  g (ix8 b ⟨32 * (i 0 : ℕ) + (i 1 : ℕ), by have h0 := (i 0).isLt; have h1 := (i 1).isLt; simp only [S2x32x256x256] at h0 h1; simp at h0 h1; omega⟩ (i 2) (i 3))

/-- The copy of image `b`'s features from `f` into slot `s` leaves `xAt` there. -/
theorem land_in (x : S8x64x256x256.Idx → Elt F .f32) {s b f : ℕ} (hs : s < 2) (hb : b < 8) (hf : f ≤ 32) (d : S2x64x256x256.Idx → Elt F .f32)
    (i : S2x64x256x256.Idx) (hi : i ∈ (xWin mX s f hs hf).view.set) :
    (xWin mX s f hs hf).view.write (Elt F) d (ReadAs.same.apply ((hWin mH b f hb hf).view.read (Elt F) x)) Finset.univ i = xAt x ⟨b, hb⟩ i := by
  obtain ⟨y, -, rfl⟩ := Finset.mem_map.mp hi
  refine (View.write_emb_of_mem (v := (xWin mX s f hs hf).view) _ _ (Finset.mem_univ y)).trans ?_
  show x ((hWin mH b f hb hf).view.emb y) = x _
  congr 1
  funext a
  apply Fin.ext
  have h0 : (Shape.reshapeEquiv squeezes_S1x32x256x256_S32x256x256.numel_eq y 0 : ℕ) = 0 := by
    have := (Shape.reshapeEquiv squeezes_S1x32x256x256_S32x256x256.numel_eq y 0).isLt
    simp only [S1x32x256x256] at this; simp at this; omega
  fin_cases a
  · show b + 1 * (Shape.reshapeEquiv squeezes_S1x32x256x256_S32x256x256.numel_eq y 0 : ℕ) = b
    rw [h0]; omega
  · rfl
  · rfl
  · rfl

/-- The copy of chunk `c` into image `b`'s features from `32 c` leaves there the array whose chunk it was. -/
theorem land_out (g : S8x64x256x256.Idx → Elt F .f32) {b c : ℕ} (hb : b < 8) (hc : c < 2) (f : ℕ) (hfc : f = 32 * c) (hf : f ≤ 32) (d : S8x64x256x256.Idx → Elt F .f32)
    (i : S8x64x256x256.Idx) (hi : i ∈ (hWin mR b f hb hf).view.set) :
    (hWin mR b f hb hf).view.write (Elt F) d (ReadAs.same.apply ((oWin mO c hc).view.read (Elt F) (oAt g ⟨b, hb⟩))) Finset.univ i = g i := by
  obtain ⟨y, -, rfl⟩ := Finset.mem_map.mp hi
  refine (View.write_emb_of_mem (v := (hWin mR b f hb hf).view) _ _ (Finset.mem_univ y)).trans ?_
  show g _ = g _
  congr 1
  funext a
  apply Fin.ext
  have h0 : (Shape.reshapeEquiv squeezes_S1x32x256x256_S32x256x256.numel_eq y 0 : ℕ) = 0 := by
    have := (Shape.reshapeEquiv squeezes_S1x32x256x256_S32x256x256.numel_eq y 0).isLt
    simp only [S1x32x256x256] at this; simp at this; omega
  subst hfc
  fin_cases a
  · show b = b + 1 * (Shape.reshapeEquiv squeezes_S1x32x256x256_S32x256x256.numel_eq y 0 : ℕ)
    rw [h0]; omega
  · show 32 * (c + 1 * (Shape.reshapeEquiv squeezes_S1x32x256x256_S32x256x256.numel_eq y 0 : ℕ)) + (0 + 1 * (Shape.reshapeEquiv squeezes_S1x32x256x256_S32x256x256.numel_eq y 1 : ℕ))
      = 32 * c + 1 * (Shape.reshapeEquiv squeezes_S1x32x256x256_S32x256x256.numel_eq y 1 : ℕ)
    rw [h0]; omega
  · rfl
  · rfl

/-! ## Loads and stores -/

/-- A feature of image `b`, as a load of a whole feature reads it. -/
def featOf (x : S8x64x256x256.Idx → Elt F .f32) (b : Fin 8) (f : Fin 64) : Vec F S1x1x256x256 .f32 := fun y => x (ix8 b f (y 2) (y 3))
/-- A block of a feature, as a load of the block reads it. -/
def blkOf (x : S8x64x256x256.Idx → Elt F .f32) (b : Fin 8) (f : Fin 64) (r q : ℕ) (hr : r ≤ 128) (hq : q ≤ 128) : Vec F S1x1x128x128 .f32 := fun y =>
  x (ix8 b f ⟨r + (y 2 : ℕ), by have h := (y 2).isLt; simp only [S1x1x128x128] at h; simp at h; omega⟩
    ⟨q + (y 3 : ℕ), by have h := (y 3).isLt; simp only [S1x1x128x128] at h; simp at h; omega⟩)

/-- A load of a feature from a slot that holds image `b`. -/
theorem read_feat (x : S8x64x256x256.Idx → Elt F .f32) (b : Fin 8) {s f : ℕ} (hs : s < 2) (hf : f < 64) :
    (mX.access (Rect.unit (s := S2x64x256x256) ![s, f, 0, 0] S1x1x256x256.size (inbA hs hf))).read (Elt F) (xAt x b) = featOf x b ⟨f, hf⟩ := by
  funext y
  show x _ = x _
  congr 1
  funext a
  apply Fin.ext
  fin_cases a
  · rfl
  · show f + 1 * (y 1 : ℕ) = f
    have h := (y 1).isLt; simp at h; have h' : (y 1 : ℕ) = 0 := by simpa using h
    rw [h']; omega
  · show 0 + 1 * (y 2 : ℕ) = (y 2 : ℕ); omega
  · show 0 + 1 * (y 3 : ℕ) = (y 3 : ℕ); omega

/-- A load of a block of a feature from a slot that holds image `b`. -/
theorem read_blk (x : S8x64x256x256.Idx → Elt F .f32) (b : Fin 8) {s f r q : ℕ} (hs : s < 2) (hf : f < 64) (hr : r ≤ 128) (hq : q ≤ 128) :
    (mX.access (Rect.unit (s := S2x64x256x256) ![s, f, r, q] S1x1x128x128.size (inbQ hs hf hr hq))).read (Elt F) (xAt x b) = blkOf x b ⟨f, hf⟩ r q hr hq := by
  funext y
  show x _ = x _
  congr 1
  funext a
  apply Fin.ext
  fin_cases a
  · rfl
  · show f + 1 * (y 1 : ℕ) = f
    have h := (y 1).isLt; simp at h; have h' : (y 1 : ℕ) = 0 := by simpa using h
    rw [h']; omega
  · show r + 1 * (y 2 : ℕ) = r + (y 2 : ℕ); omega
  · show q + 1 * (y 3 : ℕ) = q + (y 3 : ℕ); omega

/-- An index of a block from the block's coordinates. -/
abbrev ixQ (i j : Fin 128) : S1x1x128x128.Idx := Fin.cons (0 : Fin 1) (Fin.cons (0 : Fin 1) (Fin.cons i (Fin.cons j finZeroElim)))

/-- The elements that a store of a block writes. -/
theorem mem_blk {c g r q : ℕ} (hc : c < 2) (hg : g < 32) (hr : r ≤ 128) (hq : q ≤ 128) (i : S2x32x256x256.Idx) :
    i ∈ (mO.access (Rect.unit (s := S2x32x256x256) ![c, g, r, q] S1x1x128x128.size (inbP hc hg hr hq))).set
      ↔ (i 0 : ℕ) = c ∧ (i 1 : ℕ) = g ∧ (r ≤ (i 2 : ℕ) ∧ (i 2 : ℕ) < r + 128) ∧ (q ≤ (i 3 : ℕ) ∧ (i 3 : ℕ) < q + 128) := by
  have e : (mO.access (Rect.unit (s := S2x32x256x256) ![c, g, r, q] S1x1x128x128.size (inbP hc hg hr hq))).set
    = (Rect.unit (s := S2x32x256x256) ![c, g, r, q] S1x1x128x128.size (inbP hc hg hr hq)).set := View.set_slice_whole _ _
  rw [e, Rect.mem_set_unit]
  constructor
  · intro h; have a0 := h 0; have a1 := h 1; have a2 := h 2; have a3 := h 3
    simp [S1x1x128x128] at a0 a1 a2 a3; omega
  · intro h a; fin_cases a <;> simp [S1x1x128x128] <;> omega

/-- What a store of a block writes on its elements, -/
theorem write_blk_in {c g r q : ℕ} (hc : c < 2) (hg : g < 32) (hr : r ≤ 128) (hq : q ≤ 128) (d : S2x32x256x256.Idx → Elt F .f32)
    (w : Vec F S1x1x128x128 .f32) (i : S2x32x256x256.Idx)
    (h0 : (i 0 : ℕ) = c) (h1 : (i 1 : ℕ) = g) (u v : Fin 128) (h2 : (i 2 : ℕ) = r + u) (h3 : (i 3 : ℕ) = q + v) :
    (mO.access (Rect.unit (s := S2x32x256x256) ![c, g, r, q] S1x1x128x128.size (inbP hc hg hr hq))).write (Elt F) d w Finset.univ i = w (ixQ u v) := by
  have e : i = (mO.access (Rect.unit (s := S2x32x256x256) ![c, g, r, q] S1x1x128x128.size (inbP hc hg hr hq))).emb (ixQ u v) := by
    funext a
    apply Fin.ext
    fin_cases a
    · show (i 0 : ℕ) = c + 1 * 0; omega
    · show (i 1 : ℕ) = g + 1 * 0; omega
    · show (i 2 : ℕ) = r + 1 * (u : ℕ); omega
    · show (i 3 : ℕ) = q + 1 * (v : ℕ); omega
  rw [e]
  exact View.write_emb_of_mem (v := mO.access (Rect.unit (s := S2x32x256x256) ![c, g, r, q] S1x1x128x128.size (inbP hc hg hr hq))) _ _ (Finset.mem_univ _)
/-- and that it leaves every other as it was. -/
theorem write_blk_out {c g r q : ℕ} (hc : c < 2) (hg : g < 32) (hr : r ≤ 128) (hq : q ≤ 128) (d : S2x32x256x256.Idx → Elt F .f32)
    (w : Vec F S1x1x128x128 .f32) (i : S2x32x256x256.Idx)
    (h : i ∉ (mO.access (Rect.unit (s := S2x32x256x256) ![c, g, r, q] S1x1x128x128.size (inbP hc hg hr hq))).set) :
    (mO.access (Rect.unit (s := S2x32x256x256) ![c, g, r, q] S1x1x128x128.size (inbP hc hg hr hq))).write (Elt F) d w Finset.univ i = d i :=
  View.write_of_not_mem (v := mO.access (Rect.unit (s := S2x32x256x256) ![c, g, r, q] S1x1x128x128.size (inbP hc hg hr hq))) _ _ _ h

end Cert.KernelIdeal.Hand

end
-- ==== Proof.Logic.Pieces.lean ====
/-
  What the pieces of the body do to the buffers: a loop, the loads and stores of one feature, a chunk's copy in and its
  copy out. Each statement reads: from these resources, and from a proof that what is left afterwards is enough for `Q`,
  the piece runs and ends in `Q`.
-/
module

public import proofs.«01_k».proof.Proof.Windows
public import Idealize.ShloMosaic.Lib.Transfers
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UC sig nD τ) ℕ
local notation "EC" => (countersEmb : UEmb Counters 𝕄)

/-- A core's run of a program of the body, ending in `Q`. -/
abbrev WP (c : Dev nD) {α : Type} (p : K F α) (Q : α → sProp 𝕄) : sProp 𝕄 :=
  wp frame (wpE (defs₀ (F := F)) Variants.none (c : Thread nD τ) none) Set.univ p Q

theorem WP_bind (c : Dev nD) {α β : Type} (p : K F α) (k : α → K F β) (Q : β → sProp 𝕄) :
    WP c (Prog.bind p k) Q = WP c p (fun a => WP c (k a) Q) := wp_bind frame _ _ p k Q

theorem WP_ret (c : Dev nD) {α : Type} (a : α) (Q : α → sProp 𝕄) : Q a ⊢ WP c (.ret a) Q := le_wp_ret frame _ _ a Q

/-- A loop, by what holds before each turn. -/
theorem WP_rep (c : Dev nD) {σ : Type} {N : ℕ} (f : (g : ℕ) → g < N → σ → K F σ) (I : ℕ → σ → sProp 𝕄)
    (hstep : ∀ (g : ℕ) (hg : g < N) (s : σ) (Q : σ → sProp 𝕄), I g s ⊢ iprop((∀ s', I (g + 1) s' -∗ Q s') -∗ WP c (f g hg s) Q))
    (n : ℕ) : ∀ (k : ℕ) (h : k + n ≤ N) (s : σ) (Q : σ → sProp 𝕄),
    I k s ⊢ iprop((∀ s', I (k + n) s' -∗ Q s') -∗ WP c (rep f n k h s) Q) := by
  induction n with
  | zero =>
    intro k h s Q
    iintro HI HQ
    iapply (WP_ret c s Q)
    iapply HQ $$ HI
  | succ n ih =>
    intro k h s Q
    have h1 : k < N := by omega
    have h2 : k + 1 + n ≤ N := by omega
    unfold rep
    rw [WP_bind]
    iintro HI HQ
    iapply (hstep k h1 s _) $$ HI
    iintro %s' HI
    iapply (ih (k + 1) h2 s' Q) $$ HI
    rw [show k + 1 + n = k + (n + 1) by omega]
    iexact HQ

/-! ## The row operands -/

/-- The whole of a row of 64, and of the mask's row, as rectangles. -/
abbrev rRow : Rect S1x64 := Rect.unit (s := S1x64) ![0, 0] S1x64.size inb_S1x64_S1x64_0_0
abbrev rMask : Rect S1x1x256 := Rect.unit (s := S1x1x256) ![0, 0, 0] S1x1x256.size inb_S1x1x256_S1x1x256_0_0_0

theorem read_row {m : Memref sig .tc .vmem S1x64 .f32} (f : m.view.ty.Contents (Elt F)) :
    (m.access (rRow)).read (Elt F) f = m.view.read (Elt F) f := by
  funext y
  show m.view.read (Elt F) f _ = m.view.read (Elt F) f y
  congr 1
  funext a
  apply Fin.ext
  fin_cases a
  · show 0 + 1 * (y 0 : ℕ) = (y 0 : ℕ); omega
  · show 0 + 1 * (y 1 : ℕ) = (y 1 : ℕ); omega

theorem read_mask {m : Memref sig .tc .vmem S1x1x256 .f32} (f : m.view.ty.Contents (Elt F)) :
    (m.access (rMask)).read (Elt F) f = m.view.read (Elt F) f := by
  funext y
  show m.view.read (Elt F) f _ = m.view.read (Elt F) f y
  congr 1
  funext a
  apply Fin.ext
  fin_cases a
  · show 0 + 1 * (y 0 : ℕ) = (y 0 : ℕ); omega
  · show 0 + 1 * (y 1 : ℕ) = (y 1 : ℕ); omega
  · show 0 + 1 * (y 2 : ℕ) = (y 2 : ℕ); omega

/-- A load of a whole row of 64. -/
theorem WP_row (c : Dev nD) {α : Type} (m : Memref sig .tc .vmem S1x64 .f32) (X : S1x64.Idx → Elt F .f32) (k : Vec F S1x64 .f32 → K F α) (Q : α → sProp 𝕄)
    {hl} : (owns (c : Thread nD τ) m fullShare X : sProp 𝕄) ⊢ iprop((owns (c : Thread nD τ) m fullShare X -∗ WP c (k X) Q) -∗
      WP c (.op (.load m (rRow).toLoadRect hl) k) Q) := by
  unfold owns
  iintro ⟨%f, %hf, H⟩ HK
  iapply (wp_load_rect (m := m) (r := rRow) (S := m.view.set) Variants.none (c : Thread nD τ) none Set.univ (View.set_slice_subset _ _)) $$ H
  iintro H
  rw [read_row, hf]
  iapply HK
  iexists f
  isplitr; · ipureintro; exact hf
  iexact H

/-- The load of the mask's row. -/
theorem WP_mask (c : Dev nD) {α : Type} (m : Memref sig .tc .vmem S1x1x256 .f32) (X : S1x1x256.Idx → Elt F .f32) (k : Vec F S1x1x256 .f32 → K F α) (Q : α → sProp 𝕄)
    {hl} : (owns (c : Thread nD τ) m fullShare X : sProp 𝕄) ⊢ iprop((owns (c : Thread nD τ) m fullShare X -∗ WP c (k X) Q) -∗
      WP c (.op (.load m (rMask).toLoadRect hl) k) Q) := by
  unfold owns
  iintro ⟨%f, %hf, H⟩ HK
  iapply (wp_load_rect (m := m) (r := rMask) (S := m.view.set) Variants.none (c : Thread nD τ) none Set.univ (View.set_slice_subset _ _)) $$ H
  iintro H
  rw [read_mask, hf]
  iapply HK
  iexists f
  isplitr; · ipureintro; exact hf
  iexact H

/-! ## What is held of a chunk of an input slot, and of an output chunk -/

theorem le32 (c : Fin 2) : 32 * (c : ℕ) ≤ 32 := by omega

/-- The share of the input array that goes with a chunk of a slot. -/
abbrev xShare (s c : Fin 2) : PosShare TreeShare := shareTok fullShare 4 ⟨2 * (s : ℕ) + (c : ℕ), by omega⟩

abbrev lH (d : Dev nD) : Loc nD τ sig := (d : Thread nD τ).loc main_arg0
abbrev lR (d : Dev nD) : Loc nD τ sig := (d : Thread nD τ).loc main_v5
abbrev lX (d : Dev nD) : Loc nD τ sig := (d : Thread nD τ).loc cc0_scratch0
abbrev lO (d : Dev nD) : Loc nD τ sig := (d : Thread nD τ).loc cc0_scratch1

/-- The elements of a chunk of a slot, of an image's chunk in the input and in the output array, and of an output chunk. -/
abbrev xSet (s c : Fin 2) : Finset S2x64x256x256.Idx := (xWin mX s (32 * c) s.isLt (le32 c)).view.set
abbrev hSet (b : Fin 8) (c : Fin 2) : Finset S8x64x256x256.Idx := (hWin mH b (32 * c) b.isLt (le32 c)).view.set
abbrev rSet (b : Fin 8) (c : Fin 2) : Finset S8x64x256x256.Idx := (hWin mR b (32 * c) b.isLt (le32 c)).view.set
abbrev oSet (c : Fin 2) : Finset S2x32x256x256.Idx := (oWin mO c c.isLt).view.set

/-- The cells of the copies in and out. -/
abbrev iCell (s c : Fin 2) : DmaSem sig := (inSem cc0_scratch2 s c s.isLt c.isLt).sem
abbrev oCell (c : Fin 2) : DmaSem sig := (outSem cc0_scratch3 c c.isLt).sem

/-- The units of a chunk's copy in, and out. -/
abbrev nIn : ℕ := (xWin mX 0 0 (by decide) (by decide)).view.dmaCredit
abbrev nOut : ℕ := (hWin mR 0 0 (by decide) (by decide)).view.dmaCredit

section Held

variable (d : Dev nD) (x : S8x64x256x256.Idx → Elt F .f32) (g : S8x64x256x256.Idx → Elt F .f32)

/-- A chunk of a slot with no copy in flight. -/
def XI (s c : Fin 2) : sProp 𝕄 :=
  iprop((∃ f, lX d ↦[xSet s c]{fullShare} f) ∗ semVal ((d : Thread nD τ), .dma (iCell s c)) 0 ∗ (lH d ↦[Finset.univ]{xShare s c} x))
/-- A chunk of a slot that has image `b`'s chunk. -/
def XD (s c : Fin 2) (b : Fin 8) : sProp 𝕄 :=
  iprop((lX d ↦[xSet s c]{fullShare} xAt x b) ∗ semVal ((d : Thread nD τ), .dma (iCell s c)) 0 ∗ (lH d ↦[Finset.univ]{xShare s c} x))
/-- A chunk of a slot with image `b`'s chunk in flight to it. -/
def XF (s c : Fin 2) (b : Fin 8) : sProp 𝕄 :=
  iprop(Flight EC (d : Thread nD τ) (.dma (iCell s c)) () nIn iprop((lX d ↦[xSet s c]{fullShare} xAt x b) ∗ (lH d ↦[hSet b c]{xShare s c} x))
    ∗ (lH d ↦[Finset.univ \ hSet b c]{xShare s c} x))
/-- An output chunk with no copy in flight. -/
def OI (c : Fin 2) : sProp 𝕄 :=
  iprop((∃ f, lO d ↦[oSet c]{fullShare} f) ∗ semVal ((d : Thread nD τ), .dma (oCell c)) 0)
/-- An output chunk in flight to image `b`. -/
def OF (c : Fin 2) (b : Fin 8) : sProp 𝕄 :=
  Flight EC (d : Thread nD τ) (.dma (oCell c)) () nOut iprop((lR d ↦[rSet b c]{fullShare} g) ∗ (lO d ↦[oSet c]{fullShare} oAt g b))

theorem XD_idle (s c : Fin 2) (b : Fin 8) : (XD d x s c b : sProp 𝕄) ⊢ XI d x s c := by
  unfold XD XI
  iintro ⟨H, HR⟩
  isplitl [H]
  · iexists _; iexact H
  iexact HR

/-- Starting a chunk's copy in. -/
theorem WP_dmaIn (s c : Fin 2) (b : Fin 8) (f : ℕ) (hfc : f = 32 * c) {hs hb hc hf} (Q : PUnit → sProp 𝕄) :
    (XI d x s c : sProp 𝕄) ⊢ iprop((XF d x s c b -∗ Q ⟨⟩) -∗ WP d (dmaIn mH mX cc0_scratch2 s b c f hs hb hc hf) Q) := by
  subst hfc
  unfold XI
  iintro ⟨⟨%f0, HX⟩, Hv, HH⟩ HQ
  ihave HH := (pointsTo_split_subset (Finset.subset_univ (hSet b c))).1 $$ HH
  icases HH with ⟨HH, Hrest⟩
  iapply (wp_dmaLocal EC Variants.none (d : Thread nD τ) none (src := hWin mH b (32 * c) b.isLt (le32 c)) (dst := xWin mX s (32 * c) s.isLt (le32 c))
    (sm := .dma (iCell s c)) (Sd := xSet s c) (q := xShare s c) () nIn rfl (View.dmaCredit_pos _ (by decide)) (Finset.Subset.refl _)) $$ [HH HX Hv]
  · isplitl [HH]; · iexact HH
    isplitl [HX]; · iexact HX
    iexact Hv
  iintro HF
  iapply (WP_ret d _ Q)
  iapply HQ
  unfold XF
  isplitr [Hrest]
  · iapply (Flight_mono EC (d : Thread nD τ) ?_) $$ HF
    rw [pointsTo_congr (fun i hi => land_in x s.isLt b.isLt (le32 c) f0 i hi)]
  iexact Hrest

/-- Waiting for a chunk's copy in. -/
theorem WP_waitIn (s c : Fin 2) (b : Fin 8) {hs hc} (W : Waits sig Unit) (Q : PUnit → sProp 𝕄) :
    iprop(XF d x s c b ∗ owes (d : Thread nD τ) 0 W) ⊢ iprop((iprop(XD d x s c b ∗ ∃ W', owes (d : Thread nD τ) 0 W') -∗ Q ⟨⟩)
      -∗ WP d (waitIn mH mX cc0_scratch2 s c hs hc) Q) := by
  unfold XF
  iintro ⟨⟨HF, Hrest⟩, HO⟩ HQ
  iapply (wp_waitLocal EC Variants.none (d : Thread nD τ) none (srcw := hWin mH 0 0 (by decide) (by decide)) (dstw := xWin mX s 0 s.isLt (by decide)) (hsrc := (View.wordExact_bits rfl).reshape _ _) (hdst := (View.wordExact_bits rfl).reshape _ _) (sem := iCell s c) () (N := nIn) rfl) $$ [HF HO]
  · isplitl [HF]; · iexact HF
    iexact HO
  iintro ⟨⟨HX, HH⟩, Hv, HO⟩
  iapply (WP_ret d _ Q)
  iapply HQ
  unfold XD
  isplitr [HO]
  · isplitl [HX]; · iexact HX
    isplitl [Hv]; · iexact Hv
    iapply (pointsTo_split_subset (Finset.subset_univ (hSet b c))).2
    isplitl [HH]; · iexact HH
    iexact Hrest
  iexists _; iexact HO

/-- Starting a chunk's copy out: the part of the array it goes to is lent to it. -/
theorem WP_dmaOut (c : Fin 2) (b : Fin 8) (f : ℕ) (hfc : f = 32 * c) {hb hc hf} (Q : PUnit → sProp 𝕄) :
    iprop((lO d ↦[oSet c]{fullShare} oAt g b) ∗ semVal ((d : Thread nD τ), .dma (oCell c)) 0 ∗ (∃ h, lR d ↦[rSet b c]{fullShare} h))
      ⊢ iprop((OF d g c b -∗ Q ⟨⟩) -∗ WP d (dmaOut mR mO cc0_scratch3 b c f hb hc hf) Q) := by
  subst hfc
  iintro ⟨HX, Hv, ⟨%h, HH⟩⟩ HQ
  iapply (wp_dmaLocal EC Variants.none (d : Thread nD τ) none (src := oWin mO c c.isLt) (dst := hWin mR b (32 * c) b.isLt (le32 c))
    (sm := .dma (oCell c)) (Sd := rSet b c) (q := fullShare) () nOut rfl (View.dmaCredit_pos _ (by decide)) (Finset.Subset.refl _)) $$ [HH HX Hv]
  · isplitl [HX]; · iexact HX
    isplitl [HH]; · iexact HH
    iexact Hv
  iintro HF
  iapply (WP_ret d _ Q)
  iapply HQ
  unfold OF
  iapply (Flight_mono EC (d : Thread nD τ) ?_) $$ HF
  rw [pointsTo_congr (fun i hi => land_out g b.isLt c.isLt (32 * c) rfl (le32 c) h i hi)]

/-- Waiting for a chunk's copy out. -/
theorem WP_waitOut (c : Fin 2) (b : Fin 8) {hc} (W : Waits sig Unit) (Q : PUnit → sProp 𝕄) :
    iprop(OF d g c b ∗ owes (d : Thread nD τ) 0 W)
      ⊢ iprop((iprop(OI d c ∗ (lR d ↦[rSet b c]{fullShare} g) ∗ ∃ W', owes (d : Thread nD τ) 0 W') -∗ Q ⟨⟩)
      -∗ WP d (waitOut mR mO cc0_scratch3 c hc) Q) := by
  unfold OF
  iintro ⟨HF, HO⟩ HQ
  iapply (wp_waitLocal EC Variants.none (d : Thread nD τ) none (srcw := oWin mO c c.isLt) (dstw := hWin mR 0 0 (by decide) (by decide)) (hsrc := (View.wordExact_bits rfl).reshape _ _) (hdst := (View.wordExact_bits rfl).reshape _ _) (sem := oCell c) () (N := nOut) rfl) $$ [HF HO]
  · isplitl [HF]; · iexact HF
    iexact HO
  iintro ⟨⟨HR, HX⟩, Hv, HO⟩
  iapply (WP_ret d _ Q)
  iapply HQ
  unfold OI
  isplitl [HX Hv]
  · isplitl [HX]
    · iexists _; iexact HX
    iexact Hv
  isplitl [HR]; · iexact HR
  iexists _; iexact HO

end Held

end Cert.KernelIdeal.Hand

end
-- ==== Proof.Logic.Loops.lean ====
/-
  The body's loops over a chunk's features: the two running sums, the picked biases, and the four blocks of the output.
-/
module

public import proofs.«01_k».proof.Proof.Logic.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UC sig nD τ) ℕ

/-- The slot a point computes on, the slot it fills, and its image. -/
abbrev curS (i : grid0.Coords) : Fin 2 := ⟨(cur i).toNat, cur_lt i⟩
abbrev nxtS (i : grid0.Coords) : Fin 2 := ⟨(nxt i).toNat, nxt_lt i⟩
abbrev imgB (i : grid0.Coords) : Fin 8 := ⟨(img i).toNat, img_lt i⟩

/-- The two sums of image `b` over its first `n` features. -/
def stRun (v : Vec F S1x1x256 .f32) (x : S8x64x256x256.Idx → Elt F .f32) (b : Fin 8) : ℕ → FVec F S1x256 .f32 × F .f32
  | 0 => st0
  | n + 1 => stStep v n (featOf x b ⟨n % 64, Nat.mod_lt _ (by decide)⟩) (stRun v x b n)

/-! ## Which elements the loads and stores touch -/

theorem sub_feat (s c : Fin 2) {f : ℕ} (hs : (s : ℕ) < 2) (hf : f < 64) (h1 : 32 * (c : ℕ) ≤ f) (h2 : f < 32 * c + 32) :
    (mX.access (Rect.unit (s := S2x64x256x256) ![s, f, 0, 0] S1x1x256x256.size (inbA hs hf))).set ⊆ xSet s c := by
  intro i hi
  have e : (mX.access (Rect.unit (s := S2x64x256x256) ![s, f, 0, 0] S1x1x256x256.size (inbA hs hf))).set
    = (Rect.unit (s := S2x64x256x256) ![s, f, 0, 0] S1x1x256x256.size (inbA hs hf)).set := View.set_slice_whole _ _
  rw [e, Rect.mem_set_unit] at hi
  have a0 := hi 0; have a1 := hi 1
  simp [S1x1x256x256] at a0 a1
  exact (mem_xWin _ _ i).mpr ⟨by omega, by omega, by omega⟩

theorem sub_blk (s c : Fin 2) {f r q : ℕ} (hs : (s : ℕ) < 2) (hf : f < 64) (hr : r ≤ 128) (hq : q ≤ 128) (h1 : 32 * (c : ℕ) ≤ f) (h2 : f < 32 * c + 32) :
    (mX.access (Rect.unit (s := S2x64x256x256) ![s, f, r, q] S1x1x128x128.size (inbQ hs hf hr hq))).set ⊆ xSet s c := by
  intro i hi
  have e : (mX.access (Rect.unit (s := S2x64x256x256) ![s, f, r, q] S1x1x128x128.size (inbQ hs hf hr hq))).set
    = (Rect.unit (s := S2x64x256x256) ![s, f, r, q] S1x1x128x128.size (inbQ hs hf hr hq)).set := View.set_slice_whole _ _
  rw [e, Rect.mem_set_unit] at hi
  have a0 := hi 0; have a1 := hi 1
  simp [S1x1x128x128] at a0 a1
  exact (mem_xWin _ _ i).mpr ⟨by omega, by omega, by omega⟩

theorem sub_out (c : Fin 2) {g r q : ℕ} (hc : (c : ℕ) < 2) (hg : g < 32) (hr : r ≤ 128) (hq : q ≤ 128) :
    (mO.access (Rect.unit (s := S2x32x256x256) ![c, g, r, q] S1x1x128x128.size (inbP hc hg hr hq))).set ⊆ oSet c := by
  intro i hi
  exact (mem_oWin _ i).mpr ((mem_blk hc hg hr hq i).mp hi).1

/-! ## The sums -/

variable (d : Dev nD) (x : S8x64x256x256.Idx → Elt F .f32) (g : S8x64x256x256.Idx → Elt F .f32)

/-- A chunk's loop takes the two sums over the features before it to the sums over the features up to its end. -/
theorem WP_stats (i : grid0.Coords) (v : Vec F S1x1x256 .f32) (c : Fin 2) (b : Fin 8) (f0 : ℕ) (hfc : f0 = 32 * c) {hf : f0 ≤ 32} {h} (Q : FVec F S1x256 .f32 × F .f32 → sProp 𝕄) :
    (lX d ↦[xSet (curS i) c]{fullShare} xAt x b : sProp 𝕄)
      ⊢ iprop(((lX d ↦[xSet (curS i) c]{fullShare} xAt x b) -∗ Q (stRun v x b (f0 + 32)))
        -∗ WP d (rep (stLoad i mX v f0 hf) 32 0 h (stRun v x b f0)) Q) := by
  have K := WP_rep d (stLoad i mX v f0 hf) (fun n s => iprop(⌜s = stRun v x b (f0 + n)⌝ ∗ (lX d ↦[xSet (curS i) c]{fullShare} xAt x b))) ?_ 32 0 h (stRun v x b f0) Q
  iintro HX HQ
  iapply K $$ [HX]
  · isplitr; · ipureintro; rfl
    iexact HX
  · iintro %s' ⟨%hs', HX⟩
    subst hs'
    iapply HQ $$ HX
  intro n hn s Q
  iintro ⟨%hs, HX⟩ HQ
  subst hs
  unfold stLoad
  have hlt : f0 + n < 64 := by omega
  iapply (wp_load_rect (m := mX) (r := Rect.unit (s := S2x64x256x256) ![(cur i).toNat, f0 + n, 0, 0] S1x1x256x256.size (inbA (cur_lt i) hlt)) (S := xSet (curS i) c)
    Variants.none (d : Thread nD τ) none Set.univ (sub_feat (curS i) c (cur_lt i) hlt (by omega) (by omega))) $$ HX
  iintro HX
  iapply (WP_ret d _ Q)
  iapply HQ
  isplitr [HX]
  · ipureintro
    rw [read_feat x b (cur_lt i) hlt]
    exact congrArg (fun z => stStep v (f0 + n) (featOf x b z) (stRun v x b (f0 + n))) (Fin.ext (Nat.mod_eq_of_lt hlt).symm)
  iexact HX

/-- The loop that picks a chunk's biases. -/
theorem WP_bias (m : Memref sig .tc .vmem S1x64 .f32) (X : S1x64.Idx → Elt F .f32) (f0 : ℕ) {h} (l0 : ℕ → F .f32) (Q : (ℕ → F .f32) → sProp 𝕄) :
    (owns (d : Thread nD τ) m fullShare X : sProp 𝕄)
      ⊢ iprop((∀ l, iprop(⌜∀ n < 32, l n = pick (f0 + n) (shapeCast S1x64 X shapeCasts_S1x64_S1x64)⌝ ∗ owns (d : Thread nD τ) m fullShare X) -∗ Q l)
        -∗ WP d (rep (bLoad m f0) 32 0 h l0) Q) := by
  have K := WP_rep d (bLoad m f0) (fun n l => iprop(⌜∀ k < n, l k = pick (f0 + k) (shapeCast S1x64 X shapeCasts_S1x64_S1x64)⌝ ∗ owns (d : Thread nD τ) m fullShare X)) ?_ 32 0 h l0 Q
  iintro HX HQ
  iapply K $$ [HX]
  · isplitr; · ipureintro; exact fun k hk => absurd hk (by omega)
    iexact HX
  · iintro %l ⟨%hl, HX⟩
    iapply HQ
    isplitr; · ipureintro; exact hl
    iexact HX
  intro n hn l Q
  iintro ⟨%hl, HX⟩ HQ
  unfold bLoad
  iapply (WP_row d m X _ Q) $$ HX
  iintro HX
  iapply (WP_ret d _ Q)
  iapply HQ
  isplitr
  · ipureintro
    intro k hk
    by_cases hkn : k = n
    · rw [if_pos hkn, hkn]
    · rw [if_neg hkn]; exact hl k (by omega)
  iexact HX

/-! ## One block of every feature of a chunk -/

/-- An output chunk's element is in the block at `r`, `q`. -/
def inQ (r q : ℕ) (i : S2x32x256x256.Idx) : Prop := (r ≤ (i 2 : ℕ) ∧ (i 2 : ℕ) < r + 128) ∧ (q ≤ (i 3 : ℕ) ∧ (i 3 : ℕ) < q + 128)

/-- The output chunk `c` held, right at the elements `D`. -/
def Part (c : Fin 2) (b : Fin 8) (D : S2x32x256x256.Idx → Prop) : sProp 𝕄 :=
  iprop(∃ f, ⌜∀ i, (i 0 : ℕ) = c → D i → f i = oAt g b i⌝ ∗ (lO d ↦[oSet c]{fullShare} f))

/-- The loop over a chunk's features that computes and stores the block at `r`, `q`: whatever was right stays right, and
    every feature's block becomes right. -/
theorem WP_block (i : grid0.Coords) (c : Fin 2) (b : Fin 8) (f0 : ℕ) (hfc : f0 = 32 * c) (r q : ℕ) {hr : r ≤ 128} {hq : q ≤ 128} {hc} {hf : f0 ≤ 32} {h}
    (pay : ℕ → Vec F S1x1x128x128 .f32 → Vec F S1x1x128x128 .f32) (D D' : S2x32x256x256.Idx → Prop)
    (hD : ∀ y, D' y → D y ∨ inQ r q y)
    (hpay : ∀ (n : ℕ) (hn : n < 32) (hlt : f0 + n < 64) (u w : Fin 128) (hu : r + (u : ℕ) < 256) (hw : q + (w : ℕ) < 256),
      pay n (blkOf x b ⟨f0 + n, hlt⟩ r q hr hq) (ixQ u w) = g (ix8 b ⟨f0 + n, hlt⟩ ⟨r + u, hu⟩ ⟨q + w, hw⟩))
    (Q : PUnit → sProp 𝕄) :
    iprop((lX d ↦[xSet (curS i) c]{fullShare} xAt x b) ∗ Part d g c b D)
      ⊢ iprop((iprop((lX d ↦[xSet (curS i) c]{fullShare} xAt x b) ∗ Part d g c b D') -∗ Q ⟨⟩)
        -∗ WP d (rep (qStep i mX mO c f0 hc hf r q hr hq pay) 32 0 h ⟨⟩) Q) := by
  have K := WP_rep d (qStep i mX mO c f0 hc hf r q hr hq pay) (fun n _ => iprop((lX d ↦[xSet (curS i) c]{fullShare} xAt x b)
    ∗ Part d g c b (fun y => D y ∨ (inQ r q y ∧ (y 1 : ℕ) < n)))) ?_ 32 0 h ⟨⟩ Q
  iintro ⟨HX, HP⟩ HQ
  iapply K $$ [HX HP]
  · isplitl [HX]; · iexact HX
    unfold Part
    icases HP with ⟨%f, %hf', HO⟩
    iexists f
    isplitr
    · ipureintro
      intro y hy hy'
      rcases hy' with hy' | ⟨_, hy'⟩
      · exact hf' y hy hy'
      · omega
    iexact HO
  · iintro %_ ⟨HX, HP⟩
    iapply HQ
    isplitl [HX]; · iexact HX
    unfold Part
    icases HP with ⟨%f, %hf', HO⟩
    iexists f
    isplitr
    · ipureintro
      intro y hy hy'
      refine hf' y hy ?_
      rcases hD y hy' with h | h
      · exact .inl h
      · refine .inr ⟨h, ?_⟩
        have := (y 1).isLt
        simp only [S2x32x256x256] at this; simpa using this
    iexact HO
  intro n hn _ Q
  unfold Part
  iintro ⟨HX, %f, %hf', HO⟩ HQ
  unfold qStep
  have hlt : f0 + n < 64 := by omega
  iapply (wp_load_rect (m := mX) (r := Rect.unit (s := S2x64x256x256) ![(cur i).toNat, f0 + n, r, q] S1x1x128x128.size (inbQ (cur_lt i) hlt hr hq)) (S := xSet (curS i) c)
    Variants.none (d : Thread nD τ) none Set.univ (sub_blk (curS i) c (cur_lt i) hlt hr hq (by omega) (by omega))) $$ HX
  iintro HX
  iapply (wp_load_rect (m := mO) (r := Rect.unit (s := S2x32x256x256) ![(c : ℕ), n, r, q] S1x1x128x128.size (inbP hc hn hr hq)) (S := oSet c)
    Variants.none (d : Thread nD τ) none Set.univ (sub_out c hc hn hr hq)) $$ HO
  iintro HO
  iapply (wp_store (m := mO) (r := Rect.unit (s := S2x32x256x256) ![(c : ℕ), n, r, q] S1x1x128x128.size (inbP hc hn hr hq)) (S := oSet c)
    Variants.none (d : Thread nD τ) none Set.univ (by rw [View.setOn_univ]; exact sub_out c hc hn hr hq)) $$ HO
  iintro HO
  iapply (WP_ret d _ Q)
  iapply HQ
  isplitl [HX]; · iexact HX
  iexists _
  isplitr [HO]
  rotate_left
  · iexact HO
  ipureintro
  intro y hy hy'
  rw [read_blk x b (cur_lt i) hlt hr hq]
  by_cases hin : y ∈ (mO.access (Rect.unit (s := S2x32x256x256) ![(c : ℕ), n, r, q] S1x1x128x128.size (inbP hc hn hr hq))).set
  · obtain ⟨h0, h1, ⟨h2, h2'⟩, h3, h3'⟩ := (mem_blk hc hn hr hq y).mp hin
    rw [write_blk_in hc hn hr hq f _ y h0 h1 ⟨(y 2 : ℕ) - r, by omega⟩ ⟨(y 3 : ℕ) - q, by omega⟩ (by simp; omega) (by simp; omega)]
    have b2 := (y 2).isLt; have b3 := (y 3).isLt
    simp only [S2x32x256x256] at b2 b3
    simp at b2 b3
    rw [hpay n hn hlt _ _ (by simp; omega) (by simp; omega)]
    unfold oAt
    congr 1
    funext a
    apply Fin.ext
    fin_cases a
    · rfl
    · show f0 + n = 32 * (y 0 : ℕ) + (y 1 : ℕ); omega
    · show r + ((y 2 : ℕ) - r) = (y 2 : ℕ); omega
    · show q + ((y 3 : ℕ) - q) = (y 3 : ℕ); omega
  · rw [write_blk_out hc hn hr hq f _ y hin]
    refine hf' y hy ?_
    rcases hy' with h | ⟨h, h'⟩
    · exact .inl h
    · refine .inr ⟨h, ?_⟩
      by_contra hge
      exact hin ((mem_blk hc hn hr hq y).mpr ⟨hy, by omega, h⟩)

end Cert.KernelIdeal.Hand

end
-- ==== Proof.Logic.Phases.lean ====
/-
  The body's phases at a point: start the copies in, sum, compute the two output chunks, and at a row's end wait for
  the copies out. `InOwn n` is what is held of the slot of point `n` when the point begins, `OC c n` what is held then
  of output chunk `c` and of its part of the output array.
-/
module

public import proofs.«01_k».proof.Proof.Logic.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UC sig nD τ) ℕ

/-! ## The grid -/

theorem cond1_iff : ∀ t : Fin cfg0.N, k0_cond1 (grid0.coords t) = 1#1 ↔ (t : ℕ) % 4 = 0 := by decide +kernel
theorem cond2_iff : ∀ t : Fin cfg0.N, k0_cond2 (grid0.coords t) = 1#1 ↔ ((t : ℕ) + 1) % 4 ≠ 0 := by decide +kernel
theorem notFirst_iff : ∀ t : Fin cfg0.N, notFirst (grid0.coords t) = 1#1 ↔ (t : ℕ) % 4 ≠ 0 := by decide +kernel
theorem isLast_iff : ∀ t : Fin cfg0.N, isLast (grid0.coords t) = 1#1 ↔ ((t : ℕ) + 1) % 4 = 0 := by decide +kernel
theorem next_eq : ∀ t : Fin cfg0.N, (Scalar.addi (img (grid0.coords t)) 1#32).toNat = (t : ℕ) + 1 := by decide +kernel

/-- Point `n`'s slot, and its image. -/
abbrev sl (n : ℕ) : Fin 2 := ⟨n % 2, Nat.mod_lt _ (by decide)⟩
abbrev bt (n : ℕ) : Fin 8 := ⟨n % 8, Nat.mod_lt _ (by decide)⟩

theorem curS_eq : ∀ t : Fin cfg0.N, curS (grid0.coords t) = sl t := by decide +kernel
theorem nxtS_eq : ∀ t : Fin cfg0.N, nxtS (grid0.coords t) = sl ((t : ℕ) + 1) := by decide +kernel
theorem imgB_eq : ∀ t : Fin cfg0.N, imgB (grid0.coords t) = bt t := by decide +kernel

/-! ## What is held between points -/

/-- The features of chunk `c`, in the output array. -/
def cSet (c : Fin 2) : Finset S8x64x256x256.Idx := Finset.univ.filter fun i => 32 * (c : ℕ) ≤ (i 1 : ℕ) ∧ (i 1 : ℕ) < 32 * (c : ℕ) + 32
theorem mem_cSet (c : Fin 2) (i : S8x64x256x256.Idx) : i ∈ cSet c ↔ 32 * (c : ℕ) ≤ (i 1 : ℕ) ∧ (i 1 : ℕ) < 32 * (c : ℕ) + 32 := by
  unfold cSet; rw [Finset.mem_filter]; exact and_iff_right (Finset.mem_univ i)
theorem rSet_sub (b : Fin 8) (c : Fin 2) : rSet b c ⊆ cSet c := fun i hi => (mem_cSet c i).mpr ((mem_rWin _ _ i).mp hi).2

/-- The output array when the images below `n` are done. -/
def upTo (g V : S8x64x256x256.Idx → Elt F .f32) (n : ℕ) : S8x64x256x256.Idx → Elt F .f32 := fun i => if (i 0 : ℕ) < n then g i else V i

variable (d : Dev nD) (x : S8x64x256x256.Idx → Elt F .f32) (g V : S8x64x256x256.Idx → Elt F .f32)

/-- The slot of point `n` when it begins: at a row's first point idle, else with its image in flight to it. -/
def InOwn (n : ℕ) : sProp 𝕄 :=
  if n % 4 = 0 then iprop(XI d x (sl n) 0 ∗ XI d x (sl n) 1) else iprop(XF d x (sl n) 0 (bt n) ∗ XF d x (sl n) 1 (bt n))

/-- Output chunk `c` and its part of the array with image `n`'s copy in flight. -/
def OE (c : Fin 2) (n : ℕ) : sProp 𝕄 := iprop(OF d g c (bt n) ∗ (lR d ↦[cSet c \ rSet (bt n) c]{fullShare} upTo g V (n + 1)))
/-- The same with none in flight and the images below `n` done. -/
def OD (c : Fin 2) (n : ℕ) : sProp 𝕄 := iprop(OI d c ∗ (lR d ↦[cSet c]{fullShare} upTo g V n))
/-- Output chunk `c` when point `n` begins. -/
def OC (c : Fin 2) (n : ℕ) : sProp 𝕄 := if n % 4 = 0 then OD d g V c n else OE d g V c (n - 1)

/-! ## The phases -/

theorem WP_startOwn (t : Fin cfg0.N) (Q : PUnit → sProp 𝕄) :
    (InOwn d x t : sProp 𝕄) ⊢ iprop((iprop(XF d x (sl t) 0 (bt t) ∗ XF d x (sl t) 1 (bt t)) -∗ Q ⟨⟩)
      -∗ WP d (startOwn (grid0.coords t) mH mX cc0_scratch2) Q) := by
  unfold InOwn startOwn
  by_cases h : (t : ℕ) % 4 = 0
  · rw [if_pos h, dif_pos ((cond1_iff t).mpr h), ← curS_eq, ← imgB_eq, WP_bind]
    iintro ⟨H0, H1⟩ HQ
    iapply (WP_dmaIn d x (curS (grid0.coords t)) 0 (imgB (grid0.coords t)) 0 rfl _) $$ H0
    iintro H0
    rw [WP_bind]
    iapply (WP_dmaIn d x (curS (grid0.coords t)) 1 (imgB (grid0.coords t)) 32 rfl _) $$ H1
    iintro H1
    iapply (WP_ret d _ Q)
    iapply HQ
    isplitl [H0]; · iexact H0
    iexact H1
  · rw [if_neg h, dif_neg (fun h' => h ((cond1_iff t).mp h'))]
    iintro H HQ
    iapply (WP_ret d _ Q)
    iapply HQ $$ H

theorem WP_startNext (t : Fin cfg0.N) (Q : PUnit → sProp 𝕄) :
    iprop(XI d x (sl ((t : ℕ) + 1)) 0 ∗ XI d x (sl ((t : ℕ) + 1)) 1) ⊢ iprop((InOwn d x ((t : ℕ) + 1) -∗ Q ⟨⟩)
      -∗ WP d (startNext (grid0.coords t) mH mX cc0_scratch2) Q) := by
  unfold InOwn startNext
  by_cases h : ((t : ℕ) + 1) % 4 = 0
  · rw [if_pos h, dif_neg (fun h' => ((cond2_iff t).mp h') h)]
    iintro H HQ
    iapply (WP_ret d _ Q)
    iapply HQ $$ H
  · have hb : (⟨(Scalar.addi (img (grid0.coords t)) 1#32).toNat, next_lt (grid0.coords t) ((cond2_iff t).mpr h)⟩ : Fin 8) = bt ((t : ℕ) + 1) := by
      apply Fin.ext
      have h1 := next_eq t
      have h2 := next_lt (grid0.coords t) ((cond2_iff t).mpr h)
      show (Scalar.addi (img (grid0.coords t)) 1#32).toNat = ((t : ℕ) + 1) % 8
      omega
    rw [if_neg h, dif_pos ((cond2_iff t).mpr h), ← nxtS_eq, ← hb, WP_bind]
    iintro ⟨H0, H1⟩ HQ
    iapply (WP_dmaIn d x (nxtS (grid0.coords t)) 0 ⟨(Scalar.addi (img (grid0.coords t)) 1#32).toNat, next_lt (grid0.coords t) ((cond2_iff t).mpr h)⟩ 0 rfl _) $$ H0
    iintro H0
    rw [WP_bind]
    iapply (WP_dmaIn d x (nxtS (grid0.coords t)) 1 ⟨(Scalar.addi (img (grid0.coords t)) 1#32).toNat, next_lt (grid0.coords t) ((cond2_iff t).mpr h)⟩ 32 rfl _) $$ H1
    iintro H1
    iapply (WP_ret d _ Q)
    iapply HQ
    isplitl [H0]; · iexact H0
    iexact H1

theorem WP_stChunk (i : grid0.Coords) (v : Vec F S1x1x256 .f32) (c : Fin 2) (b : Fin 8) (f0 : ℕ) (hfc : f0 = 32 * c) {hc} {hf : f0 ≤ 32} (W : Waits sig Unit)
    (Q : FVec F S1x256 .f32 × F .f32 → sProp 𝕄) :
    iprop(XF d x (curS i) c b ∗ owes (d : Thread nD τ) 0 W)
      ⊢ iprop((iprop(XD d x (curS i) c b ∗ ∃ W', owes (d : Thread nD τ) 0 W') -∗ Q (stRun v x b (f0 + 32)))
        -∗ WP d (stChunk i mH mX cc0_scratch2 v c f0 hc hf (stRun v x b f0)) Q) := by
  unfold stChunk
  rw [WP_bind]
  iintro H HQ
  iapply (WP_waitIn d x (curS i) c b W _) $$ H
  iintro ⟨HD, HW⟩
  unfold XD
  icases HD with ⟨HX, HR⟩
  iapply (WP_stats d x i v c b f0 hfc Q) $$ HX
  iintro HX
  iapply HQ
  isplitr [HW]
  · isplitl [HX]; · iexact HX
    iexact HR
  iexact HW

/-! ## What a point computes -/

/-- One element of the output: the block it lies in, computed as the kernel computes that block. -/
def outAt (v : Vec F S1x1x256 .f32) (s : FVec F S1x256 .f32 × F .f32) (sc bl : FVec F S1x64 .f32) (x : S8x64x256x256.Idx → Elt F .f32) (b : Fin 8)
    (f : Fin 64) (i j : Fin 256) : Elt F .f32 :=
  if hi : (i : ℕ) < 128 then
    if hj : (j : ℕ) < 128 then
      payD v s (pick f sc) (pick f bl) 0 0 slices_S256x256_o0_0_S128x128 (blkOf x b f 0 0 (by decide) (by decide)) (ixQ ⟨i, hi⟩ ⟨j, hj⟩)
    else payO v s (pick f sc) 0 128 slices_S256x256_o0_128_S128x128 (blkOf x b f 0 128 (by decide) (by decide)) (ixQ ⟨i, hi⟩ ⟨(j : ℕ) - 128, by omega⟩)
  else
    if hj : (j : ℕ) < 128 then
      payO v s (pick f sc) 128 0 slices_S256x256_o128_0_S128x128 (blkOf x b f 128 0 (by decide) (by decide)) (ixQ ⟨(i : ℕ) - 128, by omega⟩ ⟨j, hj⟩)
    else payD v s (pick f sc) (pick f bl) 128 128 slices_S256x256_o128_128_S128x128 (blkOf x b f 128 128 (by decide) (by decide)) (ixQ ⟨(i : ℕ) - 128, by omega⟩ ⟨(j : ℕ) - 128, by omega⟩)

/-- A chunk's four loops leave the output chunk with image `b`'s features of `g`. -/
theorem WP_qChunk (i : grid0.Coords) (v : Vec F S1x1x256 .f32) (s : FVec F S1x256 .f32 × F .f32) (sc bl : FVec F S1x64 .f32) (bv : ℕ → F .f32)
    (c : Fin 2) (b : Fin 8) (f0 : ℕ) (hfc : f0 = 32 * c) {hc} {hf : f0 ≤ 32}
    (hbv : ∀ n < 32, bv n = pick (f0 + n) bl)
    (hg : ∀ f u w, g (ix8 b f u w) = outAt v s sc bl x b f u w) (Q : PUnit → sProp 𝕄) :
    iprop((lX d ↦[xSet (curS i) c]{fullShare} xAt x b) ∗ (∃ f, lO d ↦[oSet c]{fullShare} f))
      ⊢ iprop((iprop((lX d ↦[xSet (curS i) c]{fullShare} xAt x b) ∗ (lO d ↦[oSet c]{fullShare} oAt g b)) -∗ Q ⟨⟩)
        -∗ WP d (qChunk i mX mO v s sc bv c f0 hc hf) Q) := by
  unfold qChunk
  rw [WP_bind]
  iintro ⟨HX, HO⟩ HQ
  iapply (WP_block d x g i c b f0 hfc 0 0 (fun n => payD v s (pick (f0 + n) sc) (bv n) 0 0 slices_S256x256_o0_0_S128x128)
    (fun _ => False) (fun y => inQ 0 0 y) (fun y h => .inr h)
    (fun n hn hlt u w hu hw => by
      rw [hg]; unfold outAt
      rw [dif_pos (show ((⟨0 + (u : ℕ), hu⟩ : Fin 256) : ℕ) < 128 by show 0 + (u : ℕ) < 128; omega), dif_pos (show ((⟨0 + (w : ℕ), hw⟩ : Fin 256) : ℕ) < 128 by show 0 + (w : ℕ) < 128; omega), hbv n hn]
      congr 2 <;> exact Fin.ext (by show _ = 0 + _; omega)) _) $$ [HX HO]
  · isplitl [HX]; · iexact HX
    unfold Part
    icases HO with ⟨%f, HO⟩
    iexists f
    isplitr; · ipureintro; exact fun _ _ h => h.elim
    iexact HO
  iintro H
  rw [WP_bind]
  iapply (WP_block d x g i c b f0 hfc 0 128 (fun n => payO v s (pick (f0 + n) sc) 0 128 slices_S256x256_o0_128_S128x128)
    (fun y => inQ 0 0 y) (fun y => inQ 0 0 y ∨ inQ 0 128 y) (fun y h => h)
    (fun n hn hlt u w hu hw => by
      rw [hg]; unfold outAt
      rw [dif_pos (show ((⟨0 + (u : ℕ), hu⟩ : Fin 256) : ℕ) < 128 by show 0 + (u : ℕ) < 128; omega), dif_neg (show ¬ ((⟨128 + (w : ℕ), hw⟩ : Fin 256) : ℕ) < 128 by show ¬ 128 + (w : ℕ) < 128; omega)]
      congr 2 <;> exact Fin.ext (by first | (show _ = 0 + _; omega) | (show _ = 128 + _ - 128; omega))) _) $$ H
  iintro H
  rw [WP_bind]
  iapply (WP_block d x g i c b f0 hfc 128 0 (fun n => payO v s (pick (f0 + n) sc) 128 0 slices_S256x256_o128_0_S128x128)
    (fun y => inQ 0 0 y ∨ inQ 0 128 y) (fun y => (inQ 0 0 y ∨ inQ 0 128 y) ∨ inQ 128 0 y) (fun y h => h)
    (fun n hn hlt u w hu hw => by
      rw [hg]; unfold outAt
      rw [dif_neg (show ¬ ((⟨128 + (u : ℕ), hu⟩ : Fin 256) : ℕ) < 128 by show ¬ 128 + (u : ℕ) < 128; omega), dif_pos (show ((⟨0 + (w : ℕ), hw⟩ : Fin 256) : ℕ) < 128 by show 0 + (w : ℕ) < 128; omega)]
      congr 2 <;> exact Fin.ext (by first | (show _ = 0 + _; omega) | (show _ = 128 + _ - 128; omega))) _) $$ H
  iintro H
  iapply (WP_block d x g i c b f0 hfc 128 128 (fun n => payD v s (pick (f0 + n) sc) (bv n) 128 128 slices_S256x256_o128_128_S128x128)
    (fun y => (inQ 0 0 y ∨ inQ 0 128 y) ∨ inQ 128 0 y) (fun y => True) (fun y _ => by
      have h2 := (y 2).isLt; have h3 := (y 3).isLt
      simp only [S2x32x256x256] at h2 h3
      simp at h2 h3
      unfold inQ; omega)
    (fun n hn hlt u w hu hw => by
      rw [hg]; unfold outAt
      rw [dif_neg (show ¬ ((⟨128 + (u : ℕ), hu⟩ : Fin 256) : ℕ) < 128 by show ¬ 128 + (u : ℕ) < 128; omega), dif_neg (show ¬ ((⟨128 + (w : ℕ), hw⟩ : Fin 256) : ℕ) < 128 by show ¬ 128 + (w : ℕ) < 128; omega), hbv n hn]
      congr 2 <;> exact Fin.ext (by show _ = 128 + _ - 128; omega)) _) $$ H
  iintro ⟨HX, HP⟩
  iapply HQ
  isplitl [HX]; · iexact HX
  unfold Part
  icases HP with ⟨%f, %hf', HO⟩
  rw [← pointsTo_congr (ℓ := lO d) (q := fullShare) (fun y hy => hf' y ((mem_oWin _ y).mp hy) trivial)]
  iexact HO

/-- An output chunk: wait for the copy of the chunk's last contents, compute, start the copy. -/
theorem WP_outChunk (t : Fin cfg0.N) (m : Memref sig .tc .vmem S1x64 .f32) (X : S1x64.Idx → Elt F .f32) (v : Vec F S1x1x256 .f32) (s : FVec F S1x256 .f32 × F .f32) (sc : FVec F S1x64 .f32)
    (c : Fin 2) (f0 : ℕ) (hfc : f0 = 32 * c) {hc} {hf : f0 ≤ 32} (W : Waits sig Unit)
    (hg : ∀ f u w, g (ix8 (bt t) f u w) = outAt v s sc (shapeCast S1x64 X shapeCasts_S1x64_S1x64) x (bt t) f u w) (Q : PUnit → sProp 𝕄) :
    iprop((lX d ↦[xSet (curS (grid0.coords t)) c]{fullShare} xAt x (bt t)) ∗ OC d g V c t ∗ owns (d : Thread nD τ) m fullShare X ∗ owes (d : Thread nD τ) 0 W)
      ⊢ iprop((iprop((lX d ↦[xSet (curS (grid0.coords t)) c]{fullShare} xAt x (bt t)) ∗ OE d g V c t ∗ owns (d : Thread nD τ) m fullShare X ∗ ∃ W', owes (d : Thread nD τ) 0 W') -∗ Q ⟨⟩)
        -∗ WP d (outChunk (grid0.coords t) m mR mX mO cc0_scratch3 v s sc c f0 hc hf) Q) := by
  have key : iprop((lX d ↦[xSet (curS (grid0.coords t)) c]{fullShare} xAt x (bt t)) ∗ OD d g V c t ∗ owns (d : Thread nD τ) m fullShare X ∗ ∃ W', owes (d : Thread nD τ) 0 W')
      ⊢ iprop((iprop((lX d ↦[xSet (curS (grid0.coords t)) c]{fullShare} xAt x (bt t)) ∗ OE d g V c t ∗ owns (d : Thread nD τ) m fullShare X ∗ ∃ W', owes (d : Thread nD τ) 0 W') -∗ Q ⟨⟩)
        -∗ WP d (Prog.bind (rep (bLoad m f0) 32 0 (by decide) fun _ => Scalar.ofBits .f32 0x00000000#32) fun bv =>
            Prog.bind (qChunk (grid0.coords t) mX mO v s sc bv c f0 hc hf) fun _ =>
            dmaOut mR mO cc0_scratch3 (img (grid0.coords t)).toNat c f0 (img_lt (grid0.coords t)) hc hf) Q) := by
    unfold OD OI
    rw [WP_bind]
    iintro ⟨HX, ⟨⟨HO, Hv⟩, HR⟩, Hm, HW⟩ HQ
    iapply (WP_bias d m X f0 _ _) $$ Hm
    iintro %l ⟨%hl, Hm⟩
    rw [WP_bind]
    iapply (WP_qChunk d x g (grid0.coords t) v s sc (shapeCast S1x64 X shapeCasts_S1x64_S1x64) l c (bt t) f0 hfc hl hg _) $$ [HX HO]
    · isplitl [HX]; · iexact HX
      iexact HO
    iintro ⟨HX, HO⟩
    ihave HR := (pointsTo_split_subset (rSet_sub (bt t) c)).1 $$ HR
    icases HR with ⟨HR, Hrest⟩
    rw [← imgB_eq]
    iapply (WP_dmaOut d g c (imgB (grid0.coords t)) f0 hfc Q) $$ [HO Hv HR]
    · isplitl [HO]; · iexact HO
      isplitl [Hv]; · iexact Hv
      iexists _; iexact HR
    iintro HF
    iapply HQ
    isplitl [HX]; · iexact HX
    isplitr [Hm HW]
    · unfold OE
      rw [← imgB_eq]
      isplitl [HF]; · iexact HF
      rw [← pointsTo_congr (ℓ := lR d) (q := fullShare) (f := upTo g V t) (g := upTo g V ((t : ℕ) + 1)) (fun y hy => by
        obtain ⟨h1, h2⟩ := Finset.mem_sdiff.mp hy
        unfold upTo
        have hne : (y 0 : ℕ) ≠ (t : ℕ) := fun he => h2 ((mem_rWin _ _ y).mpr ⟨by
          rw [he, imgB_eq]; have := t.isLt; have hN : cfg0.N = 8 := N_0; show (t : ℕ) = (t : ℕ) % 8; omega, (mem_cSet c y).mp h1⟩)
        by_cases hlt : (y 0 : ℕ) < (t : ℕ)
        · rw [if_pos hlt, if_pos (by omega)]
        · rw [if_neg hlt, if_neg (by omega)])]
      iexact Hrest
    isplitl [Hm]; · iexact Hm
    iexact HW
  unfold outChunk
  rw [WP_bind]
  unfold OC
  by_cases h : (t : ℕ) % 4 = 0
  · rw [if_pos h, dif_neg (fun h' => ((notFirst_iff t).mp h') h)]
    iintro ⟨HX, HO, Hm, HW⟩ HQ
    iapply (WP_ret d _ _)
    iapply key $$ [HX HO Hm HW]
    · isplitl [HX]; · iexact HX
      isplitl [HO]; · iexact HO
      isplitl [Hm]; · iexact Hm
      iexists _; iexact HW
    iexact HQ
  · rw [if_neg h, dif_pos ((notFirst_iff t).mpr h), WP_bind]
    unfold OE
    iintro ⟨HX, ⟨HF, Hrest⟩, Hm, HW⟩ HQ
    iapply (WP_waitOut d g c (bt ((t : ℕ) - 1)) W _) $$ [HF HW]
    · isplitl [HF]; · iexact HF
      iexact HW
    iintro ⟨HO, HR, HW⟩
    iapply (WP_ret d _ _)
    iapply key $$ [HX HO Hrest HR Hm HW]
    · isplitl [HX]; · iexact HX
      isplitl [HO Hrest HR]
      · unfold OD
        isplitl [HO]; · iexact HO
        iapply (pointsTo_split_subset (rSet_sub (bt ((t : ℕ) - 1)) c)).2
        isplitl [HR]
        · rw [pointsTo_congr (ℓ := lR d) (q := fullShare) (f := g) (g := upTo g V t) (fun y hy => by
            have h1 := ((mem_rWin _ _ y).mp hy).1
            unfold upTo
            rw [if_pos]
            rw [h1]; have := t.isLt; have hN : cfg0.N = 8 := N_0
            show ((t : ℕ) - 1) % 8 < (t : ℕ); omega)]
          exact .rfl
        · rw [show (t : ℕ) - 1 + 1 = (t : ℕ) by omega]
          iexact Hrest
      isplitl [Hm]; · iexact Hm
      iexact HW
    iexact HQ

/-- At a row's last point, both copies out are waited for. -/
theorem WP_drain (t : Fin cfg0.N) (W : Waits sig Unit) (Q : PUnit → sProp 𝕄) :
    iprop(OE d g V 0 t ∗ OE d g V 1 t ∗ owes (d : Thread nD τ) 0 W)
      ⊢ iprop((iprop(OC d g V 0 ((t : ℕ) + 1) ∗ OC d g V 1 ((t : ℕ) + 1) ∗ ∃ W', owes (d : Thread nD τ) 0 W') -∗ Q ⟨⟩)
        -∗ WP d (drain (grid0.coords t) mR mO cc0_scratch3) Q) := by
  have land (c : Fin 2) : iprop((lR d ↦[rSet (bt t) c]{fullShare} g) ∗ (lR d ↦[cSet c \ rSet (bt t) c]{fullShare} upTo g V ((t : ℕ) + 1)))
      ⊢ (lR d ↦[cSet c]{fullShare} upTo g V ((t : ℕ) + 1) : sProp 𝕄) := by
    rw [pointsTo_congr (ℓ := lR d) (q := fullShare) (f := g) (g := upTo g V ((t : ℕ) + 1)) (fun y hy => by
      have h1 := ((mem_rWin _ _ y).mp hy).1
      unfold upTo
      rw [if_pos]
      rw [h1]; have := t.isLt; have hN : cfg0.N = 8 := N_0
      show (t : ℕ) % 8 < (t : ℕ) + 1; omega)]
    exact (pointsTo_split_subset (rSet_sub (bt t) c)).2
  unfold OC drain
  by_cases h : ((t : ℕ) + 1) % 4 = 0
  · rw [if_pos h, if_pos h, dif_pos ((isLast_iff t).mpr h), WP_bind]
    unfold OE OD
    iintro ⟨⟨HF0, HR0⟩, ⟨HF1, HR1⟩, HW⟩ HQ
    iapply (WP_waitOut d g 0 (bt t) W _) $$ [HF0 HW]
    · isplitl [HF0]; · iexact HF0
      iexact HW
    iintro ⟨HO0, HL0, ⟨%W', HW⟩⟩
    rw [WP_bind]
    iapply (WP_waitOut d g 1 (bt t) W' _) $$ [HF1 HW]
    · isplitl [HF1]; · iexact HF1
      iexact HW
    iintro ⟨HO1, HL1, HW⟩
    iapply (WP_ret d _ _)
    iapply HQ
    isplitl [HO0 HL0 HR0]
    · isplitl [HO0]; · iexact HO0
      iapply (land 0)
      isplitl [HL0]; · iexact HL0
      iexact HR0
    isplitl [HO1 HL1 HR1]
    · isplitl [HO1]; · iexact HO1
      iapply (land 1)
      isplitl [HL1]; · iexact HL1
      iexact HR1
    iexact HW
  · rw [if_neg h, if_neg h, dif_neg (fun h' => h ((isLast_iff t).mp h'))]
    iintro ⟨H0, H1, HW⟩ HQ
    iapply (WP_ret d _ _)
    iapply HQ
    rw [Nat.add_sub_cancel]
    isplitl [H0]; · iexact H0
    isplitl [H1]; · iexact H1
    iexists _; iexact HW

end Cert.KernelIdeal.Hand

end
-- ==== Proof.Short.Eq.lean ====
/-
  The printed body is the looped one of Short.lean.
-/
module

public import proofs.«01_k».proof.Proof.Short
public import proofs.«01_k».proof.Proof.Gen.KernelIdeal.Launch
public import proofs.«01_k».proof.Proof.Gen.KernelIdeal.Points
public import Idealize.ShloMosaic.Lib.Tactic

@[expose] public section

set_option maxRecDepth 100000

noncomputable section

namespace Cert.KernelIdeal.Hand

open Idealize.ShloMosaic Idealize.ShloMosaic.Tactic Idealize.SL.Sem
open Cert.KernelIdeal Cert.KernelIdeal.Gen

variable {F : FTy → Type} [FloatOps F]

/-- The printed body of a point, at the buffers the pipeline hands it, and the looped one are one program. -/
theorem body_eq (t : Fin cfg0.N) : bodyAt0 (F := F) t
    = body (grid0.coords t) (st0_0 t) (st0_1 t) (st0_2 t) (st0_3 t) (st0_4 t) (Memref.whole main_arg0) (Memref.whole main_v5)
        (Memref.whole cc0_scratch0) (Memref.whole cc0_scratch1) cc0_scratch2 cc0_scratch3 := by
  rcases fin_N0 t with rfl | rfl | rfl | rfl | rfl | rfl | rfl | rfl <;> sl_kernel_rfl

end Cert.KernelIdeal.Hand

end
-- ==== Proof.Logic.Body.lean ====
/-
  The whole body at a point, from what is held between points to what is held between points: `Held n` before point `n`.
-/
module

public import proofs.«01_k».proof.Proof.Logic.Phases
public import proofs.«01_k».proof.Proof.Short.Eq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UC sig nD τ) ℕ

variable (d : Dev nD) (x : S8x64x256x256.Idx → Elt F .f32) (g V : S8x64x256x256.Idx → Elt F .f32)

/-- What the body holds of its own buffers, semaphores and of the two arrays left in HBM before point `n`. -/
def Held (n : ℕ) : sProp 𝕄 :=
  iprop(InOwn d x n ∗ (XI d x (sl (n + 1)) 0 ∗ XI d x (sl (n + 1)) 1) ∗ OC d g V 0 n ∗ OC d g V 1 n)

/-- The load of a row, as a program of its own. -/
theorem WP_rowLoad (m : Memref sig .tc .vmem S1x64 .f32) (X : S1x64.Idx → Elt F .f32) (Q : Vec F S1x64 .f32 → sProp 𝕄) :
    (owns (d : Thread nD τ) m fullShare X : sProp 𝕄) ⊢ iprop((owns (d : Thread nD τ) m fullShare X -∗ Q X) -∗ WP d (rowLoad m) Q) := by
  iintro H HQ
  unfold rowLoad
  iapply (WP_row d m X .ret Q) $$ H
  iintro H
  iapply (WP_ret d X Q)
  iapply HQ $$ H

/-- The body at point `t`, on staging buffers that hold the mask's row and the four parameter rows. -/
theorem WP_body (t : Fin cfg0.N) (m2 : Memref sig .tc .vmem S1x1x256 .f32) (m3 m4 m5 m6 : Memref sig .tc .vmem S1x64 .f32)
    (v : S1x1x256.Idx → Elt F .f32) (w we wb bl : S1x64.Idx → Elt F .f32) (W : Waits sig Unit)
    (hg : ∀ f u z, g (ix8 (bt t) f u z) = outAt v (stRun v x (bt t) 64) (scaleV w we wb) (shapeCast S1x64 bl shapeCasts_S1x64_S1x64) x (bt t) f u z)
    (Q : PUnit → sProp 𝕄) :
    iprop(Held d x g V t ∗ owns (d : Thread nD τ) m2 fullShare v ∗ owns (d : Thread nD τ) m3 fullShare w ∗ owns (d : Thread nD τ) m4 fullShare we
        ∗ owns (d : Thread nD τ) m5 fullShare wb ∗ owns (d : Thread nD τ) m6 fullShare bl ∗ owes (d : Thread nD τ) 0 W)
      ⊢ iprop((iprop(Held d x g V ((t : ℕ) + 1) ∗ owns (d : Thread nD τ) m2 fullShare v ∗ owns (d : Thread nD τ) m3 fullShare w ∗ owns (d : Thread nD τ) m4 fullShare we
          ∗ owns (d : Thread nD τ) m5 fullShare wb ∗ owns (d : Thread nD τ) m6 fullShare bl ∗ ∃ W', owes (d : Thread nD τ) 0 W') -∗ Q ⟨⟩)
        -∗ WP d (body (grid0.coords t) m2 m3 m4 m5 m6 mH mR mX mO cc0_scratch2 cc0_scratch3) Q) := by
  unfold Held body
  iintro ⟨⟨HI, ⟨HN0, HN1⟩, HC0, HC1⟩, H2, H3, H4, H5, H6, HW⟩ HQ
  rw [WP_bind]
  iapply (WP_startOwn d x t _) $$ HI
  iintro ⟨HF0, HF1⟩
  rw [WP_bind]
  iapply (WP_startNext d x t _) $$ [HN0 HN1]
  · isplitl [HN0]; · iexact HN0
    iexact HN1
  iintro HI
  rw [WP_bind]
  iapply (WP_mask d m2 v .ret _) $$ H2
  iintro H2
  iapply (WP_ret d v _)
  rw [WP_bind]
  rw [← curS_eq]
  iapply (WP_stChunk d x (grid0.coords t) v 0 (bt t) 0 rfl W _) $$ [HF0 HW]
  · isplitl [HF0]; · iexact HF0
    iexact HW
  iintro ⟨HD0, ⟨%W1, HW⟩⟩
  rw [WP_bind]
  iapply (WP_stChunk d x (grid0.coords t) v 1 (bt t) 32 rfl W1 _) $$ [HF1 HW]
  · isplitl [HF1]; · iexact HF1
    iexact HW
  iintro ⟨HD1, ⟨%W2, HW⟩⟩
  rw [WP_bind]
  iapply (WP_rowLoad d m3 w _) $$ H3
  iintro H3
  rw [WP_bind]
  iapply (WP_rowLoad d m4 we _) $$ H4
  iintro H4
  rw [WP_bind]
  iapply (WP_rowLoad d m5 wb _) $$ H5
  iintro H5
  unfold XD
  icases HD0 with ⟨HX0, HR0⟩
  icases HD1 with ⟨HX1, HR1⟩
  rw [WP_bind]
  iapply (WP_outChunk d x g V t m6 bl v (stRun v x (bt t) 64) (scaleV w we wb) 0 0 rfl W2 hg _) $$ [HX0 HC0 H6 HW]
  · isplitl [HX0]; · iexact HX0
    isplitl [HC0]; · iexact HC0
    isplitl [H6]; · iexact H6
    iexact HW
  iintro ⟨HX0, HE0, H6, ⟨%W3, HW⟩⟩
  rw [WP_bind]
  iapply (WP_outChunk d x g V t m6 bl v (stRun v x (bt t) 64) (scaleV w we wb) 1 32 rfl W3 hg _) $$ [HX1 HC1 H6 HW]
  · isplitl [HX1]; · iexact HX1
    isplitl [HC1]; · iexact HC1
    isplitl [H6]; · iexact H6
    iexact HW
  iintro ⟨HX1, HE1, H6, ⟨%W4, HW⟩⟩
  iapply (WP_drain d g V t W4 Q) $$ [HE0 HE1 HW]
  · isplitl [HE0]; · iexact HE0
    isplitl [HE1]; · iexact HE1
    iexact HW
  iintro ⟨HC0, HC1, HW⟩
  iapply HQ
  isplitl [HI HX0 HR0 HX1 HR1 HC0 HC1]
  · isplitl [HI]; · iexact HI
    rw [show sl ((t : ℕ) + 1 + 1) = curS (grid0.coords t) from (Fin.ext (by show ((t : ℕ) + 1 + 1) % 2 = (t : ℕ) % 2; omega)).trans (curS_eq t).symm]
    isplitl [HX0 HR0 HX1 HR1]
    · unfold XI
      isplitl [HX0 HR0]
      · isplitl [HX0]
        · iexists _; iexact HX0
        iexact HR0
      isplitl [HX1]
      · iexists _; iexact HX1
      iexact HR1
    isplitl [HC0]; · iexact HC0
    iexact HC1
  isplitl [H2]; · iexact H2
  isplitl [H3]; · iexact H3
  isplitl [H4]; · iexact H4
  isplitl [H5]; · iexact H5
  isplitl [H6]; · iexact H6
  iexact HW

end Cert.KernelIdeal.Hand

end
-- ==== Proof.Logic.Launch.lean ====
/-
  The launch: from the arrays as given to the arrays as left. What the two ends of the pipelined region hold is taken
  apart into the chunks of the slots, the output chunks and the two features-halves of the output array, and put together
  again; between the ends stands the body's statement at each point. The result array ends at `result`, every element
  computed as the kernel computes its block.
-/
module

public import proofs.«01_k».proof.Proof.Logic.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## What the result holds -/

/-- The point that computes image `b`. -/
def ptOf (b : Fin 8) : Fin cfg0.N := ⟨b, by rw [show cfg0.N = 8 from N_0]; exact b.isLt⟩
theorem ptOf_bt (t : Fin cfg0.N) : ptOf (bt t) = t := by
  apply Fin.ext
  have := t.isLt
  have hN : cfg0.N = 8 := N_0
  show (t : ℕ) % 8 = (t : ℕ); omega

/-- The result: each element as the kernel computes the block it lies in. -/
def result (c : Dev nD) : S8x64x256x256.Idx → Elt F .f32 := fun i =>
  outAt (iblk m c 0 (ptOf (i 0))) (stRun (iblk m c 0 (ptOf (i 0))) (V m c main_arg0) (i 0) 64)
    (scaleV (iblk m c 1 (ptOf (i 0))) (iblk m c 2 (ptOf (i 0))) (iblk m c 3 (ptOf (i 0))))
    (shapeCast S1x64 (iblk m c 4 (ptOf (i 0))) shapeCasts_S1x64_S1x64) (V m c main_arg0) (i 0) (i 1) (i 2) (i 3)

theorem result_at (c : Dev nD) (t : Fin cfg0.N) (f : Fin 64) (u z : Fin 256) :
    result m c (ix8 (bt t) f u z) = outAt (iblk m c 0 t) (stRun (iblk m c 0 t) (V m c main_arg0) (bt t) 64)
      (scaleV (iblk m c 1 t) (iblk m c 2 t) (iblk m c 3 t)) (shapeCast S1x64 (iblk m c 4 t) shapeCasts_S1x64_S1x64) (V m c main_arg0) (bt t) f u z := by
  show outAt (iblk m c 0 (ptOf (bt t))) (stRun (iblk m c 0 (ptOf (bt t))) (V m c main_arg0) (bt t) 64)
    (scaleV (iblk m c 1 (ptOf (bt t))) (iblk m c 2 (ptOf (bt t))) (iblk m c 3 (ptOf (bt t))))
    (shapeCast S1x64 (iblk m c 4 (ptOf (bt t))) shapeCasts_S1x64_S1x64) (V m c main_arg0) (bt t) f u z = _
  rw [ptOf_bt]

/-- The arrays at the region's end: the result computed, every other as the region finds it. -/
def Y (c : Dev nD) (b : Ref sig .tc) : Buf (Elt F) ((c : Thread nD τ).loc b) :=
  if h : b = main_v5 then h ▸ result m c else V m c b
theorem Y_v5 (c : Dev nD) : Y m c main_v5 = result m c := by unfold Y; rw [dif_pos rfl]
theorem Y_arg0 (c : Dev nD) : Y m c main_arg0 = V m c main_arg0 := by unfold Y; rw [dif_neg (by decide)]

/-! ## The ends -/

abbrev R0 : Finset (Ref sig .tc) := {main_arg0, main_v5}
theorem R0_sub : R0 ⊆ Pipeline.restRefs sig spec0 := by decide

/-- The body's own cells. -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma (iCell 0 0)) 0 ∗ semVal ((c : Thread nD τ), SemLoc.dma (iCell 0 1)) 0
          ∗ semVal ((c : Thread nD τ), SemLoc.dma (iCell 1 0)) 0 ∗ semVal ((c : Thread nD τ), SemLoc.dma (iCell 1 1)) 0
          ∗ semVal ((c : Thread nD τ), SemLoc.dma (oCell 0)) 0 ∗ semVal ((c : Thread nD τ), SemLoc.dma (oCell 1)) 0) := by
  rw [Pipeline.ownSems0_eq_of_list c osem0 [0, 1, 2, 3, 4, 5] (by decide) (by decide)]; rfl

theorem routed_eq (c : Dev nD) (W : (b : Ref sig .tc) → Buf (Elt F) ((c : Thread nD τ).loc b)) :
    (Pipeline.routed R0 c W : sProp 𝕄) = iprop((lH c ↦{fullShare} W main_arg0) ∗ (lR c ↦{fullShare} W main_v5)) := by
  unfold Pipeline.routed
  rw [BI.bigSep_eq_bigSepL_of_eq [main_arg0, main_v5] (by decide) (by decide)]; rfl

section Cut

variable {ℓ : Loc nD τ sig}

/-- Two pieces at some contents each are their union at some contents. -/
theorem some_join (A B : Finset (Idx ℓ)) (h : Disjoint A B) :
    iprop((∃ f, ℓ ↦[A]{fullShare} f) ∗ (∃ f, ℓ ↦[B]{fullShare} f)) ⊢ (iprop(∃ f, ℓ ↦[A ∪ B]{fullShare} f) : sProp 𝕄) := by
  iintro ⟨⟨%f, HA⟩, ⟨%g, HB⟩⟩
  iexists _
  iapply (pointsTo_join h)
  isplitl [HA]; · iexact HA
  iexact HB

end Cut

theorem xSet_disj (s c s' c' : Fin 2) (h : (s, c) ≠ (s', c')) : Disjoint (xSet s c) (xSet s' c') :=
  Finset.disjoint_left.mpr fun i hi hi' => h (by
    have h1 := (mem_xWin s.isLt (le32 c) i).mp hi
    have h2 := (mem_xWin s'.isLt (le32 c') i).mp hi'
    exact Prod.ext (Fin.ext (by show (s : ℕ) = s'; omega)) (Fin.ext (by show (c : ℕ) = c'; omega)))

theorem xSet_univ : ((xSet 0 0 ∪ xSet 0 1) ∪ (xSet 1 0 ∪ xSet 1 1) : Finset S2x64x256x256.Idx) = Finset.univ := by
  refine Finset.eq_univ_iff_forall.mpr fun (i : S2x64x256x256.Idx) => ?_
  have h0 : (i 0 : ℕ) < 2 := (i 0).isLt
  have h1 : (i 1 : ℕ) < 64 := (i 1).isLt
  have key (s c : Fin 2) (h : (i 0 : ℕ) = s ∧ 32 * (c : ℕ) ≤ (i 1 : ℕ) ∧ (i 1 : ℕ) < 32 * (c : ℕ) + 32) : i ∈ xSet s c := (mem_xWin s.isLt (le32 c) i).mpr h
  by_cases hs : (i 0 : ℕ) = 0 <;> by_cases hc : (i 1 : ℕ) < 32
  · exact Finset.mem_union_left _ (Finset.mem_union_left _ (key 0 0 ⟨hs, by show 32 * 0 ≤ _; omega, by show _ < 32 * 0 + 32; omega⟩))
  · exact Finset.mem_union_left _ (Finset.mem_union_right _ (key 0 1 ⟨hs, by show 32 * 1 ≤ _; omega, by show _ < 32 * 1 + 32; omega⟩))
  · exact Finset.mem_union_right _ (Finset.mem_union_left _ (key 1 0 ⟨by show _ = 1; omega, by show 32 * 0 ≤ _; omega, by show _ < 32 * 0 + 32; omega⟩))
  · exact Finset.mem_union_right _ (Finset.mem_union_right _ (key 1 1 ⟨by show _ = 1; omega, by show 32 * 1 ≤ _; omega, by show _ < 32 * 1 + 32; omega⟩))

theorem oSet_disj : Disjoint (oSet 0) (oSet 1) :=
  Finset.disjoint_left.mpr fun i hi hi' => by
    have h1 := (mem_oWin (0 : Fin 2).isLt i).mp hi
    have h2 := (mem_oWin (1 : Fin 2).isLt i).mp hi'
    rw [h1] at h2; exact absurd h2 (by decide)

theorem oSet_univ : (oSet 0 ∪ oSet 1 : Finset S2x32x256x256.Idx) = Finset.univ := by
  refine Finset.eq_univ_iff_forall.mpr fun (i : S2x32x256x256.Idx) => ?_
  have h0 : (i 0 : ℕ) < 2 := (i 0).isLt
  by_cases hs : (i 0 : ℕ) = 0
  · exact Finset.mem_union_left _ ((mem_oWin (0 : Fin 2).isLt i).mpr hs)
  · exact Finset.mem_union_right _ ((mem_oWin (1 : Fin 2).isLt i).mpr (by show _ = 1; omega))

theorem cSet_disj : Disjoint (cSet 0) (cSet 1) :=
  Finset.disjoint_left.mpr fun i hi hi' => by
    have h1 := (mem_cSet 0 i).mp hi
    have h2 := (mem_cSet 1 i).mp hi'
    simp at h1 h2; omega

theorem cSet_univ : (cSet 0 ∪ cSet 1 : Finset S8x64x256x256.Idx) = Finset.univ := by
  ext i
  have h0 := (i 1).isLt
  simp only [S8x64x256x256] at h0
  simp at h0
  simp only [Finset.mem_union, mem_cSet, Finset.mem_univ, iff_true]
  simp
  omega

variable (d : Dev nD) (x : S8x64x256x256.Idx → Elt F .f32) (g V : S8x64x256x256.Idx → Elt F .f32)

/-- The input slots whole are their four chunks, -/
theorem slots_cut (f : S2x64x256x256.Idx → Elt F .f32) : (lX d ↦{fullShare} f : sProp 𝕄) ⊢ iprop(((∃ f, lX d ↦[xSet 0 0]{fullShare} f) ∗ (∃ f, lX d ↦[xSet 0 1]{fullShare} f))
    ∗ ((∃ f, lX d ↦[xSet 1 0]{fullShare} f) ∗ (∃ f, lX d ↦[xSet 1 1]{fullShare} f))) := by
  have h : (lX d ↦{fullShare} f : sProp 𝕄) ⊢ (lX d ↦[(xSet 0 0 ∪ xSet 0 1) ∪ (xSet 1 0 ∪ xSet 1 1)]{fullShare} f) := by rw [xSet_univ]
  refine h.trans ?_
  iintro H
  ihave H := (pointsTo_union (Finset.disjoint_union_left.mpr ⟨Finset.disjoint_union_right.mpr ⟨xSet_disj _ _ _ _ (by decide), xSet_disj _ _ _ _ (by decide)⟩,
    Finset.disjoint_union_right.mpr ⟨xSet_disj _ _ _ _ (by decide), xSet_disj _ _ _ _ (by decide)⟩⟩)).1 $$ H
  icases H with ⟨H0, H1⟩
  ihave H0 := (pointsTo_union (xSet_disj _ _ _ _ (by decide))).1 $$ H0
  icases H0 with ⟨H00, H01⟩
  ihave H1 := (pointsTo_union (xSet_disj _ _ _ _ (by decide))).1 $$ H1
  icases H1 with ⟨H10, H11⟩
  isplitl [H00 H01]
  · isplitl [H00]; · iexists f; iexact H00
    iexists f; iexact H01
  isplitl [H10]; · iexists f; iexact H10
  iexists f; iexact H11
/-- and back. -/
theorem slots_glue : iprop(((∃ f, lX d ↦[xSet 0 0]{fullShare} f) ∗ (∃ f, lX d ↦[xSet 0 1]{fullShare} f))
    ∗ ((∃ f, lX d ↦[xSet 1 0]{fullShare} f) ∗ (∃ f, lX d ↦[xSet 1 1]{fullShare} f))) ⊢ (iprop(∃ f, lX d ↦{fullShare} f) : sProp 𝕄) := by
  have h : (iprop(∃ f, lX d ↦[(xSet 0 0 ∪ xSet 0 1) ∪ (xSet 1 0 ∪ xSet 1 1)]{fullShare} f) : sProp 𝕄) ⊢ (iprop(∃ f, lX d ↦{fullShare} f)) := by rw [xSet_univ]
  refine (BI.sep_mono (some_join _ _ (xSet_disj _ _ _ _ (by decide))) (some_join _ _ (xSet_disj _ _ _ _ (by decide)))).trans (.trans ?_ h)
  exact some_join _ _ (Finset.disjoint_union_left.mpr ⟨Finset.disjoint_union_right.mpr ⟨xSet_disj _ _ _ _ (by decide), xSet_disj _ _ _ _ (by decide)⟩,
    Finset.disjoint_union_right.mpr ⟨xSet_disj _ _ _ _ (by decide), xSet_disj _ _ _ _ (by decide)⟩⟩)

/-- The output chunks whole are the two of them, and back. -/
theorem outs_cut (f : S2x32x256x256.Idx → Elt F .f32) : (lO d ↦{fullShare} f : sProp 𝕄) ⊢ iprop((∃ f, lO d ↦[oSet 0]{fullShare} f) ∗ (∃ f, lO d ↦[oSet 1]{fullShare} f)) := by
  have h : (lO d ↦{fullShare} f : sProp 𝕄) ⊢ (lO d ↦[oSet 0 ∪ oSet 1]{fullShare} f) := by rw [oSet_univ]
  refine h.trans ?_
  iintro H
  ihave H := (pointsTo_union oSet_disj).1 $$ H
  icases H with ⟨H0, H1⟩
  isplitl [H0]; · iexists f; iexact H0
  iexists f; iexact H1
theorem outs_glue : iprop((∃ f, lO d ↦[oSet 0]{fullShare} f) ∗ (∃ f, lO d ↦[oSet 1]{fullShare} f)) ⊢ (iprop(∃ f, lO d ↦{fullShare} f) : sProp 𝕄) := by
  have h : (iprop(∃ f, lO d ↦[oSet 0 ∪ oSet 1]{fullShare} f) : sProp 𝕄) ⊢ (iprop(∃ f, lO d ↦{fullShare} f)) := by rw [oSet_univ]
  exact (some_join _ _ oSet_disj).trans h

/-- The output array whole is the two halves of its features, at one contents. -/
theorem array_cut (f : S8x64x256x256.Idx → Elt F .f32) : (lR d ↦{fullShare} f : sProp 𝕄) ⊣⊢ iprop((lR d ↦[cSet 0]{fullShare} f) ∗ (lR d ↦[cSet 1]{fullShare} f)) := by
  rw [show (lR d ↦{fullShare} f : sProp 𝕄) = (lR d ↦[cSet 0 ∪ cSet 1]{fullShare} f) by rw [cSet_univ]]
  exact pointsTo_union cSet_disj

/-- The input array whole is a remainder and a share for each chunk of a slot. -/
theorem shares_cut : (lH d ↦{fullShare} x : sProp 𝕄) ⊣⊢ iprop((lH d ↦[Finset.univ]{shareDrop fullShare 4} x)
    ∗ (lH d ↦[Finset.univ]{xShare 0 0} x) ∗ (lH d ↦[Finset.univ]{xShare 0 1} x) ∗ (lH d ↦[Finset.univ]{xShare 1 0} x) ∗ (lH d ↦[Finset.univ]{xShare 1 1} x)) := by
  have h := pointsTo_toks (ℓ := lH d) (S := Finset.univ) (f := x) (Ix := Unit) (Name := ℕ) (U := Pipeline.UC sig nD τ) (Lvl := ℕ) fullShare 4
  rw [bigSep_univ_eq_bigSepL [(0 : Fin 4), 1, 2, 3] (by decide) (by decide)] at h
  exact h

/-- What is held before the first point, with the untouched remainder of the input array's share. -/
def Phi (n : ℕ) : sProp 𝕄 := iprop(Held d x g V n ∗ (lH d ↦[Finset.univ]{shareDrop fullShare 4} x) ∗ ∃ r, prngReg d r)

/-- Between rows all is idle. -/
theorem Held_idle (n : ℕ) (h : n % 4 = 0) (h2 : n % 2 = 0) : (Held d x g V n : sProp 𝕄)
    = iprop((XI d x 0 0 ∗ XI d x 0 1) ∗ (XI d x 1 0 ∗ XI d x 1 1) ∗ OD d g V 0 n ∗ OD d g V 1 n) := by
  unfold Held InOwn OC
  rw [if_pos h, if_pos h, if_pos h, show sl n = 0 from Fin.ext h2, show sl (n + 1) = 1 from Fin.ext (by show (n + 1) % 2 = 1; omega)]

theorem upTo_zero : upTo g V 0 = V := by
  funext i; unfold upTo; rw [if_neg (by omega)]
theorem upTo_eight : upTo g V 8 = g := by
  funext i; unfold upTo
  have h0 := (i 0).isLt
  simp only [S8x64x256x256] at h0
  rw [if_pos (by simpa using h0)]

/-- From the region's entry. -/
theorem ends_in : iprop((lH d ↦{fullShare} x) ∗ (lR d ↦{fullShare} V))
      ∗ iprop(semVal ((d : Thread nD τ), SemLoc.dma (iCell 0 0)) 0 ∗ semVal ((d : Thread nD τ), SemLoc.dma (iCell 0 1)) 0
          ∗ semVal ((d : Thread nD τ), SemLoc.dma (iCell 1 0)) 0 ∗ semVal ((d : Thread nD τ), SemLoc.dma (iCell 1 1)) 0
          ∗ semVal ((d : Thread nD τ), SemLoc.dma (oCell 0)) 0 ∗ semVal ((d : Thread nD τ), SemLoc.dma (oCell 1)) 0)
      ∗ iprop((∃ f, lX d ↦{fullShare} f) ∗ (∃ f, lO d ↦{fullShare} f)) ∗ (∃ r, prngReg d r)
    ⊢ (Phi d x g V 0 : sProp 𝕄) := by
  unfold Phi
  rw [Held_idle d x g V 0 rfl rfl]
  unfold XI OD OI
  rw [upTo_zero]
  iintro ⟨⟨HH, HR⟩, ⟨S0, S1, S2, S3, S4, S5⟩, ⟨⟨%f, HX⟩, ⟨%f', HO⟩⟩, Hp⟩
  ihave HH := (shares_cut d x).1 $$ HH
  icases HH with ⟨HH, T0, T1, T2, T3⟩
  ihave HR := (array_cut d V).1 $$ HR
  icases HR with ⟨R0, R1⟩
  ihave HX := (slots_cut d f) $$ HX
  icases HX with ⟨⟨X0, X1⟩, ⟨X2, X3⟩⟩
  ihave HO := (outs_cut d f') $$ HO
  icases HO with ⟨O0, O1⟩
  isplitr [HH Hp]
  · isplitl [X0 S0 T0 X1 S1 T1]
    · isplitl [X0 S0 T0]
      · isplitl [X0]; · iexact X0
        isplitl [S0]; · iexact S0
        iexact T0
      isplitl [X1]; · iexact X1
      isplitl [S1]; · iexact S1
      iexact T1
    isplitl [X2 S2 T2 X3 S3 T3]
    · isplitl [X2 S2 T2]
      · isplitl [X2]; · iexact X2
        isplitl [S2]; · iexact S2
        iexact T2
      isplitl [X3]; · iexact X3
      isplitl [S3]; · iexact S3
      iexact T3
    isplitl [O0 S4 R0]
    · isplitl [O0 S4]
      · isplitl [O0]; · iexact O0
        iexact S4
      iexact R0
    isplitl [O1 S5]
    · isplitl [O1]; · iexact O1
      iexact S5
    iexact R1
  isplitl [HH]; · iexact HH
  iexact Hp

/-- To the region's exit. -/
theorem ends_out : (Phi d x g V 8 : sProp 𝕄) ⊢ iprop((lH d ↦{fullShare} x) ∗ (lR d ↦{fullShare} g))
      ∗ iprop(semVal ((d : Thread nD τ), SemLoc.dma (iCell 0 0)) 0 ∗ semVal ((d : Thread nD τ), SemLoc.dma (iCell 0 1)) 0
          ∗ semVal ((d : Thread nD τ), SemLoc.dma (iCell 1 0)) 0 ∗ semVal ((d : Thread nD τ), SemLoc.dma (iCell 1 1)) 0
          ∗ semVal ((d : Thread nD τ), SemLoc.dma (oCell 0)) 0 ∗ semVal ((d : Thread nD τ), SemLoc.dma (oCell 1)) 0)
      ∗ iprop((∃ f, lX d ↦{fullShare} f) ∗ (∃ f, lO d ↦{fullShare} f)) ∗ (∃ r, prngReg d r) := by
  unfold Phi
  rw [Held_idle d x g V 8 rfl rfl]
  unfold XI OD OI
  rw [upTo_eight]
  iintro ⟨⟨⟨⟨X0, S0, T0⟩, ⟨X1, S1, T1⟩⟩, ⟨⟨X2, S2, T2⟩, ⟨X3, S3, T3⟩⟩, ⟨⟨O0, S4⟩, R0⟩, ⟨⟨O1, S5⟩, R1⟩⟩, HH, Hp⟩
  isplitl [HH T0 T1 T2 T3 R0 R1]
  · isplitl [HH T0 T1 T2 T3]
    · iapply (shares_cut d x).2
      isplitl [HH]; · iexact HH
      isplitl [T0]; · iexact T0
      isplitl [T1]; · iexact T1
      isplitl [T2]; · iexact T2
      iexact T3
    iapply (array_cut d g).2
    isplitl [R0]; · iexact R0
    iexact R1
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [X0 X1 X2 X3 O0 O1]
  · isplitl [X0 X1 X2 X3]
    · iapply (slots_glue d)
      isplitl [X0 X1]
      · isplitl [X0]; · iexact X0
        iexact X1
      isplitl [X2]; · iexact X2
      iexact X3
    iapply (outs_glue d)
    isplitl [O0]; · iexact O0
    iexact O1
  iexact Hp

/-! ## The proof data and the body's obligation -/

/-- The region's data on core `c`: the arrays as it finds them, every window's buffer left as fetched, between points
    what the body holds. -/
def dats (_ : Fin 1) (c : Dev nD) : Dat τ (Elt F) Unit ℕ (Pipeline.UC sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ k := Phi c (Gen.V m c main_arg0) (result m c) (Gen.V m c main_v5) k
  q _ := fullShare
  owed _ := 0

theorem A_eq (c : Dev nD) (w : Fin cfg0.W) : (dats m 0 c).A w = Gen.V m c (Pipeline.arrRef spec0 w) := by
  dsimp only [dats]

theorem before0 (c : Dev nD) (t : Fin cfg0.N) (e) : (dats m 0 c).before 0 t e = iblk m c 0 t :=
  ((dats m 0 c).before_in_eq_fetched 0 rfl (fun _ => rfl) (fun _ _ _ => rfl) (fun t => rfl) t e).trans rfl
theorem before1 (c : Dev nD) (t : Fin cfg0.N) (e) : (dats m 0 c).before 1 t e = iblk m c 1 t :=
  ((dats m 0 c).before_in_eq_fetched 1 rfl (fun _ => rfl) (fun _ _ _ => rfl) (fun t => rfl) t e).trans rfl
theorem before2 (c : Dev nD) (t : Fin cfg0.N) (e) : (dats m 0 c).before 2 t e = iblk m c 2 t :=
  ((dats m 0 c).before_in_eq_fetched 2 rfl (fun _ => rfl) (fun _ _ _ => rfl) (fun t => rfl) t e).trans rfl
theorem before3 (c : Dev nD) (t : Fin cfg0.N) (e) : (dats m 0 c).before 3 t e = iblk m c 3 t :=
  ((dats m 0 c).before_in_eq_fetched 3 rfl (fun _ => rfl) (fun _ _ _ => rfl) (fun t => rfl) t e).trans rfl
theorem before4 (c : Dev nD) (t : Fin cfg0.N) (e) : (dats m 0 c).before 4 t e = iblk m c 4 t :=
  ((dats m 0 c).before_in_eq_fetched 4 rfl (fun _ => rfl) (fun _ _ _ => rfl) (fun t => rfl) t e).trans rfl

def bodyPre (c : Dev nD) (t : Fin cfg0.N) : sProp 𝕄 :=
  iprop((dats m 0 c).Φ t.castSucc ∗ (dats m 0 c).owesAt () t.castSucc
    ∗ (∃ e, owns (c : Thread nD τ) (st0_0 t) fullShare ((dats m 0 c).before 0 t e))
    ∗ (∃ e, owns (c : Thread nD τ) (st0_1 t) fullShare ((dats m 0 c).before 1 t e))
    ∗ (∃ e, owns (c : Thread nD τ) (st0_2 t) fullShare ((dats m 0 c).before 2 t e))
    ∗ (∃ e, owns (c : Thread nD τ) (st0_3 t) fullShare ((dats m 0 c).before 3 t e))
    ∗ (∃ e, owns (c : Thread nD τ) (st0_4 t) fullShare ((dats m 0 c).before 4 t e)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body meets its obligation at a point. -/
theorem sound_body (c : Dev nD) (t : Fin cfg0.N) :
    bodyPre m c t ⊢ wp frame (wpE (defs₀ (F := F)) Variants.none c none) Set.univ (bodyAt0 t) (fun _ => bodyPost m c t) := by
  rw [body_eq]
  unfold bodyPre bodyPost
  rw [show (dats m 0 c).Φ t.castSucc = Phi c (Gen.V m c main_arg0) (result m c) (Gen.V m c main_v5) (t : ℕ) from rfl,
    show (dats m 0 c).Φ t.succ = Phi c (Gen.V m c main_arg0) (result m c) (Gen.V m c main_v5) ((t : ℕ) + 1) from rfl]
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl, show (dats m 0 c).after 2 t = iblk m c 2 t from rfl,
    show (dats m 0 c).after 3 t = iblk m c 3 t from rfl, show (dats m 0 c).after 4 t = iblk m c 4 t from rfl]
  unfold Phi
  iintro ⟨⟨HH, Hrest, Hp⟩, ⟨%W, -, HW⟩, ⟨%e0, H0⟩, ⟨%e1, H1⟩, ⟨%e2, H2⟩, ⟨%e3, H3⟩, ⟨%e4, H4⟩⟩
  rw [before0, before1, before2, before3, before4]
  iapply (WP_body c (Gen.V m c main_arg0) (result m c) (Gen.V m c main_v5) t (st0_0 t) (st0_1 t) (st0_2 t) (st0_3 t) (st0_4 t)
    (iblk m c 0 t) (iblk m c 1 t) (iblk m c 2 t) (iblk m c 3 t) (iblk m c 4 t) W (result_at m c t) _) $$ [HH H0 H1 H2 H3 H4 HW]
  · isplitl [HH]; · iexact HH
    isplitl [H0]; · iexact H0
    isplitl [H1]; · iexact H1
    isplitl [H2]; · iexact H2
    isplitl [H3]; · iexact H3
    isplitl [H4]; · iexact H4
    iexact HW
  iintro ⟨HH, H0, H1, H2, H3, H4, ⟨%W', HW⟩⟩
  isplitl [HH Hrest Hp]
  · isplitl [HH]; · iexact HH
    isplitl [Hrest]; · iexact Hrest
    iexact Hp
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.Ends spec0 osem0 R0 c (Gen.V m c) ⊢ (dats m 0 c).Φ 0 := by
  unfold Pipeline.Ends
  rw [routed_eq, ownSems00_eq, scopedRest0_eq]
  exact ends_in c (Gen.V m c main_arg0) (result m c) (Gen.V m c main_v5)
theorem hout (c : Dev nD) : (dats m 0 c).Φ (Fin.last cfg0.N) ⊢ Pipeline.Ends spec0 osem0 R0 c (Y m c) := by
  unfold Pipeline.Ends
  rw [routed_eq, ownSems00_eq, scopedRest0_eq, Y_v5, Y_arg0]
  rw [show (dats m 0 c).Φ (Fin.last cfg0.N) = Phi c (Gen.V m c main_arg0) (result m c) (Gen.V m c main_v5) 8 from rfl]
  exact ends_out c (Gen.V m c main_arg0) (result m c) (Gen.V m c main_v5)

theorem hmainU (𝒱₀ : Variants) : Pipeline.HMain (Ix := Unit) (Name := ℕ) (U := Pipeline.UC sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- Every run ends, the result array at `result`, every argument as given, every counter at zero. -/
def Post (r : PUnit × MemSt nD τ sig (Elt F)) : Prop :=
  (∀ c : Dev nD, r.2.mem ((c : Thread nD τ).loc main_v5) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) ∧ r.2.sem = fun _ => 0

theorem rest_mem (b : Ref sig .tc) (h : b ∈ Pipeline.restRefs sig spec0) (h' : b ∉ R0) : b ∈ Pipeline.restRefs sig spec0 \ R0 := Finset.mem_sdiff.mpr ⟨h, h'⟩

set_option backward.isDefEq.respectTransparency.types false in
theorem run_main : θ_run defs (onTc (τ := τ) (main (F := F))) (s₀ m ρ) (Post m) :=
  Pipeline.θ_run_frame_routed (Q' := Post m) cfgs (dats m) (0 : Fin 1) launch0 ownSemFacts0 defs₀ Variants.none m ρ main
    (hbody := fun c => (body_obligation m c).loose) (hshare := fun c => (dats m 0 c).share_full fun _ => rfl)
    (howed := fun _ _ => rfl) (V := Gen.V m) (hmain := hmainU m Variants.none) (hA := A_eq m) (R := R0) (hR := R0_sub) (Y := Y m)
    (hin := hin m) (hout := hout m)
    (hQ' := fun r h => ⟨fun c => by
      obtain ⟨-, hR, hZ⟩ := h.1 c
      exact ⟨(hR main_v5 (by decide)).trans (Y_v5 m c), ((hR main_arg0 (by decide)).trans (Y_arg0 m c)).trans (V_main_arg0 m c),
        (hZ main_arg1 (rest_mem _ (Pipeline.mem_restRefs_of main_arg1 (by decide) (by decide)) (by decide))).trans (V_main_arg1 m c),
        (hZ main_arg2 (rest_mem _ (Pipeline.mem_restRefs_of main_arg2 (by decide) (by decide)) (by decide))).trans (V_main_arg2 m c),
        (hZ main_arg3 (rest_mem _ (Pipeline.mem_restRefs_of main_arg3 (by decide) (by decide)) (by decide))).trans (V_main_arg3 m c),
        (hZ main_arg4 (rest_mem _ (Pipeline.mem_restRefs_of main_arg4 (by decide) (by decide)) (by decide))).trans (V_main_arg4 m c),
        (hZ main_arg5 (rest_mem _ (Pipeline.mem_restRefs_of main_arg5 (by decide) (by decide)) (by decide))).trans (V_main_arg5 m c)⟩, h.2⟩)

end Cert.KernelIdeal.Hand

end
-- ==== Proof.Same.lean ====
/-
  The kernel as printed and the kernel over the extended reals are one program, read at two instances of the floats: no
  operation was replaced. So what is proved of the one at every instance is proved of the other.
-/
module

public import proofs.«01_k».proof.Proof.Gen.Kernel
public import proofs.«01_k».proof.Proof.Logic.Launch

@[expose] public section

set_option maxRecDepth 16384

noncomputable section

namespace Cert.Kernel.Hand

open Idealize.ShloMosaic Idealize.ShloMosaic.TcCoe Idealize.SL.Sem

variable {F : FTy → Type} [FloatOps F]

set_option maxHeartbeats 4000000 in
/-- The two bodies are one. -/
theorem body_same (i : Cert.Kernel.grid0.Coords) : @Cert.Kernel.cc0__fused_kernel F _ _ i = @Cert.KernelIdeal.cc0__fused_kernel F _ _ i := by
  rfl

/-- So are the tables of bodies. -/
theorem table_same : @Cert.Kernel.defs₀ F _ _ = @Cert.KernelIdeal.defs₀ F _ _ := by
  refine congrArg Defs.onTc ?_
  funext l a
  rcases l with ⟨_ | n, h⟩
  · obtain ⟨t, s⟩ := a
    show Cert.Kernel.cc0__fused_kernel (F := F) (Cert.Kernel.grid0.coords t) _ _ _ _ _ _ _ _ _ _ _ _ _ _ _ _ _ _ _ _ = _
    rw [body_same]
    rfl
  · exact absurd h (Nat.not_lt.2 (Nat.le_add_left _ _))

theorem defs_same : @Cert.Kernel.defs F _ _ = @Cert.KernelIdeal.defs F _ _ :=
  congrArg (Pipeline.defs (Cert.Kernel.pcfgs (F := F))) table_same

/-- The kernel as printed runs to the same end. -/
theorem run_main (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (Cert.KernelIdeal.Hand.Post (F := F) m) := by
  rw [defs_same]
  exact Cert.KernelIdeal.Hand.run_main (F := F) m g

end Cert.Kernel.Hand

end
-- ==== Proof.Value.Algebra.lean ====
/-
  The equation over the extended reals, with no program in it: one image's mean and variance as the reference groups
  their sums and as the kernel groups them, and one element of the result either way. Nothing is asked of the input but,
  where the deviation is divided by, that it is positive.
-/
module

public import Idealize.ShloMosaic.PureOps.Ideal

@[expose] public section

noncomputable section

namespace Cert.Algebra

open Idealize.ShloMosaic

/-! ## Sums of extended reals -/

/-- A square is not negative. -/
theorem sq_nonneg (a : EReal) : 0 ≤ a * a := by
  rcases le_total 0 a with h | h
  · exact mul_nonneg h h
  · have h' : 0 ≤ -a := by simpa using EReal.neg_le_neg_iff.mpr h
    have := mul_nonneg h' h'
    rwa [neg_mul_neg] at this

/-- A factor that is neither negative nor infinite goes into a sum. -/
theorem sum_mul_of {ι : Type*} (s : Finset ι) (f : ι → EReal) {c : EReal} (h0 : 0 ≤ c) (hT : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 hT, ih]

/-- The sum of negated terms, none of the terms negative, is the negated sum. -/
theorem sum_neg_of {ι : Type*} (s : Finset ι) (f : ι → EReal) (h : ∀ i, 0 ≤ f i) : ∑ i ∈ s, -f i = -∑ i ∈ s, f i := by
  classical
  induction s using Finset.induction_on with
  | empty => simp
  | insert a s ha ih =>
    have hb : (∑ i ∈ s, f i) ≠ ⊥ := ne_of_gt (lt_of_lt_of_le EReal.bot_lt_zero (Finset.sum_nonneg fun i _ => h i))
    have hbb : f a ≠ ⊥ := ne_of_gt (lt_of_lt_of_le EReal.bot_lt_zero (h a))
    rw [Finset.sum_insert ha, Finset.sum_insert ha, ih, EReal.neg_add (.inl hbb) (.inr hb), sub_eq_add_neg]

/-- Differences sum to the difference of the sums, where nothing subtracted is negative. -/
theorem sum_sub_of {ι : Type*} (s : Finset ι) (f g : ι → EReal) (h : ∀ i, 0 ≤ g i) :
    ∑ i ∈ s, (f i - g i) = ∑ i ∈ s, f i - ∑ i ∈ s, g i := by
  simp only [sub_eq_add_neg, Finset.sum_add_distrib, sum_neg_of s g h]

/-- A sum of terms not negative is infinite as soon as one is. -/
theorem term_ne_top {ι : Type*} (s : Finset ι) (f : ι → EReal) (h : ∀ i, 0 ≤ f i) (hs : ∑ i ∈ s, f i ≠ ⊤) (i : ι) (hi : i ∈ s) :
    f i ≠ ⊤ := fun e => hs (top_le_iff.mp (e ▸ Finset.single_le_sum (fun j _ => h j) hi))

/-! ## One image -/

variable (x : Fin 64 → Fin 256 → Fin 256 → EReal) (w : Fin 256 → EReal)

/-- How much of the mask there is. -/
def count : EReal := ∑ k, w k * w k
/-- One less, and at least one. -/
def count1 : EReal := max (count w - 1) 1
/-- The masked trace of feature `f`. -/
def tr (f : Fin 64) : EReal := ∑ k, x f k k * (w k * w k)
/-- The masked trace of feature `f`'s square. -/
def trSq (f : Fin 64) : EReal := ∑ k, (∑ j, x f k j * x f j k) * (w k * w k)
/-- The mean over the features of trace over count. -/
def mean : EReal := Ideal.div (∑ f, Ideal.div (tr x w f) (count w)) 64
/-- The mean over the features of the variance. -/
def var : EReal :=
  Ideal.div (∑ f, (Ideal.div (trSq x w f) (count1 w) - Ideal.div (tr x w f * tr x w f) (count w * count1 w))) 64
/-- The mean from the traces' sum. -/
def meanK : EReal := Ideal.div (∑ f, tr x w f) (count w * 64)
/-- The square's trace with the mask on the other index of the product. -/
def trSqK (f : Fin 64) : EReal := ∑ j, ∑ k, x f j k * x f k j * (w k * w k)
/-- The variance from the sums over all features. -/
def varK : EReal :=
  Ideal.div (∑ f, trSqK x w f - Ideal.div (∑ f, tr x w f * tr x w f) (count w)) (count1 w * 64)

theorem count_nonneg : 0 ≤ count w := Finset.sum_nonneg fun k _ => sq_nonneg (w k)

theorem div_of_ne {a b : EReal} (h : b ≠ 0) : Ideal.div a b = a * b⁻¹ := by rw [Ideal.div, if_neg h]
theorem div_zero_zero : Ideal.div 0 0 = ⊥ := by simp [Ideal.div]
theorem div_top (a : EReal) : Ideal.div a ⊤ = 0 := by rw [div_of_ne EReal.top_ne_zero, EReal.inv_top, mul_zero]

theorem c64_pos : (0 : EReal) < 64 := by norm_num
theorem c64_ne_top : (64 : EReal) ≠ ⊤ := by
  have : (64 : EReal) = ((64 : ℝ) : EReal) := by norm_cast
  rw [this]; exact EReal.coe_ne_top 64
theorem inv64_nonneg : (0 : EReal) ≤ (64 : EReal)⁻¹ := EReal.inv_nonneg_of_nonneg c64_pos.le
theorem inv_ne_top {a : EReal} (h : 0 < a) : a⁻¹ ≠ ⊤ := by
  induction a with
  | bot => simp at h
  | top => simp
  | coe r => rw [← EReal.coe_inv]; exact EReal.coe_ne_top _

theorem one_le_count1 : 1 ≤ count1 w := le_max_right _ _
theorem count1_pos : 0 < count1 w := lt_of_lt_of_le zero_lt_one (one_le_count1 w)

section Zero
variable (h : count w = 0)
include h
theorem sq_zero (k : Fin 256) : w k * w k = 0 :=
  (Finset.sum_eq_zero_iff_of_nonneg fun k _ => sq_nonneg (w k)).mp h k (Finset.mem_univ k)
theorem tr_zero (f : Fin 64) : tr x w f = 0 := by simp [tr, sq_zero w h]
theorem trSq_zero (f : Fin 64) : trSq x w f = 0 := by simp [trSq, sq_zero w h]
theorem trSqK_zero (f : Fin 64) : trSqK x w f = 0 := by simp [trSqK, sq_zero w h]
theorem count1_zero : count1 w = 1 := by
  rw [count1, h, zero_sub]; exact max_eq_right (by rw [EReal.neg_le]; exact (by norm_num : (-1 : EReal) ≤ 0).trans zero_le_one)
end Zero

/-- A sum of 64 infinities of one sign is that infinity. -/
theorem sum_bot : ∑ _f : Fin 64, (⊥ : EReal) = ⊥ := by
  rw [Fin.sum_univ_succ]; exact EReal.bot_add _
theorem sum_top : ∑ _f : Fin 64, (⊤ : EReal) = ⊤ := by
  rw [Fin.sum_univ_succ]
  exact EReal.top_add_of_ne_bot (ne_of_gt (lt_of_lt_of_le EReal.bot_lt_zero (Finset.sum_nonneg fun _ _ => le_top)))

/-- The mask on the product's other index, where the mask is finite: the same trace of the square. -/
theorem trSqK_eq (h : count w ≠ ⊤) (f : Fin 64) : trSqK x w f = trSq x w f := by
  rw [trSqK, Finset.sum_comm, trSq]
  refine Finset.sum_congr rfl fun k _ => ?_
  rw [sum_mul_of _ _ (sq_nonneg (w k)) (term_ne_top _ _ (fun k => sq_nonneg (w k)) h k (Finset.mem_univ k))]
  exact Finset.sum_congr rfl fun j _ => by rw [mul_comm (x f j k)]

theorem count1_ne_top (h : count w ≠ ⊤) : count1 w ≠ ⊤ := by
  have hb : count w ≠ ⊥ := ne_of_gt (lt_of_lt_of_le EReal.bot_lt_zero (count_nonneg w))
  have h1 : count w - 1 ≠ ⊤ := by
    rw [← EReal.coe_toReal h hb, ← EReal.coe_one, ← EReal.coe_sub]; exact EReal.coe_ne_top _
  have h2 : (1 : EReal) ≠ ⊤ := by rw [← EReal.coe_one]; exact EReal.coe_ne_top _
  rw [count1]; exact (max_lt (lt_top_iff_ne_top.mpr h1) (lt_top_iff_ne_top.mpr h2)).ne

/-- The two means agree. -/
theorem meanK_eq : meanK x w = mean x w := by
  rw [meanK, mean]
  by_cases h0 : count w = 0
  · simp only [h0, tr_zero x w h0, zero_mul, Finset.sum_const_zero, div_zero_zero, sum_bot]
    rw [div_of_ne c64_pos.ne', EReal.bot_mul_of_pos (EReal.inv_pos_of_pos_ne_top c64_pos c64_ne_top)]
  by_cases hT : count w = ⊤
  · simp only [hT, EReal.top_mul_of_pos c64_pos, div_top, Finset.sum_const_zero]
    rw [div_of_ne c64_pos.ne', zero_mul]
  have hp : 0 < count w := lt_of_le_of_ne (count_nonneg w) (Ne.symm h0)
  simp only [div_of_ne h0, div_of_ne c64_pos.ne', div_of_ne (mul_ne_zero hp.ne' c64_pos.ne'), EReal.mul_inv]
  rw [← sum_mul_of _ _ (EReal.inv_nonneg_of_nonneg hp.le) (inv_ne_top hp), mul_assoc]

/-- The two variances agree. -/
theorem varK_eq : varK x w = var x w := by
  rw [varK, var]
  by_cases h0 : count w = 0
  · simp only [h0, tr_zero x w h0, trSq_zero x w h0, trSqK_zero x w h0, count1_zero w h0, zero_mul, mul_zero, Finset.sum_const_zero,
      div_zero_zero, one_mul, div_of_ne one_ne_zero]
    simp only [zero_sub, EReal.neg_bot, sum_top]
  by_cases hT : count w = ⊤
  · have h1 : count1 w = ⊤ := by
      rw [count1, hT]
      have : (⊤ : EReal) - 1 = ⊤ := by rw [← EReal.coe_one]; exact EReal.top_sub_coe 1
      rw [this]; exact max_eq_left le_top
    simp only [hT, h1, EReal.top_mul_of_pos c64_pos, EReal.top_mul_top, div_top, sub_zero, Finset.sum_const_zero]
    rw [div_of_ne c64_pos.ne', zero_mul]
  have hp : 0 < count w := lt_of_le_of_ne (count_nonneg w) (Ne.symm h0)
  have hp1 := count1_pos w
  have hg : ∀ f, 0 ≤ tr x w f * tr x w f * (count w)⁻¹ := fun f => mul_nonneg (sq_nonneg _) (EReal.inv_nonneg_of_nonneg hp.le)
  have e : ∀ f, trSq x w f * (count1 w)⁻¹ - tr x w f * tr x w f * ((count w)⁻¹ * (count1 w)⁻¹)
      = (trSq x w f - tr x w f * tr x w f * (count w)⁻¹) * (count1 w)⁻¹ := fun f => by
    rw [sub_eq_add_neg, sub_eq_add_neg, EReal.right_distrib_of_nonneg_of_ne_top (EReal.inv_nonneg_of_nonneg hp1.le) (inv_ne_top hp1),
      neg_mul, mul_assoc (tr x w f * tr x w f)]
  simp only [div_of_ne h0, div_of_ne hp1.ne', div_of_ne c64_pos.ne', div_of_ne (mul_ne_zero hp.ne' hp1.ne'),
    div_of_ne (mul_ne_zero hp1.ne' c64_pos.ne'), EReal.mul_inv, e]
  rw [← sum_mul_of _ _ (EReal.inv_nonneg_of_nonneg hp1.le) (inv_ne_top hp1), sum_sub_of _ _ _ hg,
    ← sum_mul_of _ _ (EReal.inv_nonneg_of_nonneg hp.le) (inv_ne_top hp), mul_assoc]
  simp only [trSqK_eq x w hT]

/-- Dividing by the root of a positive number is multiplying by its reciprocal root. -/
theorem div_sqrt {y : EReal} (h : 0 < y) (a : EReal) : Ideal.div a (Ideal.sqrt y) = a * Ideal.rsqrt y := by
  induction y with
  | bot => simp at h
  | top => rw [Ideal.sqrt_top, Ideal.rsqrt_top, div_top, mul_zero]
  | coe r =>
    have hr : 0 < r := by exact_mod_cast h
    rw [Ideal.sqrt_coe, Ideal.rsqrt_coe, if_neg hr.not_gt, if_neg hr.not_gt, if_neg hr.ne', div_of_ne, EReal.coe_inv]
    exact_mod_cast (Real.sqrt_pos.mpr hr).ne'

/-- One element as the reference has it: `e` the identity's entry, `a` the element, `s` and `b` its feature's scale and
    bias, `p` the two mask entries' product, `y` the variance with the small constant added. -/
def elem (M y e a p s b : EReal) : EReal := Ideal.div ((a - M * e) * p) (Ideal.sqrt y) * s + b * e

/-- The kernel's element over a block on the diagonal. -/
theorem elem_on {y : EReal} (h : 0 < y) (M e a p s b : EReal) :
    ((a - M * e) * (p * Ideal.rsqrt y)) * s + b * e = elem M y e a p s b := by
  rw [elem, div_sqrt h, mul_assoc (a - M * e) p]

/-- The kernel's element over a block off the diagonal, where the identity's entry is zero. -/
theorem elem_off {y : EReal} (h : 0 < y) (M a p s b : EReal) :
    (a * (p * Ideal.rsqrt y)) * s = elem M y 0 a p s b := by
  rw [← elem_on h, mul_zero, mul_zero, sub_zero, add_zero]

end Cert.Algebra
-- ==== Proof.Value.Words.lean ====
/-
  Small readings both programs share: the constants, and what a comparison of two row or lane numbers selects.
-/
module

public import Idealize.ShloMosaic.Lib.Pointwise
public import proofs.«01_k».proof.Proof.Value.Algebra

@[expose] public section

noncomputable section

namespace Cert.Algebra

open Idealize.ShloMosaic

/-- The word of 64. -/
theorem word64 : Ideal.ofBits .f32 0x42800000#32 = 64 := by
  have h : (8388608 * (1 / 131072) : ℝ) = 64 := by norm_num
  have e : Ideal.ofBits .f32 0x42800000#32 = ((8388608 * (1 / 131072) : ℝ) : EReal) := by
    simp [Ideal.ofBits, Ideal.ieee]
    norm_num
  rw [e, h]; norm_cast
/-- The word of one. -/
theorem word1 : Ideal.ofBits .f32 0x3F800000#32 = 1 := by
  exact Ideal.ofBits_one_f32

/-- Two numbers below 2³² are compared as their words are. -/
theorem cmpi_eq_iff {a b : ℕ} (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, IntOp.cmpi]
    rw [show (BitVec.ofNat 32 a == BitVec.ofNat 32 b) = false from beq_eq_false_iff_ne.mpr this]; rfl

theorem lt_word {n : ℕ} (h : n ≤ 2 ^ 32) (i : Fin n) : i.val < 2 ^ 32 := lt_of_lt_of_le i.isLt h
theorem le256 : 256 ≤ 2 ^ 32 := by decide
theorem le64 : 64 ≤ 2 ^ 32 := by decide

/-- Selecting where two numbers agree. -/
theorem select_eq {α : Type} {a b : ℕ} (ha : a < 2 ^ 32) (hb : b < 2 ^ 32) (u v : α) :
    Scalar.select (IntOp.cmpi .eq (BitVec.ofNat 32 a) (BitVec.ofNat 32 b)) u v = if a = b then u else v := by
  rw [cmpi_eq_iff ha hb]; split <;> simp [Scalar.select]

/-- The identity matrix's entries. -/
def eye (i j : Fin 256) : EReal := if i.val = j.val then 1 else 0

/-- The identity as a truth value made a number. -/
theorem uitofp_eq (i j : Fin 256) :
    (FloatOps.uitofp .f32 (IntOp.cmpi .eq (IntOp.addi (BitVec.ofNat 32 i.val) 0#32) (BitVec.ofNat 32 j.val)) : Ideal .f32) = eye i j := by
  have : IntOp.addi (BitVec.ofNat 32 i.val) 0#32 = BitVec.ofNat 32 i.val := by simp [IntOp.addi]
  rw [this, cmpi_eq_iff (lt_word le256 i) (lt_word le256 j), eye]
  split
  · change (((1#1 : BitVec 1).toNat : ℝ) : EReal) = 1; simp
  · change (((0#1 : BitVec 1).toNat : ℝ) : EReal) = 0; simp

/-- A column's sum with only its diagonal entry kept is that entry. -/
theorem sum_diag (v : Fin 256 → EReal) (j : Fin 256) :
    ∑ i : Fin 256, Scalar.select (IntOp.cmpi .eq (BitVec.ofNat 32 i.val) (BitVec.ofNat 32 j.val)) (v i) 0 = v j := by
  simp only [select_eq (lt_word le256 _) (lt_word le256 _), Fin.val_inj, Finset.sum_ite_eq', Finset.sum_ite_eq, Finset.mem_univ, if_true]

/-! ## The arrays as functions of their coordinates -/

/-- Image `b` of an array of images: its features as matrices. -/
abbrev imageOf (x : (⟨4, ![8, 64, 256, 256]⟩ : Shape).Idx → EReal) (b : Fin 8) : Fin 64 → Fin 256 → Fin 256 → EReal :=
  fun f i j => x (ix4 b f i j)
/-- Image `b`'s mask. -/
abbrev maskOf (w : (⟨2, ![8, 256]⟩ : Shape).Idx → EReal) (b : Fin 8) : Fin 256 → EReal := fun k => w (ix2 b k)

/-- The small constant added to the variance. -/
def eps : EReal := Ideal.ofBits .f32 0x3089705F#32

/-- Image `b`'s variance with the small constant added: what the square root is taken of. -/
def spread (x : (⟨4, ![8, 64, 256, 256]⟩ : Shape).Idx → EReal) (w : (⟨2, ![8, 256]⟩ : Shape).Idx → EReal) (b : Fin 8) : EReal :=
  var (imageOf x b) (maskOf w b) + eps

/-- Feature `f`'s scale. -/
def scaleAt (g e d : (⟨4, ![1, 64, 1, 1]⟩ : Shape).Idx → EReal) (f : Fin 64) : EReal :=
  g (ix4 0 f 0 0) * Ideal.exp (e (ix4 0 f 0 0)) + d (ix4 0 f 0 0)

/-- Element `(b, f, i, j)` of the normalised array: both programs' result. -/
def spec (x : (⟨4, ![8, 64, 256, 256]⟩ : Shape).Idx → EReal) (w : (⟨2, ![8, 256]⟩ : Shape).Idx → EReal)
    (g e d : (⟨4, ![1, 64, 1, 1]⟩ : Shape).Idx → EReal) (a : (⟨3, ![1, 64, 1]⟩ : Shape).Idx → EReal)
    (b : Fin 8) (f : Fin 64) (i j : Fin 256) : EReal :=
  elem (mean (imageOf x b) (maskOf w b)) (spread x w b) (eye i j) (x (ix4 b f i j)) (w (ix2 b i) * w (ix2 b j))
    (scaleAt g e d f) (a (ix3 0 f 0))

end Cert.Algebra
-- ==== Proof.Value.Kernel.lean ====
/-
  What the kernel computes of one image, one element at a time: the running sums are the image's traces, the mean and
  the variance those of the reference, and the element stored is the reference's where the variance is positive.
-/
module

public import proofs.«01_k».proof.Proof.Logic.Phases
public import proofs.«01_k».proof.Proof.Value.Words
public import Idealize.ShloMosaic.Lib.Pointwise

@[expose] public section

set_option maxRecDepth 8192

noncomputable section

namespace Cert.KernelIdeal.Hand

open Cert.KernelIdeal Cert.KernelIdeal.Gen Idealize.ShloMosaic
open Cert.Algebra

/-! ## Sums -/

/-- A sum over 256 is the sums over its two halves. -/
theorem sum_halves (g : Fin 256 → EReal) :
    ∑ k, g k = ∑ k : Fin 128, g ⟨k.val, by omega⟩ + ∑ k : Fin 128, g ⟨128 + k.val, by omega⟩ :=
  Fin.sum_univ_add (a := 128) (b := 128) g

/-- A row of 256 that is zero beyond 64 sums to its first 64. -/
theorem sum_lanes (g : Fin 64 → EReal) : ∑ k : Fin 256, (if h : k.val < 64 then g ⟨k.val, h⟩ else 0) = ∑ f, g f := by
  refine (Fin.sum_univ_add (a := 64) (b := 192) _).trans ?_
  have h1 : ∀ k : Fin 64, (if h : (Fin.castAdd 192 k).val < 64 then g ⟨(Fin.castAdd 192 k).val, h⟩ else 0) = g k := fun k => dif_pos k.isLt
  have h2 : ∀ k : Fin 192, (if h : (Fin.natAdd 64 k).val < 64 then g ⟨(Fin.natAdd 64 k).val, h⟩ else 0) = 0 := fun k => dif_neg (by simp)
  rw [Finset.sum_congr rfl fun k _ => h1 k, Finset.sum_congr rfl fun k _ => h2 k, Finset.sum_const_zero, add_zero]

/-- Summing a block's diagonal. -/
theorem sum_block (o : ℕ) (ho : o ≤ 128) (u : Fin 128 → Fin 128 → EReal) :
    ∑ i : Fin 128, ∑ j : Fin 128, Scalar.select (IntOp.cmpi .eq (BitVec.ofNat 32 (o + i.val)) (BitVec.ofNat 32 (o + j.val))) (u i j) 0
      = ∑ k, u k k := by
  refine Finset.sum_congr rfl fun i _ => ?_
  rw [Finset.sum_congr rfl (g := fun j => if i = j then u i j else 0) fun j _ => ?_, Finset.sum_ite_eq]
  · simp
  · rw [select_eq (by have := i.isLt; omega) (by have := j.isLt; omega)]
    simp only [Nat.add_left_cancel_iff, Fin.val_inj]
theorem sum_block0 (u : Fin 128 → Fin 128 → EReal) :
    ∑ i : Fin 128, ∑ j : Fin 128, Scalar.select (IntOp.cmpi .eq (BitVec.ofNat 32 i.val) (BitVec.ofNat 32 j.val)) (u i j) 0 = ∑ k, u k k := by
  simpa only [Nat.zero_add] using sum_block 0 (by decide) u

/-! ## One feature's sums -/

section Feature

variable (v : Vec Ideal S1x1x256 .f32) (x : S8x64x256x256.Idx → Elt Ideal .f32) (b : Fin 8)

/-- The mask row as a function of its lane. -/
abbrev rowOf : Fin 256 → EReal := fun k => v (ix3 0 0 k)

/-- Both ways to write an index of the image array. -/
theorem ix8_eq (f : Fin 64) (i j : Fin 256) : ix8 b f i j = ix4 b f i j := by
  funext a; fin_cases a <;> rfl

theorem featOf_apply (f : Fin 64) (i j : Fin 256) : featOf x b f (ix4 0 0 i j) = x (ix4 b f i j) := by
  rw [← ix8_eq]; rfl

/-- The kernel's masked trace of feature `f`. -/
theorem trOf_eq (f : Fin 64) : trOf v (featOf x b f) = tr (imageOf x b) (rowOf v) f := by
  pointwise [trOf, trPart, mat, e2, eyeB, mSq, mRow]
  rw [sum_block0, sum_block 128 (le_refl _)]
  simp only [featOf_apply]
  exact (sum_halves fun k => x (ix4 b f k k) * (v (ix3 0 0 k) * v (ix3 0 0 k))).symm

/-- The kernel's masked trace of feature `f`'s square. -/
theorem sqOf_eq (f : Fin 64) : sqOf v (featOf x b f) = trSqK (imageOf x b) (rowOf v) f := by
  pointwise [sqOf, mat, mSq, mRow]
  simp only [featOf_apply]
  rfl

/-- The mask's count. -/
theorem cnt_eq : cnt v = Cert.Algebra.count (rowOf v) := by
  pointwise [cnt, sumRow, mSq, mRow]
  simp
  rfl

/-! ## The running sums -/

/-- After `n` features lane `f < n` holds feature `f`'s trace and every other lane zero. -/
theorem stRun_fst (n : ℕ) (hn : n ≤ 64) (k : Fin 256) :
    (stRun v x b n).1 (ix2 0 k)
      = if h : k.val < 64 then (if k.val < n then tr (imageOf x b) (rowOf v) ⟨k.val, h⟩ else 0) else 0 := by
  induction n with
  | zero => simp only [stRun, st0]; pointwise []; simp
  | succ n ih =>
    have ih := ih (by omega)
    have hf : (⟨n % 64, Nat.mod_lt _ (by decide)⟩ : Fin 64) = ⟨n, by omega⟩ := Fin.ext (Nat.mod_eq_of_lt (by omega))
    simp only [stRun, stStep, hf]
    pointwise [trStep]
    rw [ih, trOf_eq, select_eq (lt_word le256 _) (by omega)]
    by_cases h : k.val < 64
    · simp only [dif_pos h]
      rcases Nat.lt_trichotomy k.val n with h1 | h1 | h1
      · rw [if_pos h1, if_neg (by omega), if_pos (by omega), add_zero]
      · rw [if_neg (by omega), if_pos h1, if_pos (by omega), zero_add]
        simp only [h1]
      · rw [if_neg (by omega), if_neg (by omega), if_neg (by omega), add_zero]
    · simp only [dif_neg h]
      rw [if_neg (by omega), add_zero]

/-- After `n` features the second sum is that of the first `n` traces of squares. -/
theorem stRun_snd (n : ℕ) (hn : n ≤ 64) :
    (stRun v x b n).2 = ∑ f : Fin n, trSqK (imageOf x b) (rowOf v) ⟨f.val, by omega⟩ := by
  induction n with
  | zero => simp only [stRun, st0]; pointwise []; simp
  | succ n ih =>
    have ih := ih (by omega)
    have hf : (⟨n % 64, Nat.mod_lt _ (by decide)⟩ : Fin 64) = ⟨n, by omega⟩ := Fin.ext (Nat.mod_eq_of_lt (by omega))
    simp only [stRun, stStep, hf]
    rw [ih, sqOf_eq, Fin.sum_univ_castSucc]
    rfl

/-- The traces summed. -/
theorem sum_fst : sumRow (stRun v x b 64).1 = ∑ f, tr (imageOf x b) (rowOf v) f := by
  pointwise [sumRow]
  simp only [Finset.univ_unique, Finset.sum_singleton]
  rw [← sum_lanes]
  refine Finset.sum_congr rfl fun k _ => ?_
  rw [stRun_fst v x b 64 (le_refl _)]
  split <;> simp_all

/-- Their squares summed. -/
theorem sum_fst_sq : sumRow (mulf (stRun v x b 64).1 (stRun v x b 64).1)
    = ∑ f, tr (imageOf x b) (rowOf v) f * tr (imageOf x b) (rowOf v) f := by
  pointwise [sumRow]
  simp only [Finset.univ_unique, Finset.sum_singleton]
  rw [← sum_lanes]
  refine Finset.sum_congr rfl fun k _ => ?_
  rw [stRun_fst v x b 64 (le_refl _)]
  split <;> simp_all

/-- The kernel's mean is the reference's. -/
theorem meanB_eq : meanB v (stRun v x b 64) = mean (imageOf x b) (rowOf v) := by
  rw [← meanK_eq]
  pointwise [meanB]
  rw [sum_fst, cnt_eq, word64]
  rfl

/-- The kernel's variance is the reference's. -/
theorem varB_eq : varB v (stRun v x b 64) = var (imageOf x b) (rowOf v) := by
  rw [← varK_eq]
  pointwise [varB]
  rw [sum_fst_sq, cnt_eq, word64, stRun_snd v x b 64 (le_refl _)]
  rfl

/-- The kernel's reciprocal of the deviation. -/
theorem invB_eq : invB v (stRun v x b 64) = Ideal.rsqrt (var (imageOf x b) (rowOf v) + eps) := by
  pointwise [invB]
  rw [varB_eq]
  rfl

/-! ## The element stored -/

/-- Entry `f` of a row of 64 by a masked sum. -/
theorem pick_eq (f : Fin 64) (r : FVec Ideal S1x64 .f32) : pick f.val r = r (ix2 0 f) := by
  pointwise [pick, sumRow64]
  simp only [Finset.univ_unique, Finset.sum_singleton, select_eq (lt_word le64 _) (lt_word le64 _), Fin.val_inj,
    Finset.sum_ite_eq', Finset.mem_univ, if_true]

theorem eyeF_apply (i j : Fin 256) : (eyeF : FVec Ideal S256x256 .f32) (ix2 i j) = eye i j := by
  pointwise [eyeF, eyeB]
  rw [select_eq (lt_word le256 _) (lt_word le256 _)]
  rfl

theorem me1_apply (i j : Fin 256) : me1 v (stRun v x b 64) (ix2 i j) = mean (imageOf x b) (rowOf v) * eye i j := by
  rw [← eyeF_apply, ← meanB_eq]
  rfl

theorem m2i_apply (i j : Fin 256) : m2i v (stRun v x b 64) (ix2 i j)
    = rowOf v i * rowOf v j * Ideal.rsqrt (var (imageOf x b) (rowOf v) + eps) := by
  rw [← invB_eq]
  pointwise [m2i, mRow]

/-- A block's element is the image's. -/
theorem blkOf_apply (f : Fin 64) (r q : ℕ) (hr : r ≤ 128) (hq : q ≤ 128) (i j : Fin 128) :
    blkOf x b f r q hr hq (ix4 0 0 i j) = x (ix4 b f ⟨r + i.val, by omega⟩ ⟨q + j.val, by omega⟩) := by
  rw [← ix8_eq]; rfl

theorem ixQ_eq (i j : Fin 128) : ixQ i j = ix4 0 0 i j := by
  funext a; fin_cases a <;> rfl

/-- What is stored on a diagonal block is the reference's element. -/
theorem payD_eq (hy : 0 < var (imageOf x b) (rowOf v) + eps) (sv bv : EReal) (f : Fin 64) (r q : ℕ) (hr : r ≤ 128) (hq : q ≤ 128)
    (h : S256x256.Slices ![r, q] S128x128) (i j : Fin 128) :
    payD v (stRun v x b 64) sv bv r q h (blkOf x b f r q hr hq) (ixQ i j)
      = elem (mean (imageOf x b) (rowOf v)) (var (imageOf x b) (rowOf v) + eps) (eye ⟨r + i.val, by omega⟩ ⟨q + j.val, by omega⟩)
          (x (ix4 b f ⟨r + i.val, by omega⟩ ⟨q + j.val, by omega⟩)) (rowOf v ⟨r + i.val, by omega⟩ * rowOf v ⟨q + j.val, by omega⟩) sv bv := by
  rw [ixQ_eq]
  pointwise [payD, matQ]
  rw [me1_apply, m2i_apply, eyeF_apply, blkOf_apply]
  exact elem_on hy _ _ _ _ _ _

/-- What is stored on a block off the diagonal is the reference's element. -/
theorem payO_eq (hy : 0 < var (imageOf x b) (rowOf v) + eps) (sv bv : EReal) (f : Fin 64) (r q : ℕ) (hr : r ≤ 128) (hq : q ≤ 128)
    (h : S256x256.Slices ![r, q] S128x128) (i j : Fin 128) (hne : r + i.val ≠ q + j.val) :
    payO v (stRun v x b 64) sv r q h (blkOf x b f r q hr hq) (ixQ i j)
      = elem (mean (imageOf x b) (rowOf v)) (var (imageOf x b) (rowOf v) + eps) (eye ⟨r + i.val, by omega⟩ ⟨q + j.val, by omega⟩)
          (x (ix4 b f ⟨r + i.val, by omega⟩ ⟨q + j.val, by omega⟩)) (rowOf v ⟨r + i.val, by omega⟩ * rowOf v ⟨q + j.val, by omega⟩) sv bv := by
  rw [ixQ_eq, show eye ⟨r + i.val, by omega⟩ ⟨q + j.val, by omega⟩ = 0 from if_neg hne]
  pointwise [payO, matQ]
  rw [m2i_apply, blkOf_apply]
  exact elem_off hy _ _ _ _ _

/-- Every element the kernel stores of image `b` is the reference's. -/
theorem outAt_eq (hy : 0 < var (imageOf x b) (rowOf v) + eps) (sc bl : FVec Ideal S1x64 .f32) (f : Fin 64) (i j : Fin 256) :
    outAt v (stRun v x b 64) sc bl x b f i j
      = elem (mean (imageOf x b) (rowOf v)) (var (imageOf x b) (rowOf v) + eps) (eye i j) (x (ix4 b f i j))
          (rowOf v i * rowOf v j) (sc (ix2 0 f)) (bl (ix2 0 f)) := by
  have hlo (k : Fin 256) (hk : k.val < 128) : (⟨0 + (⟨k.val, hk⟩ : Fin 128).val, by simp⟩ : Fin 256) = k := Fin.ext (Nat.zero_add _)
  have hhi (k : Fin 256) (hk : ¬ k.val < 128) :
      (⟨128 + (⟨k.val - 128, by omega⟩ : Fin 128).val, by simp only; omega⟩ : Fin 256) = k := Fin.ext (by simp only; omega)
  unfold outAt
  rw [pick_eq, pick_eq]
  split
  · rename_i hi
    split
    · rename_i hj
      rw [payD_eq v x b hy, hlo i hi, hlo j hj]
    · rename_i hj
      rw [payO_eq v x b hy (bv := bl (ix2 0 f)), hlo i hi, hhi j hj]
      simp only; omega
  · rename_i hi
    split
    · rename_i hj
      rw [payO_eq v x b hy (bv := bl (ix2 0 f)), hhi i hi, hlo j hj]
      simp only; omega
    · rename_i hj
      rw [payD_eq v x b hy, hhi i hi, hhi j hj]

end Feature

end Cert.KernelIdeal.Hand

end
-- ==== Proof.Value.Launch.lean ====
/-
  What the kernel's run leaves, read off the arrays given: the region finds the mask and the features' rows reshaped, and
  each element of the result is that of the normalised array where the variance is positive.
-/
module

public import proofs.«01_k».proof.Proof.Logic.Launch
public import proofs.«01_k».proof.Proof.Value.Kernel

@[expose] public section

set_option maxRecDepth 8192

noncomputable section

namespace Cert.KernelIdeal.Hand

open Cert.KernelIdeal Cert.KernelIdeal.Gen Idealize.ShloMosaic Idealize.ShloMosaic.TcCoe
open Cert.Algebra

variable (m : (ℓ : Loc nD τ sig) → Buf (Elt Ideal) ℓ) (c : Dev nD)

/-! ## The blocks the windows bring -/

/-- The mask's block at image `b`'s point is row `b`. -/
theorem index0 : ∀ b : Fin 8, (cfg0.win 0).index (ptOf b) = (![b.val, 0, 0] : Fin 3 → ℕ) := by decide +kernel

theorem iblk0 (b : Fin 8) (k : Fin 256) : iblk m c 0 (ptOf b) (ix3 0 0 k) = V m c main_v0 (ix3 b 0 k) := by
  show V m c main_v0 (((cfg0.win 0).rect (ptOf b)).emb (ix3 0 0 k)) = _
  congr 1
  funext a
  apply Fin.ext
  refine (Pipeline.Window.rect_emb_val (cfg0.win 0) (ptOf b) (ix3 0 0 k) a rfl).trans ?_
  rw [index0]
  fin_cases a
  · show b.val * 1 + 0 = b.val; omega
  · rfl
  · show 0 * 256 + k.val = k.val; omega

theorem iblk1 (b : Fin 8) (k : Fin 64) : iblk m c 1 (ptOf b) (ix2 0 k) = V m c main_v1 (ix2 0 k) := by
  show V m c main_v1 (((cfg0.win 1).rect (ptOf b)).emb (ix2 0 k)) = _
  congr 1
  funext a
  exact Fin.ext (Pipeline.Window.rect_emb_val_of_index_zero (cfg0.win 1) (ptOf b) a (by fin_cases a <;> rfl) (ix2 0 k))

theorem iblk2 (b : Fin 8) (k : Fin 64) : iblk m c 2 (ptOf b) (ix2 0 k) = V m c main_v2 (ix2 0 k) := by
  show V m c main_v2 (((cfg0.win 2).rect (ptOf b)).emb (ix2 0 k)) = _
  congr 1
  funext a
  exact Fin.ext (Pipeline.Window.rect_emb_val_of_index_zero (cfg0.win 2) (ptOf b) a (by fin_cases a <;> rfl) (ix2 0 k))

theorem iblk3 (b : Fin 8) (k : Fin 64) : iblk m c 3 (ptOf b) (ix2 0 k) = V m c main_v3 (ix2 0 k) := by
  show V m c main_v3 (((cfg0.win 3).rect (ptOf b)).emb (ix2 0 k)) = _
  congr 1
  funext a
  exact Fin.ext (Pipeline.Window.rect_emb_val_of_index_zero (cfg0.win 3) (ptOf b) a (by fin_cases a <;> rfl) (ix2 0 k))

theorem iblk4 (b : Fin 8) (k : Fin 64) : iblk m c 4 (ptOf b) (ix2 0 k) = V m c main_v4 (ix2 0 k) := by
  show V m c main_v4 (((cfg0.win 4).rect (ptOf b)).emb (ix2 0 k)) = _
  congr 1
  funext a
  exact Fin.ext (Pipeline.Window.rect_emb_val_of_index_zero (cfg0.win 4) (ptOf b) a (by fin_cases a <;> rfl) (ix2 0 k))

/-! ## The arrays the region finds -/

/-- The mask. -/
theorem V_main_v0 (b : Fin 8) (k : Fin 256) : V m c main_v0 (ix3 b 0 k) = m (c.tc.loc main_arg1) (ix2 b k) := by
  have h : V m c main_v0 = (shapeCast S8x1x256 (m (c.tc.loc main_arg1) : FVec Ideal S8x256 .f32) shapeCasts_S8x256_S8x1x256 : FVec Ideal S8x1x256 .f32) := by
    unfold V; simp only [hostOps0]; rfl
  rw [h]
  pointwise []

/-- A row of the features' parameters. -/
theorem V_main_v1 (f : Fin 64) : V m c main_v1 (ix2 0 f) = m (c.tc.loc main_arg2) (ix4 0 f 0 0) := by
  have h : V m c main_v1 = (shapeCast S1x64 (m (c.tc.loc main_arg2) : FVec Ideal S1x64x1x1 .f32) shapeCasts_S1x64x1x1_S1x64 : FVec Ideal S1x64 .f32) := by
    unfold V; simp only [hostOps0]; rfl
  rw [h]
  pointwise []

/-- A row of the features' parameters. -/
theorem V_main_v2 (f : Fin 64) : V m c main_v2 (ix2 0 f) = m (c.tc.loc main_arg3) (ix4 0 f 0 0) := by
  have h : V m c main_v2 = (shapeCast S1x64 (m (c.tc.loc main_arg3) : FVec Ideal S1x64x1x1 .f32) shapeCasts_S1x64x1x1_S1x64 : FVec Ideal S1x64 .f32) := by
    unfold V; simp only [hostOps0]; rfl
  rw [h]
  pointwise []

/-- A row of the features' parameters. -/
theorem V_main_v3 (f : Fin 64) : V m c main_v3 (ix2 0 f) = m (c.tc.loc main_arg4) (ix4 0 f 0 0) := by
  have h : V m c main_v3 = (shapeCast S1x64 (m (c.tc.loc main_arg4) : FVec Ideal S1x64x1x1 .f32) shapeCasts_S1x64x1x1_S1x64 : FVec Ideal S1x64 .f32) := by
    unfold V; simp only [hostOps0]; rfl
  rw [h]
  pointwise []

/-- The features' biases. -/
theorem V_main_v4 (f : Fin 64) : V m c main_v4 (ix2 0 f) = m (c.tc.loc main_arg5) (ix3 0 f 0) := by
  have h : V m c main_v4 = (shapeCast S1x64 (m (c.tc.loc main_arg5) : FVec Ideal S1x64x1 .f32) shapeCasts_S1x64x1_S1x64 : FVec Ideal S1x64 .f32) := by
    unfold V; simp only [hostOps0]; rfl
  rw [h]
  pointwise []

/-- The mask row of image `b`, as the kernel loads it. -/
theorem rowOf_iblk (b : Fin 8) : rowOf (iblk m c 0 (ptOf b)) = maskOf (m (c.tc.loc main_arg1)) b := by
  funext k
  exact (iblk0 m c b k).trans (V_main_v0 m c b k)

/-- The scale of feature `f`, as the kernel computes it. -/
theorem scaleV_apply (w we wb : Vec Ideal S1x64 .f32) (f : Fin 64) :
    scaleV w we wb (ix2 0 f) = w (ix2 0 f) * Ideal.exp (we (ix2 0 f)) + wb (ix2 0 f) := by
  pointwise [scaleV]

/-- Element `(b, f, i, j)` of the kernel's result is that of the normalised array. -/
theorem result_apply (b : Fin 8) (f : Fin 64) (i j : Fin 256)
    (hy : 0 < spread (m (c.tc.loc main_arg0)) (m (c.tc.loc main_arg1)) b) :
    result m c (ix4 b f i j)
      = spec (m (c.tc.loc main_arg0)) (m (c.tc.loc main_arg1)) (m (c.tc.loc main_arg2)) (m (c.tc.loc main_arg3))
          (m (c.tc.loc main_arg4)) (m (c.tc.loc main_arg5)) b f i j := by
  show outAt (iblk m c 0 (ptOf b)) (stRun (iblk m c 0 (ptOf b)) (V m c main_arg0) b 64)
    (scaleV (iblk m c 1 (ptOf b)) (iblk m c 2 (ptOf b)) (iblk m c 3 (ptOf b)))
    (shapeCast S1x64 (iblk m c 4 (ptOf b)) shapeCasts_S1x64_S1x64) (V m c main_arg0) b f i j = _
  rw [V_main_arg0]
  refine (outAt_eq _ _ b (by rw [rowOf_iblk]; exact hy) _ _ f i j).trans ?_
  rw [rowOf_iblk, scaleV_apply, iblk1, iblk2, iblk3, V_main_v1, V_main_v2, V_main_v3,
    show shapeCast S1x64 (iblk m c 4 (ptOf b)) shapeCasts_S1x64_S1x64 (ix2 0 f) = m (c.tc.loc main_arg5) (ix3 0 f 0) from
      (congrFun (shapeCast_id (s := S1x64) (iblk m c 4 (ptOf b)) shapeCasts_S1x64_S1x64) (ix2 0 f)).trans ((iblk4 m c b f).trans (V_main_v4 m c f))]
  rfl

end Cert.KernelIdeal.Hand

end
-- ==== Proof.Value.Reference.lean ====
/-
  What the reference computes, one element at a time: `elem` of the image's mean and variance.
-/
module

public import proofs.«01_k».proof.Proof.Gen.ReferenceIdeal.Run
public import proofs.«01_k».proof.Proof.Value.Words

@[expose] public section

set_option maxRecDepth 8192

noncomputable section

namespace Cert.ReferenceIdeal.Hand

open Cert.ReferenceIdeal Cert.ReferenceIdeal.Gen Idealize.ShloMosaic Idealize.ShloMosaic.TcCoe
open Cert.Algebra

/-- Element `(b, f, i, j)` of the reference's result is that of the normalised array. -/
theorem res_apply (m : (ℓ : Loc nD τ sig) → Buf (Elt Ideal) ℓ) (c : Dev nD) (b : Fin 8) (f : Fin 64) (i j : Fin 256) :
    Value.res_main_v74 m c (ix4 b f i j)
      = spec (m (c.tc.loc main_arg0)) (m (c.tc.loc main_arg1)) (m (c.tc.loc main_arg2)) (m (c.tc.loc main_arg3))
          (m (c.tc.loc main_arg4)) (m (c.tc.loc main_arg5)) b f i j := by
  pointwise [Value.res_main_v74, id]
  simp only [sum_diag, uitofp_eq, word64, word1]
  simp only [spec, spread, scaleAt, elem, mean, var, tr, trSq, count1, Cert.Algebra.count, eps, imageOf, maskOf, max_comm]

end Cert.ReferenceIdeal.Hand

end
-- ==== Proof.Value.Pre.lean ====
/-
  What the precondition says of an image: its variance with the small constant added is positive.
-/
module

public import proofs.«01_k».proof.Pre_positive_variance
public import proofs.«01_k».proof.Proof.Value.Words
public import Idealize.ShloMosaic.Lib.Pointwise

@[expose] public section

set_option maxRecDepth 8192

noncomputable section

namespace Cert.Pre_positive_variance.Hand

open Cert.Pre_positive_variance Idealize.ShloMosaic
open Cert.Algebra

/-- The shapes the precondition's operations ask for are there. -/
theorem facts : Facts where
  reducesTo_S8x256_S8_d1 := by decide
  h_S_ := by decide
  bcast_S8_S8x1_0 := by decide
  bcast_S_S8x1 := by decide
  bcast_S256x256_S8x64x256x256_2_3 := by decide
  bcast_S_S8x64x256x256 := by decide
  reducesTo_S8x64x256x256_S8x64x256_d2 := by decide
  bcast_S8x256_S8x1x256_0_2 := by decide
  bcast_S8x1x256_S8x64x256_0_1_2 := by decide
  reducesTo_S8x64x256_S8x64_d2 := by decide
  transposes_S8x64x256x256_S8x64x256x256_0_1_3_2 := by decide
  reducesTo_S8x64x256x256_S8x64x256_d3 := by decide
  bcast_S8x1_S8x64_0_1 := by decide
  reducesTo_S8x64_S8_d1 := by decide
  bcast_S_S8 := by decide

/-- The precondition's word for image `b`. -/
theorem fn_apply [Facts] (x : FVec Ideal S8x64x256x256 .f32) (w : FVec Ideal S8x256 .f32) (g e d : FVec Ideal S1x64x1x1 .f32)
    (a : FVec Ideal S1x64x1 .f32) (b : Fin 8) :
    fn x w g e d a (ix1 b) = Ideal.cmp .ogt (spread x w b) 0 := by
  pointwise [fn, fn_part1, fn_part2, fn_clip, id]
  simp only [sum_diag, word64, word1]
  simp only [spread, mean, var, tr, trSq, count1, Cert.Algebra.count, eps, imageOf, maskOf, max_comm]

/-- Under the precondition what the square root is taken of is positive. -/
theorem spread_pos [Facts] (x : FVec Ideal S8x64x256x256 .f32) (w : FVec Ideal S8x256 .f32) (g e d : FVec Ideal S1x64x1x1 .f32)
    (a : FVec Ideal S1x64x1 .f32) (h : fn x w g e d a = fun _ => 1#1) (b : Fin 8) : 0 < spread x w b := by
  have h' := congrFun h (ix1 b)
  rw [fn_apply] at h'
  by_contra hn
  simp [Ideal.cmp, hn] at h'

end Cert.Pre_positive_variance.Hand

end
-- ==== Proof.lean ====
/-
  The certificate's claims put together: each program runs and leaves its arguments and the counters as it found them,
  and the kernel's result over the extended reals is the reference's wherever each image's variance is positive.
-/
module

public import proofs.«01_k».proof.Defs
public import proofs.«01_k».proof.Proof.Gen.ReferenceIdeal.Run
public import proofs.«01_k».proof.Proof.Same
public import proofs.«01_k».proof.Proof.Value.Launch
public import proofs.«01_k».proof.Proof.Value.Reference
public import proofs.«01_k».proof.Proof.Value.Pre

@[expose] public section

noncomputable section

namespace Cert.Proof

open Idealize.ShloMosaic Idealize.ShloMosaic.TcCoe Idealize.SL.Sem
open Cert.Algebra

instance : Cert.Pre_positive_variance.Facts := Cert.Pre_positive_variance.Hand.facts

/-- The kernel as printed runs, its arguments and counters left as found. -/
theorem frame_kernel : Cert.quiescent_Kernel := fun m g _ =>
  (θ_run _ _ _).mono (fun _ h => ⟨fun c => (h.1 c).2, h.2⟩) (Cert.Kernel.Hand.run_main (F := Bits) m g)

/-- So does the kernel over the extended reals. -/
theorem frame_ideal : Cert.quiescent_KernelIdeal := fun m g _ =>
  (θ_run _ _ _).mono (fun _ h => ⟨fun c => (h.1 c).2, h.2⟩) (Cert.KernelIdeal.Hand.run_main (F := Ideal) m g)

/-- And the reference, which has no counters. -/
theorem frame_reference : Cert.quiescent_ReferenceIdeal := fun m g _ =>
  (θ_run _ _ _).mono (fun r h => ⟨fun c => (h c).2, sem_eq_zero_of_no_sems rfl r.2⟩) (Cert.ReferenceIdeal.Value.run (F := Ideal) m g)

/-- From the same arguments, each image's variance positive, the kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_positive_variance m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v74 m' c = Cert.KernelIdeal.Hand.result m c := by
  refine funext fun (i : Cert.KernelIdeal.S8x64x256x256.Idx) => ?_
  obtain ⟨b, f, u, z, rfl⟩ : ∃ b f u z, i = ix4 (n0 := 8) (n1 := 64) (n2 := 256) (n3 := 256) b f u z :=
    ⟨i 0, i 1, i 2, i 3, by funext a; fin_cases a <;> rfl⟩
  refine (Cert.ReferenceIdeal.Hand.res_apply m' c b f u z).trans ?_
  rw [h0, h1, h2, h3, h4, h5]
  exact (Cert.KernelIdeal.Hand.result_apply m c b f u z
    (Cert.Pre_positive_variance.Hand.spread_pos _ _ _ _ _ _ (hp c) b)).symm

/-- Both programs run and end at the same result. -/
theorem algebraic : Cert.algebraic_KernelIdeal_ReferenceIdeal_pre_positive_variance := fun m g m' g' hp hm =>
  ⟨Cert.KernelIdeal.Hand.result m,
    (θ_run _ _ _).mono (fun _ h => h.1) (Cert.KernelIdeal.Hand.run_main (F := Ideal) m g),
    (θ_run _ _ _).mono (fun _ h c => ⟨(h c).1.trans (result_eq m m' c hp (hm c).1 (hm c).2.1 (hm c).2.2.1 (hm c).2.2.2.1 (hm c).2.2.2.2.1 (hm c).2.2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_positive_variance.Hand.facts,
    frame_kernel, frame_ideal, fun m g _ => frame_ideal m g trivial, frame_reference, fun m g _ => frame_reference m g trivial,
    trivial, algebraic⟩

end Cert.Proof

end
